-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_proper [hPre_proper : Cert.Pre_proper.Facts] (m : (ℓ : Loc Cert.KernelIdeal.nD Cert.KernelIdeal.τ Cert.KernelIdeal.sig) → Buf (Elt Ideal) ℓ) : Prop :=
  ∀ c : Dev Cert.KernelIdeal.nD,
    (Cert.Pre_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper [hPre_proper : Cert.Pre_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_proper [hKernelIdeal : Cert.KernelIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_proper [hReferenceIdeal : Cert.ReferenceIdeal.Facts] [hPre_proper : Cert.Pre_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.bf16_pair.BufferStatement Cert.KernelIdeal.S40000x2x2x128 Cert.KernelIdeal.S40000x2x1x128
  ∧ IdealRules.bf16_pair.BufferStatement Cert.KernelIdeal.S1000x2x2x128 Cert.KernelIdeal.S1000x2x1x128
  ∧ IdealRules.bf16_pair.PackStatement Cert.KernelIdeal.S1000x128
  ∧ IdealRules.bf16_pair.Statement Cert.KernelIdeal.S1000x2x2x128 Cert.KernelIdeal.S1000x2x1x128
  ∧ IdealRules.bf16_pair.BufferStatement Cert.KernelIdeal.S1600x2x2x128 Cert.KernelIdeal.S1600x2x1x128
  ∧ IdealRules.named_const.Statement Cert.KernelIdeal.κ "mask" .f32 0xF149F2CA#32 ⊥
  ∧ IdealRules.bf16_pair.Statement Cert.KernelIdeal.S1x2x2x128 Cert.KernelIdeal.S1x2x1x128
  ∧ IdealRules.bf16_pair.Statement Cert.KernelIdeal.S200x2x2x128 Cert.KernelIdeal.S200x2x1x128
  ∧ IdealRules.bf16_pair.Statement Cert.KernelIdeal.S200x4x128 Cert.KernelIdeal.S200x2x128

def algebraic_KernelIdeal_ReferenceIdeal_pre_proper [hKernelIdeal : Cert.KernelIdeal.Facts] [hReferenceIdeal : Cert.ReferenceIdeal.Facts] [hPre_proper : Cert.Pre_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts) (hPre_proper : Cert.Pre_proper.Facts),
    quiescent_Kernel (hKernel := hKernel) (hPre_in_range := hPre_in_range)
    ∧ quiescent_KernelIdeal (hKernelIdeal := hKernelIdeal) (hPre_in_range := hPre_in_range)
    ∧ quiescent_KernelIdeal_pre_proper (hKernelIdeal := hKernelIdeal) (hPre_proper := hPre_proper)
    ∧ quiescent_ReferenceIdeal (hReferenceIdeal := hReferenceIdeal)
    ∧ quiescent_ReferenceIdeal_pre_proper (hReferenceIdeal := hReferenceIdeal) (hPre_proper := hPre_proper)
    ∧ preserves_Kernel_KernelIdeal
    ∧ algebraic_KernelIdeal_ReferenceIdeal_pre_proper (hKernelIdeal := hKernelIdeal) (hReferenceIdeal := hReferenceIdeal) (hPre_proper := hPre_proper)
-- ==== Pre_in_range.lean ====
abbrev S40000x768 : Shape := ⟨2, ![40000, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S768x512 : Shape := ⟨2, ![768, 512]⟩
abbrev S512 : Shape := ⟨1, ![512]⟩
abbrev S10000x8 : Shape := ⟨2, ![10000, 8]⟩
abbrev S16x32x48 : Shape := ⟨3, ![16, 32, 48]⟩
abbrev S_ : Shape := ⟨0, ![]⟩

class Facts : Prop where
  bcast_S_S10000x8 : S_.BroadcastsInDim S10000x8 (![] : Fin 0 → Fin S10000x8.rank)
  bcast_S_S16x32x48 : S_.BroadcastsInDim S16x32x48 (![] : Fin 0 → Fin S16x32x48.rank)
  reducesTo_S10000x8_S_d0_1 : S10000x8.ReducesTo [0, 1] S_
  h_S_ : 0 < S_.numel
  reducesTo_S16x32x48_S_d0_1_2 : S16x32x48.ReducesTo [0, 1, 2] S_

variable [Facts]

def fn {F : FTy → Type} [FloatOps F] (main_arg0 : FVec F S40000x768 .f32) (main_arg1 : FVec F S1536x768 .f32) (main_arg2 : FVec F S768 .f32) (main_arg3 : FVec F S768x1 .f32) (main_arg4 : FVec F S1 .f32) (main_arg5 : FVec F S768x512 .f32) (main_arg6 : FVec F S512 .f32) (main_arg7 : FVec F S10000x8 .f32) (main_arg8 : FVec F S16x32x48 .f32) (main_arg9 : IVec S10000x8 32) (main_arg10 : IVec S10000x8 32) (main_arg11 : IVec S16x32x48 32) : IVec S_ 1 :=
  let main_c : IVec S_ 32 := constantI S_ 32 0#32
  let main_v0 : IVec S10000x8 32 := broadcastInDim S10000x8 ![] bcast_S_S10000x8 main_c
  let main_v1 : IVec S10000x8 1 := cmpi .sge main_arg10 main_v0
  let main_c_0 : IVec S_ 32 := constantI S_ 32 40000#32
  let main_v2 : IVec S10000x8 32 := broadcastInDim S10000x8 ![] bcast_S_S10000x8 main_c_0
  let main_v3 : IVec S10000x8 1 := cmpi .slt main_arg10 main_v2
  let main_v4 : IVec S10000x8 1 := andi main_v1 main_v3
  let main_c_1 : IVec S_ 32 := constantI S_ 32 0#32
  let main_v5 : IVec S16x32x48 32 := broadcastInDim S16x32x48 ![] bcast_S_S16x32x48 main_c_1
  let main_v6 : IVec S16x32x48 1 := cmpi .sge main_arg11 main_v5
  let main_c_2 : IVec S_ 32 := constantI S_ 32 10000#32
  let main_v7 : IVec S16x32x48 32 := broadcastInDim S16x32x48 ![] bcast_S_S16x32x48 main_c_2
  let main_v8 : IVec S16x32x48 1 := cmpi .sle main_arg11 main_v7
  let main_v9 : IVec S16x32x48 1 := andi main_v6 main_v8
  let main_c_3 : IVec S_ 1 := constantI S_ 1 1#1
  let main_v10 : IVec S_ 1 := (fun x v => Host.reduce IntOp.andi x v reducesTo_S10000x8_S_d0_1 h_S_) main_v4 main_c_3
  let main_c_4 : IVec S_ 1 := constantI S_ 1 1#1
  let main_v11 : IVec S_ 1 := (fun x v => Host.reduce IntOp.andi x v reducesTo_S16x32x48_S_d0_1_2 h_S_) main_v9 main_c_4
  let main_v12 : IVec S_ 1 := andi main_v10 main_v11
  main_v12
-- ==== Pre_proper.lean ====
abbrev S40000x768 : Shape := ⟨2, ![40000, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S768x512 : Shape := ⟨2, ![768, 512]⟩
abbrev S512 : Shape := ⟨1, ![512]⟩
abbrev S10000x8 : Shape := ⟨2, ![10000, 8]⟩
abbrev S16x32x48 : Shape := ⟨3, ![16, 32, 48]⟩
abbrev S_ : Shape := ⟨0, ![]⟩
abbrev S10000 : Shape := ⟨1, ![10000]⟩

class Facts : Prop where
  bcast_S_S10000x8 : S_.BroadcastsInDim S10000x8 (![] : Fin 0 → Fin S10000x8.rank)
  bcast_S_S16x32x48 : S_.BroadcastsInDim S16x32x48 (![] : Fin 0 → Fin S16x32x48.rank)
  reducesTo_S10000x8_S_d0_1 : S10000x8.ReducesTo [0, 1] S_
  h_S_ : 0 < S_.numel
  reducesTo_S16x32x48_S_d0_1_2 : S16x32x48.ReducesTo [0, 1, 2] S_
  bcast_S_S40000x768 : S_.BroadcastsInDim S40000x768 (![] : Fin 0 → Fin S40000x768.rank)
  reducesTo_S40000x768_S_d0_1 : S40000x768.ReducesTo [0, 1] S_
  bcast_S_S1536x768 : S_.BroadcastsInDim S1536x768 (![] : Fin 0 → Fin S1536x768.rank)
  reducesTo_S1536x768_S_d0_1 : S1536x768.ReducesTo [0, 1] S_
  bcast_S_S768 : S_.BroadcastsInDim S768 (![] : Fin 0 → Fin S768.rank)
  reducesTo_S768_S_d0 : S768.ReducesTo [0] S_
  bcast_S_S768x1 : S_.BroadcastsInDim S768x1 (![] : Fin 0 → Fin S768x1.rank)
  reducesTo_S768x1_S_d0_1 : S768x1.ReducesTo [0, 1] S_
  bcast_S_S1 : S_.BroadcastsInDim S1 (![] : Fin 0 → Fin S1.rank)
  reducesTo_S1_S_d0 : S1.ReducesTo [0] S_
  bcast_S_S768x512 : S_.BroadcastsInDim S768x512 (![] : Fin 0 → Fin S768x512.rank)
  reducesTo_S768x512_S_d0_1 : S768x512.ReducesTo [0, 1] S_
  reducesTo_S10000x8_S10000_d1 : S10000x8.ReducesTo [1] S10000
  bcast_S_S10000 : S_.BroadcastsInDim S10000 (![] : Fin 0 → Fin S10000.rank)
  reducesTo_S10000_S_d0 : S10000.ReducesTo [0] S_

variable [Facts]

def fn_part3 {F : FTy → Type} [FloatOps F] (main_v47 : IVec S_ 1) (main_v48 : FVec F S10000 .f32) (main_v49 : FVec F S10000 .f32) : IVec S_ 1 :=
  let main_v50 : IVec S10000 1 := cmpf .oeq main_v48 main_v49
  let main_c_20 : IVec S_ 1 := constantI S_ 1 1#1
  let main_v51 : IVec S_ 1 := (fun x v => Host.reduce IntOp.andi x v reducesTo_S10000_S_d0 h_S_) main_v50 main_c_20
  let main_v52 : IVec S_ 1 := andi main_v47 main_v51
  main_v52

def fn_part2 {F : FTy → Type} [FloatOps F] (main_arg5 : FVec F S768x512 .f32) (main_arg7 : FVec F S10000x8 .f32) (main_arg8 : FVec F S16x32x48 .f32) (main_v32 : IVec S_ 1) (main_v33 : FVec F S1 .f32) : IVec S_ 1 :=
  let main_cst_12 : FVec F S_ .f32 := constant S_ .f32 0x7F800000#32
  let main_v34 : FVec F S1 .f32 := broadcastInDim S1 ![] bcast_S_S1 main_cst_12
  let main_v35 : IVec S1 1 := cmpf .olt main_v33 main_v34
  let main_c_13 : IVec S_ 1 := constantI S_ 1 1#1
  let main_v36 : IVec S_ 1 := (fun x v => Host.reduce IntOp.andi x v reducesTo_S1_S_d0 h_S_) main_v35 main_c_13
  let main_v37 : IVec S_ 1 := andi main_v32 main_v36
  let main_v38 : FVec F S768x512 .f32 := Host.absf main_arg5
  let main_cst_14 : FVec F S_ .f32 := constant S_ .f32 0x7F800000#32
  let main_v39 : FVec F S768x512 .f32 := broadcastInDim S768x512 ![] bcast_S_S768x512 main_cst_14
  let main_v40 : IVec S768x512 1 := cmpf .olt main_v38 main_v39
  let main_c_15 : IVec S_ 1 := constantI S_ 1 1#1
  let main_v41 : IVec S_ 1 := (fun x v => Host.reduce IntOp.andi x v reducesTo_S768x512_S_d0_1 h_S_) main_v40 main_c_15
  let main_v42 : IVec S_ 1 := andi main_v37 main_v41
  let main_v43 : FVec F S16x32x48 .f32 := Host.absf main_arg8
  let main_cst_16 : FVec F S_ .f32 := constant S_ .f32 0x7F800000#32
  let main_v44 : FVec F S16x32x48 .f32 := broadcastInDim S16x32x48 ![] bcast_S_S16x32x48 main_cst_16
  let main_v45 : IVec S16x32x48 1 := cmpf .olt main_v43 main_v44
  let main_c_17 : IVec S_ 1 := constantI S_ 1 1#1
  let main_v46 : IVec S_ 1 := (fun x v => Host.reduce IntOp.andi x v reducesTo_S16x32x48_S_d0_1_2 h_S_) main_v45 main_c_17
  let main_v47 : IVec S_ 1 := andi main_v42 main_v46
  let main_cst_18 : FVec F S_ .f32 := constant S_ .f32 0xFF800000#32
  let main_v48 : FVec F S10000 .f32 := (fun x v => Host.reduce FloatOps.maximumf x v reducesTo_S10000x8_S10000_d1 h_S_) main_arg7 main_cst_18
  let main_cst_19 : FVec F S_ .f32 := constant S_ .f32 0x3F800000#32
  let main_v49 : FVec F S10000 .f32 := broadcastInDim S10000 ![] bcast_S_S10000 main_cst_19
  fn_part3 (F := F) main_v47 main_v48 main_v49

def fn_part1 {F : FTy → Type} [FloatOps F] (main_arg1 : FVec F S1536x768 .f32) (main_arg2 : FVec F S768 .f32) (main_arg3 : FVec F S768x1 .f32) (main_arg4 : FVec F S1 .f32) (main_arg5 : FVec F S768x512 .f32) (main_arg7 : FVec F S10000x8 .f32) (main_arg8 : FVec F S16x32x48 .f32) (main_v12 : IVec S_ 1) (main_v15 : IVec S40000x768 1) (main_c_5 : IVec S_ 1) : IVec S_ 1 :=
  let main_v16 : IVec S_ 1 := (fun x v => Host.reduce IntOp.andi x v reducesTo_S40000x768_S_d0_1 h_S_) main_v15 main_c_5
  let main_v17 : IVec S_ 1 := andi main_v12 main_v16
  let main_v18 : FVec F S1536x768 .f32 := Host.absf main_arg1
  let main_cst_6 : FVec F S_ .f32 := constant S_ .f32 0x7F800000#32
  let main_v19 : FVec F S1536x768 .f32 := broadcastInDim S1536x768 ![] bcast_S_S1536x768 main_cst_6
  let main_v20 : IVec S1536x768 1 := cmpf .olt main_v18 main_v19
  let main_c_7 : IVec S_ 1 := constantI S_ 1 1#1
  let main_v21 : IVec S_ 1 := (fun x v => Host.reduce IntOp.andi x v reducesTo_S1536x768_S_d0_1 h_S_) main_v20 main_c_7
  let main_v22 : IVec S_ 1 := andi main_v17 main_v21
  let main_v23 : FVec F S768 .f32 := Host.absf main_arg2
  let main_cst_8 : FVec F S_ .f32 := constant S_ .f32 0x7F800000#32
  let main_v24 : FVec F S768 .f32 := broadcastInDim S768 ![] bcast_S_S768 main_cst_8
  let main_v25 : IVec S768 1 := cmpf .olt main_v23 main_v24
  let main_c_9 : IVec S_ 1 := constantI S_ 1 1#1
  let main_v26 : IVec S_ 1 := (fun x v => Host.reduce IntOp.andi x v reducesTo_S768_S_d0 h_S_) main_v25 main_c_9
  let main_v27 : IVec S_ 1 := andi main_v22 main_v26
  let main_v28 : FVec F S768x1 .f32 := Host.absf main_arg3
  let main_cst_10 : FVec F S_ .f32 := constant S_ .f32 0x7F800000#32
  let main_v29 : FVec F S768x1 .f32 := broadcastInDim S768x1 ![] bcast_S_S768x1 main_cst_10
  let main_v30 : IVec S768x1 1 := cmpf .olt main_v28 main_v29
  let main_c_11 : IVec S_ 1 := constantI S_ 1 1#1
  let main_v31 : IVec S_ 1 := (fun x v => Host.reduce IntOp.andi x v reducesTo_S768x1_S_d0_1 h_S_) main_v30 main_c_11
  let main_v32 : IVec S_ 1 := andi main_v27 main_v31
  let main_v33 : FVec F S1 .f32 := Host.absf main_arg4
  fn_part2 (F := F) main_arg5 main_arg7 main_arg8 main_v32 main_v33

def fn {F : FTy → Type} [FloatOps F] (main_arg0 : FVec F S40000x768 .f32) (main_arg1 : FVec F S1536x768 .f32) (main_arg2 : FVec F S768 .f32) (main_arg3 : FVec F S768x1 .f32) (main_arg4 : FVec F S1 .f32) (main_arg5 : FVec F S768x512 .f32) (main_arg6 : FVec F S512 .f32) (main_arg7 : FVec F S10000x8 .f32) (main_arg8 : FVec F S16x32x48 .f32) (main_arg9 : IVec S10000x8 32) (main_arg10 : IVec S10000x8 32) (main_arg11 : IVec S16x32x48 32) : IVec S_ 1 :=
  let main_c : IVec S_ 32 := constantI S_ 32 0#32
  let main_v0 : IVec S10000x8 32 := broadcastInDim S10000x8 ![] bcast_S_S10000x8 main_c
  let main_v1 : IVec S10000x8 1 := cmpi .sge main_arg10 main_v0
  let main_c_0 : IVec S_ 32 := constantI S_ 32 40000#32
  let main_v2 : IVec S10000x8 32 := broadcastInDim S10000x8 ![] bcast_S_S10000x8 main_c_0
  let main_v3 : IVec S10000x8 1 := cmpi .slt main_arg10 main_v2
  let main_v4 : IVec S10000x8 1 := andi main_v1 main_v3
  let main_c_1 : IVec S_ 32 := constantI S_ 32 0#32
  let main_v5 : IVec S16x32x48 32 := broadcastInDim S16x32x48 ![] bcast_S_S16x32x48 main_c_1
  let main_v6 : IVec S16x32x48 1 := cmpi .sge main_arg11 main_v5
  let main_c_2 : IVec S_ 32 := constantI S_ 32 10000#32
  let main_v7 : IVec S16x32x48 32 := broadcastInDim S16x32x48 ![] bcast_S_S16x32x48 main_c_2
  let main_v8 : IVec S16x32x48 1 := cmpi .sle main_arg11 main_v7
  let main_v9 : IVec S16x32x48 1 := andi main_v6 main_v8
  let main_c_3 : IVec S_ 1 := constantI S_ 1 1#1
  let main_v10 : IVec S_ 1 := (fun x v => Host.reduce IntOp.andi x v reducesTo_S10000x8_S_d0_1 h_S_) main_v4 main_c_3
  let main_c_4 : IVec S_ 1 := constantI S_ 1 1#1
  let main_v11 : IVec S_ 1 := (fun x v => Host.reduce IntOp.andi x v reducesTo_S16x32x48_S_d0_1_2 h_S_) main_v9 main_c_4
  let main_v12 : IVec S_ 1 := andi main_v10 main_v11
  let main_v13 : FVec F S40000x768 .f32 := Host.absf main_arg0
  let main_cst : FVec F S_ .f32 := constant S_ .f32 0x7F800000#32
  let main_v14 : FVec F S40000x768 .f32 := broadcastInDim S40000x768 ![] bcast_S_S40000x768 main_cst
  let main_v15 : IVec S40000x768 1 := cmpf .olt main_v13 main_v14
  let main_c_5 : IVec S_ 1 := constantI S_ 1 1#1
  fn_part1 (F := F) main_arg1 main_arg2 main_arg3 main_arg4 main_arg5 main_arg7 main_arg8 main_v12 main_v15 main_c_5
-- ==== Kernel.lean ====
abbrev S40000x768 : Shape := ⟨2, ![40000, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S768x512 : Shape := ⟨2, ![768, 512]⟩
abbrev S512 : Shape := ⟨1, ![512]⟩
abbrev S10000x8 : Shape := ⟨2, ![10000, 8]⟩
abbrev S16x32x48 : Shape := ⟨3, ![16, 32, 48]⟩
abbrev S768x768 : Shape := ⟨2, ![768, 768]⟩
abbrev S768x2048 : Shape := ⟨2, ![768, 2048]⟩
abbrev S_ : Shape := ⟨0, ![]⟩
abbrev S2048 : Shape := ⟨1, ![2048]⟩
abbrev S1x2048 : Shape := ⟨2, ![1, 2048]⟩
abbrev S40000x2x128 : Shape := ⟨3, ![40000, 2, 128]⟩
abbrev S1000x768 : Shape := ⟨2, ![1000, 768]⟩
abbrev S1000x2x128 : Shape := ⟨3, ![1000, 2, 128]⟩
abbrev S1000x2048 : Shape := ⟨2, ![1000, 2048]⟩
abbrev S1000x128 : Shape := ⟨2, ![1000, 128]⟩
abbrev S1000x1x128 : Shape := ⟨3, ![1000, 1, 128]⟩
abbrev S80000 : Shape := ⟨1, ![80000]⟩
abbrev S80000x1 : Shape := ⟨2, ![80000, 1]⟩
abbrev S80000x768 : Shape := ⟨2, ![80000, 768]⟩
abbrev S50x1x1600 : Shape := ⟨3, ![50, 1, 1600]⟩
abbrev S768x8 : Shape := ⟨2, ![768, 8]⟩
abbrev S10000x4x128 : Shape := ⟨3, ![10000, 4, 128]⟩
abbrev S1x1x1600 : Shape := ⟨3, ![1, 1, 1600]⟩
abbrev S1600x768 : Shape := ⟨2, ![1600, 768]⟩
abbrev S1600x1 : Shape := ⟨2, ![1600, 1]⟩
abbrev S200x4x128 : Shape := ⟨3, ![200, 4, 128]⟩
abbrev S1600x2x128 : Shape := ⟨3, ![1600, 2, 128]⟩
abbrev S1600x8 : Shape := ⟨2, ![1600, 8]⟩
abbrev S200x8x8 : Shape := ⟨3, ![200, 8, 8]⟩
abbrev S200x8 : Shape := ⟨2, ![200, 8]⟩
abbrev S200x1x8 : Shape := ⟨3, ![200, 1, 8]⟩
abbrev S1x1x1 : Shape := ⟨3, ![1, 1, 1]⟩
abbrev S1x2x128 : Shape := ⟨3, ![1, 2, 128]⟩
abbrev S2x128 : Shape := ⟨2, ![2, 128]⟩
abbrev S200x2x128 : Shape := ⟨3, ![200, 2, 128]⟩
abbrev S200x1x1 : Shape := ⟨3, ![200, 1, 1]⟩
abbrev S512x48 : Shape := ⟨2, ![512, 48]⟩
abbrev S4x128 : Shape := ⟨2, ![4, 128]⟩
abbrev S512x4x128 : Shape := ⟨3, ![512, 4, 128]⟩
abbrev S64x48 : Shape := ⟨2, ![64, 48]⟩
abbrev S64x4x128 : Shape := ⟨3, ![64, 4, 128]⟩
abbrev S1x1 : Shape := ⟨2, ![1, 1]⟩
abbrev S1x4x128 : Shape := ⟨3, ![1, 4, 128]⟩
abbrev S16x32x512 : Shape := ⟨3, ![16, 32, 512]⟩

abbrev nBuf : Space → Nat
  | .hbm => 66
  | .vmem => 25
  | .smem => 8
  | _ => 0

abbrev bufTy : (tb : Table) → Fin (tcTables nBuf tb) → BufTy
  | .hbm, ⟨0, _⟩ => ⟨S40000x768, .f32⟩
  | .hbm, ⟨1, _⟩ => ⟨S1536x768, .f32⟩
  | .hbm, ⟨2, _⟩ => ⟨S768, .f32⟩
  | .hbm, ⟨3, _⟩ => ⟨S768x1, .f32⟩
  | .hbm, ⟨4, _⟩ => ⟨S1, .f32⟩
  | .hbm, ⟨5, _⟩ => ⟨S768x512, .f32⟩
  | .hbm, ⟨6, _⟩ => ⟨S512, .f32⟩
  | .hbm, ⟨7, _⟩ => ⟨S10000x8, .f32⟩
  | .hbm, ⟨8, _⟩ => ⟨S16x32x48, .f32⟩
  | .hbm, ⟨9, _⟩ => ⟨S10000x8, .i32⟩
  | .hbm, ⟨10, _⟩ => ⟨S10000x8, .i32⟩
  | .hbm, ⟨11, _⟩ => ⟨S16x32x48, .i32⟩
  | .hbm, ⟨12, _⟩ => ⟨S768x768, .f32⟩
  | .hbm, ⟨13, _⟩ => ⟨S768x768, .f32⟩
  | .hbm, ⟨14, _⟩ => ⟨S768x2048, .f32⟩
  | .hbm, ⟨15, _⟩ => ⟨S768x2048, .bf16⟩
  | .hbm, ⟨16, _⟩ => ⟨S_, .f32⟩
  | .hbm, ⟨17, _⟩ => ⟨S768, .f32⟩
  | .hbm, ⟨18, _⟩ => ⟨S_, .f32⟩
  | .hbm, ⟨19, _⟩ => ⟨S512, .f32⟩
  | .hbm, ⟨20, _⟩ => ⟨S2048, .f32⟩
  | .hbm, ⟨21, _⟩ => ⟨S1x2048, .f32⟩
  | .hbm, ⟨22, _⟩ => ⟨S40000x768, .bf16⟩
  | .hbm, ⟨23, _⟩ => ⟨S40000x768, .bf16⟩
  | .hbm, ⟨24, _⟩ => ⟨S40000x2x128, .i32⟩
  | .hbm, ⟨25, _⟩ => ⟨S80000, .i32⟩
  | .hbm, ⟨26, _⟩ => ⟨S_, .i32⟩
  | .hbm, ⟨27, _⟩ => ⟨S80000, .i32⟩
  | .hbm, ⟨28, _⟩ => ⟨S80000, .i1⟩
  | .hbm, ⟨29, _⟩ => ⟨S_, .i32⟩
  | .hbm, ⟨30, _⟩ => ⟨S80000, .i32⟩
  | .hbm, ⟨31, _⟩ => ⟨S80000, .i32⟩
  | .hbm, ⟨32, _⟩ => ⟨S80000, .i32⟩
  | .hbm, ⟨33, _⟩ => ⟨S80000x1, .i32⟩
  | .hbm, ⟨34, _⟩ => ⟨S80000x768, .bf16⟩
  | .hbm, ⟨35, _⟩ => ⟨S80000, .i32⟩
  | .hbm, ⟨36, _⟩ => ⟨S50x1x1600, .i32⟩
  | .hbm, ⟨37, _⟩ => ⟨S80000x1, .f32⟩
  | .hbm, ⟨38, _⟩ => ⟨S768x8, .f32⟩
  | .hbm, ⟨39, _⟩ => ⟨S768x8, .bf16⟩
  | .hbm, ⟨40, _⟩ => ⟨S_, .i32⟩
  | .hbm, ⟨41, _⟩ => ⟨S80000, .i32⟩
  | .hbm, ⟨42, _⟩ => ⟨S80000, .i1⟩
  | .hbm, ⟨43, _⟩ => ⟨S_, .i32⟩
  | .hbm, ⟨44, _⟩ => ⟨S80000, .i32⟩
  | .hbm, ⟨45, _⟩ => ⟨S80000, .i32⟩
  | .hbm, ⟨46, _⟩ => ⟨S80000, .i32⟩
  | .hbm, ⟨47, _⟩ => ⟨S80000x1, .i32⟩
  | .hbm, ⟨48, _⟩ => ⟨S80000x768, .bf16⟩
  | .hbm, ⟨49, _⟩ => ⟨S10000x4x128, .f32⟩
  | .hbm, ⟨50, _⟩ => ⟨S512x48, .i32⟩
  | .hbm, ⟨51, _⟩ => ⟨S_, .i32⟩
  | .hbm, ⟨52, _⟩ => ⟨S512x48, .i32⟩
  | .hbm, ⟨53, _⟩ => ⟨S512x48, .i32⟩
  | .hbm, ⟨54, _⟩ => ⟨S_, .i32⟩
  | .hbm, ⟨55, _⟩ => ⟨S512x48, .i32⟩
  | .hbm, ⟨56, _⟩ => ⟨S512x48, .i32⟩
  | .hbm, ⟨57, _⟩ => ⟨S512x48, .f32⟩
  | .hbm, ⟨58, _⟩ => ⟨S_, .i32⟩
  | .hbm, ⟨59, _⟩ => ⟨S512x48, .i32⟩
  | .hbm, ⟨60, _⟩ => ⟨S512x48, .i1⟩
  | .hbm, ⟨61, _⟩ => ⟨S512x48, .f32⟩
  | .hbm, ⟨62, _⟩ => ⟨S512x48, .f32⟩
  | .hbm, ⟨63, _⟩ => ⟨S4x128, .f32⟩
  | .hbm, ⟨64, _⟩ => ⟨S512x4x128, .f32⟩
  | .hbm, ⟨65, _⟩ => ⟨S16x32x512, .f32⟩
  | .local _ .vmem, ⟨0, _⟩ => ⟨S1000x768, .f32⟩
  | .local _ .vmem, ⟨1, _⟩ => ⟨S1000x768, .f32⟩
  | .local _ .vmem, ⟨2, _⟩ => ⟨S768x2048, .bf16⟩
  | .local _ .vmem, ⟨3, _⟩ => ⟨S1x2048, .f32⟩
  | .local _ .vmem, ⟨4, _⟩ => ⟨S1000x768, .bf16⟩
  | .local _ .vmem, ⟨5, _⟩ => ⟨S1000x768, .bf16⟩
  | .local _ .vmem, ⟨6, _⟩ => ⟨S1000x768, .bf16⟩
  | .local _ .vmem, ⟨7, _⟩ => ⟨S1000x768, .bf16⟩
  | .local _ .vmem, ⟨8, _⟩ => ⟨S1000x2x128, .i32⟩
  | .local _ .vmem, ⟨9, _⟩ => ⟨S1000x2x128, .i32⟩
  | .local _ .vmem, ⟨10, _⟩ => ⟨S1600x768, .bf16⟩
  | .local _ .vmem, ⟨11, _⟩ => ⟨S1600x768, .bf16⟩
  | .local _ .vmem, ⟨12, _⟩ => ⟨S1600x768, .bf16⟩
  | .local _ .vmem, ⟨13, _⟩ => ⟨S1600x768, .bf16⟩
  | .local _ .vmem, ⟨14, _⟩ => ⟨S1600x1, .f32⟩
  | .local _ .vmem, ⟨15, _⟩ => ⟨S1600x1, .f32⟩
  | .local _ .vmem, ⟨16, _⟩ => ⟨S768x8, .bf16⟩
  | .local _ .vmem, ⟨17, _⟩ => ⟨S40000x2x128, .i32⟩
  | .local _ .vmem, ⟨18, _⟩ => ⟨S200x4x128, .f32⟩
  | .local _ .vmem, ⟨19, _⟩ => ⟨S200x4x128, .f32⟩
  | .local _ .vmem, ⟨20, _⟩ => ⟨S1600x2x128, .i32⟩
  | .local _ .vmem, ⟨21, _⟩ => ⟨S10000x4x128, .f32⟩
  | .local _ .vmem, ⟨22, _⟩ => ⟨S4x128, .f32⟩
  | .local _ .vmem, ⟨23, _⟩ => ⟨S64x4x128, .f32⟩
  | .local _ .vmem, ⟨24, _⟩ => ⟨S64x4x128, .f32⟩
  | .local _ .smem, ⟨0, _⟩ => ⟨S1x1x1600, .i32⟩
  | .local _ .smem, ⟨1, _⟩ => ⟨S1x1x1600, .i32⟩
  | .local _ .smem, ⟨2, _⟩ => ⟨S64x48, .i32⟩
  | .local _ .smem, ⟨3, _⟩ => ⟨S64x48, .i32⟩
  | .local _ .smem, ⟨4, _⟩ => ⟨S64x48, .f32⟩
  | .local _ .smem, ⟨5, _⟩ => ⟨S64x48, .f32⟩
  | .local _ .smem, ⟨6, _⟩ => ⟨S64x48, .f32⟩
  | .local _ .smem, ⟨7, _⟩ => ⟨S64x48, .f32⟩
  | _, _ => ⟨S40000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc1_stg0_0 : Ref sig .tc := ⟨.smem, 0, rfl⟩
abbrev cc1_stg0_1 : Ref sig .tc := ⟨.smem, 1, rfl⟩
abbrev cc2_stg0_0 : Ref sig .tc := ⟨.smem, 2, rfl⟩
abbrev cc2_stg0_1 : Ref sig .tc := ⟨.smem, 3, rfl⟩
abbrev cc2_stg1_0 : Ref sig .tc := ⟨.smem, 4, rfl⟩
abbrev cc2_stg1_1 : Ref sig .tc := ⟨.smem, 5, rfl⟩
abbrev cc2_stg2_0 : Ref sig .tc := ⟨.smem, 6, rfl⟩
abbrev cc2_stg2_1 : Ref sig .tc := ⟨.smem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [BitOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x2x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

@[reducible] def k1_t1_loop : Scf.Loop 32 :=
  let c0_i32 : BitVec 32 := 0#32
  let c50_i32 : BitVec 32 := 50#32
  let v29 : BitVec 32 := Scalar.addi c0_i32 c50_i32
  let c1_i32 : BitVec 32 := 1#32
  ⟨c0_i32, v29, c1_i32⟩
def k1_off1 (k1_t1 : Fin k1_t1_loop.trips) : Fin 3 → Nat :=
  let c0_35 : Index := 0#32
  let c0_36 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_33 : BitVec 32 := 0#32
  let v87 : BitVec 32 := Scalar.addi v86 c0_i32_33
  let c8_i32 : BitVec 32 := 8#32
  let v88 : BitVec 32 := Scalar.muli v87 c8_i32
  let c0_i32_34 : BitVec 32 := 0#32
  let v89 : BitVec 32 := Scalar.addi v88 c0_i32_34
  let v90 : Index := Scalar.indexCast v89
  ![0, 0, v90.toNat]
def k1_off2 (v91 : BitVec 32) : Fin 3 → Nat :=
  let v92 : Index := Scalar.indexCast v91
  let c0_37 : Index := 0#32
  let c0_38 : Index := 0#32
  ![v92.toNat, 0, 0]

def k1_chk1 (v91 : BitVec 32) : Prop :=
  (∀ a, (k1_off2 v91) a + S1x2x128.size a ≤ S40000x2x128.size a)
theorem k1_off2_inb : ∀ (v91 : BitVec 32) (k1_hw1 : k1_chk1 v91), ∀ a, (k1_off2 v91) a + S1x2x128.size a ≤ S40000x2x128.size a := fun v91 k1_hw1 => k1_hw1

def k1_off3 (k1_t1 : Fin k1_t1_loop.trips) : Fin 3 → Nat :=
  let c0_i32_39 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v95 : BitVec 32 := Scalar.addi c0_i32_39 v86
  let c0_i32_40 : BitVec 32 := 0#32
  let v96 : BitVec 32 := Scalar.addi v95 c0_i32_40
  let v97 : Index := Scalar.indexCast v96
  let c0_41 : Index := 0#32
  let c0_42 : Index := 0#32
  ![v97.toNat, 0, 0]
def k1_off4 (k1_t1 : Fin k1_t1_loop.trips) : Fin 3 → Nat :=
  let c0_46 : Index := 0#32
  let c0_47 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_43 : BitVec 32 := 0#32
  let v101 : BitVec 32 := Scalar.addi v86 c0_i32_43
  let c8_i32_44 : BitVec 32 := 8#32
  let v102 : BitVec 32 := Scalar.muli v101 c8_i32_44
  let c1_i32_45 : BitVec 32 := 1#32
  let v103 : BitVec 32 := Scalar.addi v102 c1_i32_45
  let v104 : Index := Scalar.indexCast v103
  ![0, 0, v104.toNat]
def k1_off5 (v105 : BitVec 32) : Fin 3 → Nat :=
  let v106 : Index := Scalar.indexCast v105
  let c0_48 : Index := 0#32
  let c0_49 : Index := 0#32
  ![v106.toNat, 0, 0]

def k1_chk2 (v105 : BitVec 32) : Prop :=
  (∀ a, (k1_off5 v105) a + S1x2x128.size a ≤ S40000x2x128.size a)
theorem k1_off5_inb : ∀ (v105 : BitVec 32) (k1_hw2 : k1_chk2 v105), ∀ a, (k1_off5 v105) a + S1x2x128.size a ≤ S40000x2x128.size a := fun v105 k1_hw2 => k1_hw2

def k1_off6 (k1_t1 : Fin k1_t1_loop.trips) : Fin 3 → Nat :=
  let c200_i32 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v109 : BitVec 32 := Scalar.addi c200_i32 v86
  let c0_i32_50 : BitVec 32 := 0#32
  let v110 : BitVec 32 := Scalar.addi v109 c0_i32_50
  let v111 : Index := Scalar.indexCast v110
  let c0_51 : Index := 0#32
  let c0_52 : Index := 0#32
  ![v111.toNat, 0, 0]
def k1_off7 (k1_t1 : Fin k1_t1_loop.trips) : Fin 3 → Nat :=
  let c0_55 : Index := 0#32
  let c0_56 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_53 : BitVec 32 := 0#32
  let v115 : BitVec 32 := Scalar.addi v86 c0_i32_53
  let c8_i32_54 : BitVec 32 := 8#32
  let v116 : BitVec 32 := Scalar.muli v115 c8_i32_54
  let c2_i32 : BitVec 32 := 2#32
  let v117 : BitVec 32 := Scalar.addi v116 c2_i32
  let v118 : Index := Scalar.indexCast v117
  ![0, 0, v118.toNat]
def k1_off8 (v119 : BitVec 32) : Fin 3 → Nat :=
  let v120 : Index := Scalar.indexCast v119
  let c0_57 : Index := 0#32
  let c0_58 : Index := 0#32
  ![v120.toNat, 0, 0]

def k1_chk3 (v119 : BitVec 32) : Prop :=
  (∀ a, (k1_off8 v119) a + S1x2x128.size a ≤ S40000x2x128.size a)
theorem k1_off8_inb : ∀ (v119 : BitVec 32) (k1_hw3 : k1_chk3 v119), ∀ a, (k1_off8 v119) a + S1x2x128.size a ≤ S40000x2x128.size a := fun v119 k1_hw3 => k1_hw3

def k1_off9 (k1_t1 : Fin k1_t1_loop.trips) : Fin 3 → Nat :=
  let c400_i32 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v123 : BitVec 32 := Scalar.addi c400_i32 v86
  let c0_i32_59 : BitVec 32 := 0#32
  let v124 : BitVec 32 := Scalar.addi v123 c0_i32_59
  let v125 : Index := Scalar.indexCast v124
  let c0_60 : Index := 0#32
  let c0_61 : Index := 0#32
  ![v125.toNat, 0, 0]
def k1_off10 (k1_t1 : Fin k1_t1_loop.trips) : Fin 3 → Nat :=
  let c0_64 : Index := 0#32
  let c0_65 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_62 : BitVec 32 := 0#32
  let v129 : BitVec 32 := Scalar.addi v86 c0_i32_62
  let c8_i32_63 : BitVec 32 := 8#32
  let v130 : BitVec 32 := Scalar.muli v129 c8_i32_63
  let c3_i32 : BitVec 32 := 3#32
  let v131 : BitVec 32 := Scalar.addi v130 c3_i32
  let v132 : Index := Scalar.indexCast v131
  ![0, 0, v132.toNat]
def k1_off11 (v133 : BitVec 32) : Fin 3 → Nat :=
  let v134 : Index := Scalar.indexCast v133
  let c0_66 : Index := 0#32
  let c0_67 : Index := 0#32
  ![v134.toNat, 0, 0]

def k1_chk4 (v133 : BitVec 32) : Prop :=
  (∀ a, (k1_off11 v133) a + S1x2x128.size a ≤ S40000x2x128.size a)
theorem k1_off11_inb : ∀ (v133 : BitVec 32) (k1_hw4 : k1_chk4 v133), ∀ a, (k1_off11 v133) a + S1x2x128.size a ≤ S40000x2x128.size a := fun v133 k1_hw4 => k1_hw4

def k1_off12 (k1_t1 : Fin k1_t1_loop.trips) : Fin 3 → Nat :=
  let c600_i32 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v137 : BitVec 32 := Scalar.addi c600_i32 v86
  let c0_i32_68 : BitVec 32 := 0#32
  let v138 : BitVec 32 := Scalar.addi v137 c0_i32_68
  let v139 : Index := Scalar.indexCast v138
  let c0_69 : Index := 0#32
  let c0_70 : Index := 0#32
  ![v139.toNat, 0, 0]
def k1_off13 (k1_t1 : Fin k1_t1_loop.trips) : Fin 3 → Nat :=
  let c0_74 : Index := 0#32
  let c0_75 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_71 : BitVec 32 := 0#32
  let v143 : BitVec 32 := Scalar.addi v86 c0_i32_71
  let c8_i32_72 : BitVec 32 := 8#32
  let v144 : BitVec 32 := Scalar.muli v143 c8_i32_72
  let c4_i32_73 : BitVec 32 := 4#32
  let v145 : BitVec 32 := Scalar.addi v144 c4_i32_73
  let v146 : Index := Scalar.indexCast v145
  ![0, 0, v146.toNat]
def k1_off14 (v147 : BitVec 32) : Fin 3 → Nat :=
  let v148 : Index := Scalar.indexCast v147
  let c0_76 : Index := 0#32
  let c0_77 : Index := 0#32
  ![v148.toNat, 0, 0]

def k1_chk5 (v147 : BitVec 32) : Prop :=
  (∀ a, (k1_off14 v147) a + S1x2x128.size a ≤ S40000x2x128.size a)
theorem k1_off14_inb : ∀ (v147 : BitVec 32) (k1_hw5 : k1_chk5 v147), ∀ a, (k1_off14 v147) a + S1x2x128.size a ≤ S40000x2x128.size a := fun v147 k1_hw5 => k1_hw5

def k1_off15 (k1_t1 : Fin k1_t1_loop.trips) : Fin 3 → Nat :=
  let c800_i32 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v151 : BitVec 32 := Scalar.addi c800_i32 v86
  let c0_i32_78 : BitVec 32 := 0#32
  let v152 : BitVec 32 := Scalar.addi v151 c0_i32_78
  let v153 : Index := Scalar.indexCast v152
  let c0_79 : Index := 0#32
  let c0_80 : Index := 0#32
  ![v153.toNat, 0, 0]
def k1_off16 (k1_t1 : Fin k1_t1_loop.trips) : Fin 3 → Nat :=
  let c0_83 : Index := 0#32
  let c0_84 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_81 : BitVec 32 := 0#32
  let v157 : BitVec 32 := Scalar.addi v86 c0_i32_81
  let c8_i32_82 : BitVec 32 := 8#32
  let v158 : BitVec 32 := Scalar.muli v157 c8_i32_82
  let c5_i32 : BitVec 32 := 5#32
  let v159 : BitVec 32 := Scalar.addi v158 c5_i32
  let v160 : Index := Scalar.indexCast v159
  ![0, 0, v160.toNat]
def k1_off17 (v161 : BitVec 32) : Fin 3 → Nat :=
  let v162 : Index := Scalar.indexCast v161
  let c0_85 : Index := 0#32
  let c0_86 : Index := 0#32
  ![v162.toNat, 0, 0]

def k1_chk6 (v161 : BitVec 32) : Prop :=
  (∀ a, (k1_off17 v161) a + S1x2x128.size a ≤ S40000x2x128.size a)
theorem k1_off17_inb : ∀ (v161 : BitVec 32) (k1_hw6 : k1_chk6 v161), ∀ a, (k1_off17 v161) a + S1x2x128.size a ≤ S40000x2x128.size a := fun v161 k1_hw6 => k1_hw6

def k1_off18 (k1_t1 : Fin k1_t1_loop.trips) : Fin 3 → Nat :=
  let c1000_i32 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v165 : BitVec 32 := Scalar.addi c1000_i32 v86
  let c0_i32_87 : BitVec 32 := 0#32
  let v166 : BitVec 32 := Scalar.addi v165 c0_i32_87
  let v167 : Index := Scalar.indexCast v166
  let c0_88 : Index := 0#32
  let c0_89 : Index := 0#32
  ![v167.toNat, 0, 0]
def k1_off19 (k1_t1 : Fin k1_t1_loop.trips) : Fin 3 → Nat :=
  let c0_92 : Index := 0#32
  let c0_93 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_90 : BitVec 32 := 0#32
  let v171 : BitVec 32 := Scalar.addi v86 c0_i32_90
  let c8_i32_91 : BitVec 32 := 8#32
  let v172 : BitVec 32 := Scalar.muli v171 c8_i32_91
  let c6_i32 : BitVec 32 := 6#32
  let v173 : BitVec 32 := Scalar.addi v172 c6_i32
  let v174 : Index := Scalar.indexCast v173
  ![0, 0, v174.toNat]
def k1_off20 (v175 : BitVec 32) : Fin 3 → Nat :=
  let v176 : Index := Scalar.indexCast v175
  let c0_94 : Index := 0#32
  let c0_95 : Index := 0#32
  ![v176.toNat, 0, 0]

def k1_chk7 (v175 : BitVec 32) : Prop :=
  (∀ a, (k1_off20 v175) a + S1x2x128.size a ≤ S40000x2x128.size a)
theorem k1_off20_inb : ∀ (v175 : BitVec 32) (k1_hw7 : k1_chk7 v175), ∀ a, (k1_off20 v175) a + S1x2x128.size a ≤ S40000x2x128.size a := fun v175 k1_hw7 => k1_hw7

def k1_off21 (k1_t1 : Fin k1_t1_loop.trips) : Fin 3 → Nat :=
  let c1200_i32 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v179 : BitVec 32 := Scalar.addi c1200_i32 v86
  let c0_i32_96 : BitVec 32 := 0#32
  let v180 : BitVec 32 := Scalar.addi v179 c0_i32_96
  let v181 : Index := Scalar.indexCast v180
  let c0_97 : Index := 0#32
  let c0_98 : Index := 0#32
  ![v181.toNat, 0, 0]
def k1_off22 (k1_t1 : Fin k1_t1_loop.trips) : Fin 3 → Nat :=
  let c0_101 : Index := 0#32
  let c0_102 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_99 : BitVec 32 := 0#32
  let v185 : BitVec 32 := Scalar.addi v86 c0_i32_99
  let c8_i32_100 : BitVec 32 := 8#32
  let v186 : BitVec 32 := Scalar.muli v185 c8_i32_100
  let c7_i32 : BitVec 32 := 7#32
  let v187 : BitVec 32 := Scalar.addi v186 c7_i32
  let v188 : Index := Scalar.indexCast v187
  ![0, 0, v188.toNat]
def k1_off23 (v189 : BitVec 32) : Fin 3 → Nat :=
  let v190 : Index := Scalar.indexCast v189
  let c0_103 : Index := 0#32
  let c0_104 : Index := 0#32
  ![v190.toNat, 0, 0]

def k1_chk8 (v189 : BitVec 32) : Prop :=
  (∀ a, (k1_off23 v189) a + S1x2x128.size a ≤ S40000x2x128.size a)
theorem k1_off23_inb : ∀ (v189 : BitVec 32) (k1_hw8 : k1_chk8 v189), ∀ a, (k1_off23 v189) a + S1x2x128.size a ≤ S40000x2x128.size a := fun v189 k1_hw8 => k1_hw8

def k1_off24 (k1_t1 : Fin k1_t1_loop.trips) : Fin 3 → Nat :=
  let c1400_i32 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v193 : BitVec 32 := Scalar.addi c1400_i32 v86
  let c0_i32_105 : BitVec 32 := 0#32
  let v194 : BitVec 32 := Scalar.addi v193 c0_i32_105
  let v195 : Index := Scalar.indexCast v194
  let c0_106 : Index := 0#32
  let c0_107 : Index := 0#32
  ![v195.toNat, 0, 0]
def k1_off25 (k1_t1 : Fin k1_t1_loop.trips) : Fin 3 → Nat :=
  let c0_111 : Index := 0#32
  let c0_112 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_108 : BitVec 32 := 1#32
  let v199 : BitVec 32 := Scalar.addi v86 c1_i32_108
  let c8_i32_109 : BitVec 32 := 8#32
  let v200 : BitVec 32 := Scalar.muli v199 c8_i32_109
  let c0_i32_110 : BitVec 32 := 0#32
  let v201 : BitVec 32 := Scalar.addi v200 c0_i32_110
  let v202 : Index := Scalar.indexCast v201
  ![0, 0, v202.toNat]
def k1_off26 (v203 : BitVec 32) : Fin 3 → Nat :=
  let v204 : Index := Scalar.indexCast v203
  let c0_113 : Index := 0#32
  let c0_114 : Index := 0#32
  ![v204.toNat, 0, 0]

def k1_chk9 (v203 : BitVec 32) : Prop :=
  (∀ a, (k1_off26 v203) a + S1x2x128.size a ≤ S40000x2x128.size a)
theorem k1_off26_inb : ∀ (v203 : BitVec 32) (k1_hw9 : k1_chk9 v203), ∀ a, (k1_off26 v203) a + S1x2x128.size a ≤ S40000x2x128.size a := fun v203 k1_hw9 => k1_hw9

def k1_off27 (k1_t1 : Fin k1_t1_loop.trips) : Fin 3 → Nat :=
  let c0_i32_115 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v207 : BitVec 32 := Scalar.addi c0_i32_115 v86
  let c1_i32_116 : BitVec 32 := 1#32
  let v208 : BitVec 32 := Scalar.addi v207 c1_i32_116
  let v209 : Index := Scalar.indexCast v208
  let c0_117 : Index := 0#32
  let c0_118 : Index := 0#32
  ![v209.toNat, 0, 0]
def k1_off28 (k1_t1 : Fin k1_t1_loop.trips) : Fin 3 → Nat :=
  let c0_122 : Index := 0#32
  let c0_123 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_119 : BitVec 32 := 1#32
  let v213 : BitVec 32 := Scalar.addi v86 c1_i32_119
  let c8_i32_120 : BitVec 32 := 8#32
  let v214 : BitVec 32 := Scalar.muli v213 c8_i32_120
  let c1_i32_121 : BitVec 32 := 1#32
  let v215 : BitVec 32 := Scalar.addi v214 c1_i32_121
  let v216 : Index := Scalar.indexCast v215
  ![0, 0, v216.toNat]
def k1_off29 (v217 : BitVec 32) : Fin 3 → Nat :=
  let v218 : Index := Scalar.indexCast v217
  let c0_124 : Index := 0#32
  let c0_125 : Index := 0#32
  ![v218.toNat, 0, 0]

def k1_chk10 (v217 : BitVec 32) : Prop :=
  (∀ a, (k1_off29 v217) a + S1x2x128.size a ≤ S40000x2x128.size a)
theorem k1_off29_inb : ∀ (v217 : BitVec 32) (k1_hw10 : k1_chk10 v217), ∀ a, (k1_off29 v217) a + S1x2x128.size a ≤ S40000x2x128.size a := fun v217 k1_hw10 => k1_hw10

def k1_off30 (k1_t1 : Fin k1_t1_loop.trips) : Fin 3 → Nat :=
  let c200_i32_126 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v221 : BitVec 32 := Scalar.addi c200_i32_126 v86
  let c1_i32_127 : BitVec 32 := 1#32
  let v222 : BitVec 32 := Scalar.addi v221 c1_i32_127
  let v223 : Index := Scalar.indexCast v222
  let c0_128 : Index := 0#32
  let c0_129 : Index := 0#32
  ![v223.toNat, 0, 0]
def k1_off31 (k1_t1 : Fin k1_t1_loop.trips) : Fin 3 → Nat :=
  let c0_133 : Index := 0#32
  let c0_134 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_130 : BitVec 32 := 1#32
  let v227 : BitVec 32 := Scalar.addi v86 c1_i32_130
  let c8_i32_131 : BitVec 32 := 8#32
  let v228 : BitVec 32 := Scalar.muli v227 c8_i32_131
  let c2_i32_132 : BitVec 32 := 2#32
  let v229 : BitVec 32 := Scalar.addi v228 c2_i32_132
  let v230 : Index := Scalar.indexCast v229
  ![0, 0, v230.toNat]
def k1_off32 (v231 : BitVec 32) : Fin 3 → Nat :=
  let v232 : Index := Scalar.indexCast v231
  let c0_135 : Index := 0#32
  let c0_136 : Index := 0#32
  ![v232.toNat, 0, 0]

def k1_chk11 (v231 : BitVec 32) : Prop :=
  (∀ a, (k1_off32 v231) a + S1x2x128.size a ≤ S40000x2x128.size a)
theorem k1_off32_inb : ∀ (v231 : BitVec 32) (k1_hw11 : k1_chk11 v231), ∀ a, (k1_off32 v231) a + S1x2x128.size a ≤ S40000x2x128.size a := fun v231 k1_hw11 => k1_hw11

def k1_off33 (k1_t1 : Fin k1_t1_loop.trips) : Fin 3 → Nat :=
  let c400_i32_137 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v235 : BitVec 32 := Scalar.addi c400_i32_137 v86
  let c1_i32_138 : BitVec 32 := 1#32
  let v236 : BitVec 32 := Scalar.addi v235 c1_i32_138
  let v237 : Index := Scalar.indexCast v236
  let c0_139 : Index := 0#32
  let c0_140 : Index := 0#32
  ![v237.toNat, 0, 0]
def k1_off34 (k1_t1 : Fin k1_t1_loop.trips) : Fin 3 → Nat :=
  let c0_144 : Index := 0#32
  let c0_145 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_141 : BitVec 32 := 1#32
  let v241 : BitVec 32 := Scalar.addi v86 c1_i32_141
  let c8_i32_142 : BitVec 32 := 8#32
  let v242 : BitVec 32 := Scalar.muli v241 c8_i32_142
  let c3_i32_143 : BitVec 32 := 3#32
  let v243 : BitVec 32 := Scalar.addi v242 c3_i32_143
  let v244 : Index := Scalar.indexCast v243
  ![0, 0, v244.toNat]
def k1_off35 (v245 : BitVec 32) : Fin 3 → Nat :=
  let v246 : Index := Scalar.indexCast v245
  let c0_146 : Index := 0#32
  let c0_147 : Index := 0#32
  ![v246.toNat, 0, 0]

def k1_chk12 (v245 : BitVec 32) : Prop :=
  (∀ a, (k1_off35 v245) a + S1x2x128.size a ≤ S40000x2x128.size a)
theorem k1_off35_inb : ∀ (v245 : BitVec 32) (k1_hw12 : k1_chk12 v245), ∀ a, (k1_off35 v245) a + S1x2x128.size a ≤ S40000x2x128.size a := fun v245 k1_hw12 => k1_hw12

def k1_off36 (k1_t1 : Fin k1_t1_loop.trips) : Fin 3 → Nat :=
  let c600_i32_148 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v249 : BitVec 32 := Scalar.addi c600_i32_148 v86
  let c1_i32_149 : BitVec 32 := 1#32
  let v250 : BitVec 32 := Scalar.addi v249 c1_i32_149
  let v251 : Index := Scalar.indexCast v250
  let c0_150 : Index := 0#32
  let c0_151 : Index := 0#32
  ![v251.toNat, 0, 0]
def k1_off37 (k1_t1 : Fin k1_t1_loop.trips) : Fin 3 → Nat :=
  let c0_155 : Index := 0#32
  let c0_156 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_152 : BitVec 32 := 1#32
  let v255 : BitVec 32 := Scalar.addi v86 c1_i32_152
  let c8_i32_153 : BitVec 32 := 8#32
  let v256 : BitVec 32 := Scalar.muli v255 c8_i32_153
  let c4_i32_154 : BitVec 32 := 4#32
  let v257 : BitVec 32 := Scalar.addi v256 c4_i32_154
  let v258 : Index := Scalar.indexCast v257
  ![0, 0, v258.toNat]
def k1_off38 (v259 : BitVec 32) : Fin 3 → Nat :=
  let v260 : Index := Scalar.indexCast v259
  let c0_157 : Index := 0#32
  let c0_158 : Index := 0#32
  ![v260.toNat, 0, 0]

def k1_chk13 (v259 : BitVec 32) : Prop :=
  (∀ a, (k1_off38 v259) a + S1x2x128.size a ≤ S40000x2x128.size a)
theorem k1_off38_inb : ∀ (v259 : BitVec 32) (k1_hw13 : k1_chk13 v259), ∀ a, (k1_off38 v259) a + S1x2x128.size a ≤ S40000x2x128.size a := fun v259 k1_hw13 => k1_hw13

def k1_off39 (k1_t1 : Fin k1_t1_loop.trips) : Fin 3 → Nat :=
  let c800_i32_159 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v263 : BitVec 32 := Scalar.addi c800_i32_159 v86
  let c1_i32_160 : BitVec 32 := 1#32
  let v264 : BitVec 32 := Scalar.addi v263 c1_i32_160
  let v265 : Index := Scalar.indexCast v264
  let c0_161 : Index := 0#32
  let c0_162 : Index := 0#32
  ![v265.toNat, 0, 0]
def k1_off40 (k1_t1 : Fin k1_t1_loop.trips) : Fin 3 → Nat :=
  let c0_166 : Index := 0#32
  let c0_167 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_163 : BitVec 32 := 1#32
  let v269 : BitVec 32 := Scalar.addi v86 c1_i32_163
  let c8_i32_164 : BitVec 32 := 8#32
  let v270 : BitVec 32 := Scalar.muli v269 c8_i32_164
  let c5_i32_165 : BitVec 32 := 5#32
  let v271 : BitVec 32 := Scalar.addi v270 c5_i32_165
  let v272 : Index := Scalar.indexCast v271
  ![0, 0, v272.toNat]
def k1_off41 (v273 : BitVec 32) : Fin 3 → Nat :=
  let v274 : Index := Scalar.indexCast v273
  let c0_168 : Index := 0#32
  let c0_169 : Index := 0#32
  ![v274.toNat, 0, 0]

def k1_chk14 (v273 : BitVec 32) : Prop :=
  (∀ a, (k1_off41 v273) a + S1x2x128.size a ≤ S40000x2x128.size a)
theorem k1_off41_inb : ∀ (v273 : BitVec 32) (k1_hw14 : k1_chk14 v273), ∀ a, (k1_off41 v273) a + S1x2x128.size a ≤ S40000x2x128.size a := fun v273 k1_hw14 => k1_hw14

def k1_off42 (k1_t1 : Fin k1_t1_loop.trips) : Fin 3 → Nat :=
  let c1000_i32_170 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v277 : BitVec 32 := Scalar.addi c1000_i32_170 v86
  let c1_i32_171 : BitVec 32 := 1#32
  let v278 : BitVec 32 := Scalar.addi v277 c1_i32_171
  let v279 : Index := Scalar.indexCast v278
  let c0_172 : Index := 0#32
  let c0_173 : Index := 0#32
  ![v279.toNat, 0, 0]
def k1_off43 (k1_t1 : Fin k1_t1_loop.trips) : Fin 3 → Nat :=
  let c0_177 : Index := 0#32
  let c0_178 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_174 : BitVec 32 := 1#32
  let v283 : BitVec 32 := Scalar.addi v86 c1_i32_174
  let c8_i32_175 : BitVec 32 := 8#32
  let v284 : BitVec 32 := Scalar.muli v283 c8_i32_175
  let c6_i32_176 : BitVec 32 := 6#32
  let v285 : BitVec 32 := Scalar.addi v284 c6_i32_176
  let v286 : Index := Scalar.indexCast v285
  ![0, 0, v286.toNat]
def k1_off44 (v287 : BitVec 32) : Fin 3 → Nat :=
  let v288 : Index := Scalar.indexCast v287
  let c0_179 : Index := 0#32
  let c0_180 : Index := 0#32
  ![v288.toNat, 0, 0]

def k1_chk15 (v287 : BitVec 32) : Prop :=
  (∀ a, (k1_off44 v287) a + S1x2x128.size a ≤ S40000x2x128.size a)
theorem k1_off44_inb : ∀ (v287 : BitVec 32) (k1_hw15 : k1_chk15 v287), ∀ a, (k1_off44 v287) a + S1x2x128.size a ≤ S40000x2x128.size a := fun v287 k1_hw15 => k1_hw15

def k1_off45 (k1_t1 : Fin k1_t1_loop.trips) : Fin 3 → Nat :=
  let c1200_i32_181 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v291 : BitVec 32 := Scalar.addi c1200_i32_181 v86
  let c1_i32_182 : BitVec 32 := 1#32
  let v292 : BitVec 32 := Scalar.addi v291 c1_i32_182
  let v293 : Index := Scalar.indexCast v292
  let c0_183 : Index := 0#32
  let c0_184 : Index := 0#32
  ![v293.toNat, 0, 0]
def k1_off46 (k1_t1 : Fin k1_t1_loop.trips) : Fin 3 → Nat :=
  let c0_188 : Index := 0#32
  let c0_189 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_185 : BitVec 32 := 1#32
  let v297 : BitVec 32 := Scalar.addi v86 c1_i32_185
  let c8_i32_186 : BitVec 32 := 8#32
  let v298 : BitVec 32 := Scalar.muli v297 c8_i32_186
  let c7_i32_187 : BitVec 32 := 7#32
  let v299 : BitVec 32 := Scalar.addi v298 c7_i32_187
  let v300 : Index := Scalar.indexCast v299
  ![0, 0, v300.toNat]
def k1_off47 (v301 : BitVec 32) : Fin 3 → Nat :=
  let v302 : Index := Scalar.indexCast v301
  let c0_190 : Index := 0#32
  let c0_191 : Index := 0#32
  ![v302.toNat, 0, 0]

def k1_chk16 (v301 : BitVec 32) : Prop :=
  (∀ a, (k1_off47 v301) a + S1x2x128.size a ≤ S40000x2x128.size a)
theorem k1_off47_inb : ∀ (v301 : BitVec 32) (k1_hw16 : k1_chk16 v301), ∀ a, (k1_off47 v301) a + S1x2x128.size a ≤ S40000x2x128.size a := fun v301 k1_hw16 => k1_hw16

def k1_off48 (k1_t1 : Fin k1_t1_loop.trips) : Fin 3 → Nat :=
  let c1400_i32_192 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v305 : BitVec 32 := Scalar.addi c1400_i32_192 v86
  let c1_i32_193 : BitVec 32 := 1#32
  let v306 : BitVec 32 := Scalar.addi v305 c1_i32_193
  let v307 : Index := Scalar.indexCast v306
  let c0_194 : Index := 0#32
  let c0_195 : Index := 0#32
  ![v307.toNat, 0, 0]
def k1_off49 (k1_t1 : Fin k1_t1_loop.trips) : Fin 3 → Nat :=
  let c0_199 : Index := 0#32
  let c0_200 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_196 : BitVec 32 := 2#32
  let v311 : BitVec 32 := Scalar.addi v86 c2_i32_196
  let c8_i32_197 : BitVec 32 := 8#32
  let v312 : BitVec 32 := Scalar.muli v311 c8_i32_197
  let c0_i32_198 : BitVec 32 := 0#32
  let v313 : BitVec 32 := Scalar.addi v312 c0_i32_198
  let v314 : Index := Scalar.indexCast v313
  ![0, 0, v314.toNat]
def k1_off50 (v315 : BitVec 32) : Fin 3 → Nat :=
  let v316 : Index := Scalar.indexCast v315
  let c0_201 : Index := 0#32
  let c0_202 : Index := 0#32
  ![v316.toNat, 0, 0]

def k1_chk17 (v315 : BitVec 32) : Prop :=
  (∀ a, (k1_off50 v315) a + S1x2x128.size a ≤ S40000x2x128.size a)
theorem k1_off50_inb : ∀ (v315 : BitVec 32) (k1_hw17 : k1_chk17 v315), ∀ a, (k1_off50 v315) a + S1x2x128.size a ≤ S40000x2x128.size a := fun v315 k1_hw17 => k1_hw17

def k1_off51 (k1_t1 : Fin k1_t1_loop.trips) : Fin 3 → Nat :=
  let c0_i32_203 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v319 : BitVec 32 := Scalar.addi c0_i32_203 v86
  let c2_i32_204 : BitVec 32 := 2#32
  let v320 : BitVec 32 := Scalar.addi v319 c2_i32_204
  let v321 : Index := Scalar.indexCast v320
  let c0_205 : Index := 0#32
  let c0_206 : Index := 0#32
  ![v321.toNat, 0, 0]
def k1_off52 (k1_t1 : Fin k1_t1_loop.trips) : Fin 3 → Nat :=
  let c0_210 : Index := 0#32
  let c0_211 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_207 : BitVec 32 := 2#32
  let v325 : BitVec 32 := Scalar.addi v86 c2_i32_207
  let c8_i32_208 : BitVec 32 := 8#32
  let v326 : BitVec 32 := Scalar.muli v325 c8_i32_208
  let c1_i32_209 : BitVec 32 := 1#32
  let v327 : BitVec 32 := Scalar.addi v326 c1_i32_209
  let v328 : Index := Scalar.indexCast v327
  ![0, 0, v328.toNat]
def k1_off53 (v329 : BitVec 32) : Fin 3 → Nat :=
  let v330 : Index := Scalar.indexCast v329
  let c0_212 : Index := 0#32
  let c0_213 : Index := 0#32
  ![v330.toNat, 0, 0]

def k1_chk18 (v329 : BitVec 32) : Prop :=
  (∀ a, (k1_off53 v329) a + S1x2x128.size a ≤ S40000x2x128.size a)
theorem k1_off53_inb : ∀ (v329 : BitVec 32) (k1_hw18 : k1_chk18 v329), ∀ a, (k1_off53 v329) a + S1x2x128.size a ≤ S40000x2x128.size a := fun v329 k1_hw18 => k1_hw18

def k1_off54 (k1_t1 : Fin k1_t1_loop.trips) : Fin 3 → Nat :=
  let c200_i32_214 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v333 : BitVec 32 := Scalar.addi c200_i32_214 v86
  let c2_i32_215 : BitVec 32 := 2#32
  let v334 : BitVec 32 := Scalar.addi v333 c2_i32_215
  let v335 : Index := Scalar.indexCast v334
  let c0_216 : Index := 0#32
  let c0_217 : Index := 0#32
  ![v335.toNat, 0, 0]
def k1_off55 (k1_t1 : Fin k1_t1_loop.trips) : Fin 3 → Nat :=
  let c0_221 : Index := 0#32
  let c0_222 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_218 : BitVec 32 := 2#32
  let v339 : BitVec 32 := Scalar.addi v86 c2_i32_218
  let c8_i32_219 : BitVec 32 := 8#32
  let v340 : BitVec 32 := Scalar.muli v339 c8_i32_219
  let c2_i32_220 : BitVec 32 := 2#32
  let v341 : BitVec 32 := Scalar.addi v340 c2_i32_220
  let v342 : Index := Scalar.indexCast v341
  ![0, 0, v342.toNat]
def k1_off56 (v343 : BitVec 32) : Fin 3 → Nat :=
  let v344 : Index := Scalar.indexCast v343
  let c0_223 : Index := 0#32
  let c0_224 : Index := 0#32
  ![v344.toNat, 0, 0]

def k1_chk19 (v343 : BitVec 32) : Prop :=
  (∀ a, (k1_off56 v343) a + S1x2x128.size a ≤ S40000x2x128.size a)
theorem k1_off56_inb : ∀ (v343 : BitVec 32) (k1_hw19 : k1_chk19 v343), ∀ a, (k1_off56 v343) a + S1x2x128.size a ≤ S40000x2x128.size a := fun v343 k1_hw19 => k1_hw19

def k1_off57 (k1_t1 : Fin k1_t1_loop.trips) : Fin 3 → Nat :=
  let c400_i32_225 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v347 : BitVec 32 := Scalar.addi c400_i32_225 v86
  let c2_i32_226 : BitVec 32 := 2#32
  let v348 : BitVec 32 := Scalar.addi v347 c2_i32_226
  let v349 : Index := Scalar.indexCast v348
  let c0_227 : Index := 0#32
  let c0_228 : Index := 0#32
  ![v349.toNat, 0, 0]
def k1_off58 (k1_t1 : Fin k1_t1_loop.trips) : Fin 3 → Nat :=
  let c0_232 : Index := 0#32
  let c0_233 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_229 : BitVec 32 := 2#32
  let v353 : BitVec 32 := Scalar.addi v86 c2_i32_229
  let c8_i32_230 : BitVec 32 := 8#32
  let v354 : BitVec 32 := Scalar.muli v353 c8_i32_230
  let c3_i32_231 : BitVec 32 := 3#32
  let v355 : BitVec 32 := Scalar.addi v354 c3_i32_231
  let v356 : Index := Scalar.indexCast v355
  ![0, 0, v356.toNat]
def k1_off59 (v357 : BitVec 32) : Fin 3 → Nat :=
  let v358 : Index := Scalar.indexCast v357
  let c0_234 : Index := 0#32
  let c0_235 : Index := 0#32
  ![v358.toNat, 0, 0]

def k1_chk20 (v357 : BitVec 32) : Prop :=
  (∀ a, (k1_off59 v357) a + S1x2x128.size a ≤ S40000x2x128.size a)
theorem k1_off59_inb : ∀ (v357 : BitVec 32) (k1_hw20 : k1_chk20 v357), ∀ a, (k1_off59 v357) a + S1x2x128.size a ≤ S40000x2x128.size a := fun v357 k1_hw20 => k1_hw20

def k1_off60 (k1_t1 : Fin k1_t1_loop.trips) : Fin 3 → Nat :=
  let c600_i32_236 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v361 : BitVec 32 := Scalar.addi c600_i32_236 v86
  let c2_i32_237 : BitVec 32 := 2#32
  let v362 : BitVec 32 := Scalar.addi v361 c2_i32_237
  let v363 : Index := Scalar.indexCast v362
  let c0_238 : Index := 0#32
  let c0_239 : Index := 0#32
  ![v363.toNat, 0, 0]
def k1_off61 (k1_t1 : Fin k1_t1_loop.trips) : Fin 3 → Nat :=
  let c0_243 : Index := 0#32
  let c0_244 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_240 : BitVec 32 := 2#32
  let v367 : BitVec 32 := Scalar.addi v86 c2_i32_240
  let c8_i32_241 : BitVec 32 := 8#32
  let v368 : BitVec 32 := Scalar.muli v367 c8_i32_241
  let c4_i32_242 : BitVec 32 := 4#32
  let v369 : BitVec 32 := Scalar.addi v368 c4_i32_242
  let v370 : Index := Scalar.indexCast v369
  ![0, 0, v370.toNat]
def k1_off62 (v371 : BitVec 32) : Fin 3 → Nat :=
  let v372 : Index := Scalar.indexCast v371
  let c0_245 : Index := 0#32
  let c0_246 : Index := 0#32
  ![v372.toNat, 0, 0]

def k1_chk21 (v371 : BitVec 32) : Prop :=
  (∀ a, (k1_off62 v371) a + S1x2x128.size a ≤ S40000x2x128.size a)
theorem k1_off62_inb : ∀ (v371 : BitVec 32) (k1_hw21 : k1_chk21 v371), ∀ a, (k1_off62 v371) a + S1x2x128.size a ≤ S40000x2x128.size a := fun v371 k1_hw21 => k1_hw21

def k1_off63 (k1_t1 : Fin k1_t1_loop.trips) : Fin 3 → Nat :=
  let c800_i32_247 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v375 : BitVec 32 := Scalar.addi c800_i32_247 v86
  let c2_i32_248 : BitVec 32 := 2#32
  let v376 : BitVec 32 := Scalar.addi v375 c2_i32_248
  let v377 : Index := Scalar.indexCast v376
  let c0_249 : Index := 0#32
  let c0_250 : Index := 0#32
  ![v377.toNat, 0, 0]
def k1_off64 (k1_t1 : Fin k1_t1_loop.trips) : Fin 3 → Nat :=
  let c0_254 : Index := 0#32
  let c0_255 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_251 : BitVec 32 := 2#32
  let v381 : BitVec 32 := Scalar.addi v86 c2_i32_251
  let c8_i32_252 : BitVec 32 := 8#32
  let v382 : BitVec 32 := Scalar.muli v381 c8_i32_252
  let c5_i32_253 : BitVec 32 := 5#32
  let v383 : BitVec 32 := Scalar.addi v382 c5_i32_253
  let v384 : Index := Scalar.indexCast v383
  ![0, 0, v384.toNat]
def k1_off65 (v385 : BitVec 32) : Fin 3 → Nat :=
  let v386 : Index := Scalar.indexCast v385
  let c0_256 : Index := 0#32
  let c0_257 : Index := 0#32
  ![v386.toNat, 0, 0]

def k1_chk22 (v385 : BitVec 32) : Prop :=
  (∀ a, (k1_off65 v385) a + S1x2x128.size a ≤ S40000x2x128.size a)
theorem k1_off65_inb : ∀ (v385 : BitVec 32) (k1_hw22 : k1_chk22 v385), ∀ a, (k1_off65 v385) a + S1x2x128.size a ≤ S40000x2x128.size a := fun v385 k1_hw22 => k1_hw22

def k1_off66 (k1_t1 : Fin k1_t1_loop.trips) : Fin 3 → Nat :=
  let c1000_i32_258 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v389 : BitVec 32 := Scalar.addi c1000_i32_258 v86
  let c2_i32_259 : BitVec 32 := 2#32
  let v390 : BitVec 32 := Scalar.addi v389 c2_i32_259
  let v391 : Index := Scalar.indexCast v390
  let c0_260 : Index := 0#32
  let c0_261 : Index := 0#32
  ![v391.toNat, 0, 0]
def k1_off67 (k1_t1 : Fin k1_t1_loop.trips) : Fin 3 → Nat :=
  let c0_265 : Index := 0#32
  let c0_266 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_262 : BitVec 32 := 2#32
  let v395 : BitVec 32 := Scalar.addi v86 c2_i32_262
  let c8_i32_263 : BitVec 32 := 8#32
  let v396 : BitVec 32 := Scalar.muli v395 c8_i32_263
  let c6_i32_264 : BitVec 32 := 6#32
  let v397 : BitVec 32 := Scalar.addi v396 c6_i32_264
  let v398 : Index := Scalar.indexCast v397
  ![0, 0, v398.toNat]
def k1_off68 (v399 : BitVec 32) : Fin 3 → Nat :=
  let v400 : Index := Scalar.indexCast v399
  let c0_267 : Index := 0#32
  let c0_268 : Index := 0#32
  ![v400.toNat, 0, 0]

def k1_chk23 (v399 : BitVec 32) : Prop :=
  (∀ a, (k1_off68 v399) a + S1x2x128.size a ≤ S40000x2x128.size a)
theorem k1_off68_inb : ∀ (v399 : BitVec 32) (k1_hw23 : k1_chk23 v399), ∀ a, (k1_off68 v399) a + S1x2x128.size a ≤ S40000x2x128.size a := fun v399 k1_hw23 => k1_hw23

def k1_off69 (k1_t1 : Fin k1_t1_loop.trips) : Fin 3 → Nat :=
  let c1200_i32_269 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v403 : BitVec 32 := Scalar.addi c1200_i32_269 v86
  let c2_i32_270 : BitVec 32 := 2#32
  let v404 : BitVec 32 := Scalar.addi v403 c2_i32_270
  let v405 : Index := Scalar.indexCast v404
  let c0_271 : Index := 0#32
  let c0_272 : Index := 0#32
  ![v405.toNat, 0, 0]
def k1_off70 (k1_t1 : Fin k1_t1_loop.trips) : Fin 3 → Nat :=
  let c0_276 : Index := 0#32
  let c0_277 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_273 : BitVec 32 := 2#32
  let v409 : BitVec 32 := Scalar.addi v86 c2_i32_273
  let c8_i32_274 : BitVec 32 := 8#32
  let v410 : BitVec 32 := Scalar.muli v409 c8_i32_274
  let c7_i32_275 : BitVec 32 := 7#32
  let v411 : BitVec 32 := Scalar.addi v410 c7_i32_275
  let v412 : Index := Scalar.indexCast v411
  ![0, 0, v412.toNat]
def k1_off71 (v413 : BitVec 32) : Fin 3 → Nat :=
  let v414 : Index := Scalar.indexCast v413
  let c0_278 : Index := 0#32
  let c0_279 : Index := 0#32
  ![v414.toNat, 0, 0]

def k1_chk24 (v413 : BitVec 32) : Prop :=
  (∀ a, (k1_off71 v413) a + S1x2x128.size a ≤ S40000x2x128.size a)
theorem k1_off71_inb : ∀ (v413 : BitVec 32) (k1_hw24 : k1_chk24 v413), ∀ a, (k1_off71 v413) a + S1x2x128.size a ≤ S40000x2x128.size a := fun v413 k1_hw24 => k1_hw24

def k1_off72 (k1_t1 : Fin k1_t1_loop.trips) : Fin 3 → Nat :=
  let c1400_i32_280 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v417 : BitVec 32 := Scalar.addi c1400_i32_280 v86
  let c2_i32_281 : BitVec 32 := 2#32
  let v418 : BitVec 32 := Scalar.addi v417 c2_i32_281
  let v419 : Index := Scalar.indexCast v418
  let c0_282 : Index := 0#32
  let c0_283 : Index := 0#32
  ![v419.toNat, 0, 0]
def k1_off73 (k1_t1 : Fin k1_t1_loop.trips) : Fin 3 → Nat :=
  let c0_287 : Index := 0#32
  let c0_288 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_284 : BitVec 32 := 3#32
  let v423 : BitVec 32 := Scalar.addi v86 c3_i32_284
  let c8_i32_285 : BitVec 32 := 8#32
  let v424 : BitVec 32 := Scalar.muli v423 c8_i32_285
  let c0_i32_286 : BitVec 32 := 0#32
  let v425 : BitVec 32 := Scalar.addi v424 c0_i32_286
  let v426 : Index := Scalar.indexCast v425
  ![0, 0, v426.toNat]
def k1_off74 (v427 : BitVec 32) : Fin 3 → Nat :=
  let v428 : Index := Scalar.indexCast v427
  let c0_289 : Index := 0#32
  let c0_290 : Index := 0#32
  ![v428.toNat, 0, 0]

def k1_chk25 (v427 : BitVec 32) : Prop :=
  (∀ a, (k1_off74 v427) a + S1x2x128.size a ≤ S40000x2x128.size a)
theorem k1_off74_inb : ∀ (v427 : BitVec 32) (k1_hw25 : k1_chk25 v427), ∀ a, (k1_off74 v427) a + S1x2x128.size a ≤ S40000x2x128.size a := fun v427 k1_hw25 => k1_hw25

def k1_off75 (k1_t1 : Fin k1_t1_loop.trips) : Fin 3 → Nat :=
  let c0_i32_291 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v431 : BitVec 32 := Scalar.addi c0_i32_291 v86
  let c3_i32_292 : BitVec 32 := 3#32
  let v432 : BitVec 32 := Scalar.addi v431 c3_i32_292
  let v433 : Index := Scalar.indexCast v432
  let c0_293 : Index := 0#32
  let c0_294 : Index := 0#32
  ![v433.toNat, 0, 0]
def k1_off76 (k1_t1 : Fin k1_t1_loop.trips) : Fin 3 → Nat :=
  let c0_298 : Index := 0#32
  let c0_299 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_295 : BitVec 32 := 3#32
  let v437 : BitVec 32 := Scalar.addi v86 c3_i32_295
  let c8_i32_296 : BitVec 32 := 8#32
  let v438 : BitVec 32 := Scalar.muli v437 c8_i32_296
  let c1_i32_297 : BitVec 32 := 1#32
  let v439 : BitVec 32 := Scalar.addi v438 c1_i32_297
  let v440 : Index := Scalar.indexCast v439
  ![0, 0, v440.toNat]
def k1_off77 (v441 : BitVec 32) : Fin 3 → Nat :=
  let v442 : Index := Scalar.indexCast v441
  let c0_300 : Index := 0#32
  let c0_301 : Index := 0#32
  ![v442.toNat, 0, 0]

def k1_chk26 (v441 : BitVec 32) : Prop :=
  (∀ a, (k1_off77 v441) a + S1x2x128.size a ≤ S40000x2x128.size a)
theorem k1_off77_inb : ∀ (v441 : BitVec 32) (k1_hw26 : k1_chk26 v441), ∀ a, (k1_off77 v441) a + S1x2x128.size a ≤ S40000x2x128.size a := fun v441 k1_hw26 => k1_hw26

def k1_off78 (k1_t1 : Fin k1_t1_loop.trips) : Fin 3 → Nat :=
  let c200_i32_302 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v445 : BitVec 32 := Scalar.addi c200_i32_302 v86
  let c3_i32_303 : BitVec 32 := 3#32
  let v446 : BitVec 32 := Scalar.addi v445 c3_i32_303
  let v447 : Index := Scalar.indexCast v446
  let c0_304 : Index := 0#32
  let c0_305 : Index := 0#32
  ![v447.toNat, 0, 0]
def k1_off79 (k1_t1 : Fin k1_t1_loop.trips) : Fin 3 → Nat :=
  let c0_309 : Index := 0#32
  let c0_310 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_306 : BitVec 32 := 3#32
  let v451 : BitVec 32 := Scalar.addi v86 c3_i32_306
  let c8_i32_307 : BitVec 32 := 8#32
  let v452 : BitVec 32 := Scalar.muli v451 c8_i32_307
  let c2_i32_308 : BitVec 32 := 2#32
  let v453 : BitVec 32 := Scalar.addi v452 c2_i32_308
  let v454 : Index := Scalar.indexCast v453
  ![0, 0, v454.toNat]
def k1_off80 (v455 : BitVec 32) : Fin 3 → Nat :=
  let v456 : Index := Scalar.indexCast v455
  let c0_311 : Index := 0#32
  let c0_312 : Index := 0#32
  ![v456.toNat, 0, 0]

def k1_chk27 (v455 : BitVec 32) : Prop :=
  (∀ a, (k1_off80 v455) a + S1x2x128.size a ≤ S40000x2x128.size a)
theorem k1_off80_inb : ∀ (v455 : BitVec 32) (k1_hw27 : k1_chk27 v455), ∀ a, (k1_off80 v455) a + S1x2x128.size a ≤ S40000x2x128.size a := fun v455 k1_hw27 => k1_hw27

def k1_off81 (k1_t1 : Fin k1_t1_loop.trips) : Fin 3 → Nat :=
  let c400_i32_313 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v459 : BitVec 32 := Scalar.addi c400_i32_313 v86
  let c3_i32_314 : BitVec 32 := 3#32
  let v460 : BitVec 32 := Scalar.addi v459 c3_i32_314
  let v461 : Index := Scalar.indexCast v460
  let c0_315 : Index := 0#32
  let c0_316 : Index := 0#32
  ![v461.toNat, 0, 0]
def k1_off82 (k1_t1 : Fin k1_t1_loop.trips) : Fin 3 → Nat :=
  let c0_320 : Index := 0#32
  let c0_321 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_317 : BitVec 32 := 3#32
  let v465 : BitVec 32 := Scalar.addi v86 c3_i32_317
  let c8_i32_318 : BitVec 32 := 8#32
  let v466 : BitVec 32 := Scalar.muli v465 c8_i32_318
  let c3_i32_319 : BitVec 32 := 3#32
  let v467 : BitVec 32 := Scalar.addi v466 c3_i32_319
  let v468 : Index := Scalar.indexCast v467
  ![0, 0, v468.toNat]
def k1_off83 (v469 : BitVec 32) : Fin 3 → Nat :=
  let v470 : Index := Scalar.indexCast v469
  let c0_322 : Index := 0#32
  let c0_323 : Index := 0#32
  ![v470.toNat, 0, 0]

def k1_chk28 (v469 : BitVec 32) : Prop :=
  (∀ a, (k1_off83 v469) a + S1x2x128.size a ≤ S40000x2x128.size a)
theorem k1_off83_inb : ∀ (v469 : BitVec 32) (k1_hw28 : k1_chk28 v469), ∀ a, (k1_off83 v469) a + S1x2x128.size a ≤ S40000x2x128.size a := fun v469 k1_hw28 => k1_hw28

def k1_off84 (k1_t1 : Fin k1_t1_loop.trips) : Fin 3 → Nat :=
  let c600_i32_324 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v473 : BitVec 32 := Scalar.addi c600_i32_324 v86
  let c3_i32_325 : BitVec 32 := 3#32
  let v474 : BitVec 32 := Scalar.addi v473 c3_i32_325
  let v475 : Index := Scalar.indexCast v474
  let c0_326 : Index := 0#32
  let c0_327 : Index := 0#32
  ![v475.toNat, 0, 0]
def k1_off85 (k1_t1 : Fin k1_t1_loop.trips) : Fin 3 → Nat :=
  let c0_331 : Index := 0#32
  let c0_332 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_328 : BitVec 32 := 3#32
  let v479 : BitVec 32 := Scalar.addi v86 c3_i32_328
  let c8_i32_329 : BitVec 32 := 8#32
  let v480 : BitVec 32 := Scalar.muli v479 c8_i32_329
  let c4_i32_330 : BitVec 32 := 4#32
  let v481 : BitVec 32 := Scalar.addi v480 c4_i32_330
  let v482 : Index := Scalar.indexCast v481
  ![0, 0, v482.toNat]
def k1_off86 (v483 : BitVec 32) : Fin 3 → Nat :=
  let v484 : Index := Scalar.indexCast v483
  let c0_333 : Index := 0#32
  let c0_334 : Index := 0#32
  ![v484.toNat, 0, 0]

def k1_chk29 (v483 : BitVec 32) : Prop :=
  (∀ a, (k1_off86 v483) a + S1x2x128.size a ≤ S40000x2x128.size a)
theorem k1_off86_inb : ∀ (v483 : BitVec 32) (k1_hw29 : k1_chk29 v483), ∀ a, (k1_off86 v483) a + S1x2x128.size a ≤ S40000x2x128.size a := fun v483 k1_hw29 => k1_hw29

def k1_off87 (k1_t1 : Fin k1_t1_loop.trips) : Fin 3 → Nat :=
  let c800_i32_335 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v487 : BitVec 32 := Scalar.addi c800_i32_335 v86
  let c3_i32_336 : BitVec 32 := 3#32
  let v488 : BitVec 32 := Scalar.addi v487 c3_i32_336
  let v489 : Index := Scalar.indexCast v488
  let c0_337 : Index := 0#32
  let c0_338 : Index := 0#32
  ![v489.toNat, 0, 0]
def k1_off88 (k1_t1 : Fin k1_t1_loop.trips) : Fin 3 → Nat :=
  let c0_342 : Index := 0#32
  let c0_343 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_339 : BitVec 32 := 3#32
  let v493 : BitVec 32 := Scalar.addi v86 c3_i32_339
  let c8_i32_340 : BitVec 32 := 8#32
  let v494 : BitVec 32 := Scalar.muli v493 c8_i32_340
  let c5_i32_341 : BitVec 32 := 5#32
  let v495 : BitVec 32 := Scalar.addi v494 c5_i32_341
  let v496 : Index := Scalar.indexCast v495
  ![0, 0, v496.toNat]
def k1_off89 (v497 : BitVec 32) : Fin 3 → Nat :=
  let v498 : Index := Scalar.indexCast v497
  let c0_344 : Index := 0#32
  let c0_345 : Index := 0#32
  ![v498.toNat, 0, 0]

def k1_chk30 (v497 : BitVec 32) : Prop :=
  (∀ a, (k1_off89 v497) a + S1x2x128.size a ≤ S40000x2x128.size a)
theorem k1_off89_inb : ∀ (v497 : BitVec 32) (k1_hw30 : k1_chk30 v497), ∀ a, (k1_off89 v497) a + S1x2x128.size a ≤ S40000x2x128.size a := fun v497 k1_hw30 => k1_hw30

def k1_off90 (k1_t1 : Fin k1_t1_loop.trips) : Fin 3 → Nat :=
  let c1000_i32_346 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v501 : BitVec 32 := Scalar.addi c1000_i32_346 v86
  let c3_i32_347 : BitVec 32 := 3#32
  let v502 : BitVec 32 := Scalar.addi v501 c3_i32_347
  let v503 : Index := Scalar.indexCast v502
  let c0_348 : Index := 0#32
  let c0_349 : Index := 0#32
  ![v503.toNat, 0, 0]
def k1_off91 (k1_t1 : Fin k1_t1_loop.trips) : Fin 3 → Nat :=
  let c0_353 : Index := 0#32
  let c0_354 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_350 : BitVec 32 := 3#32
  let v507 : BitVec 32 := Scalar.addi v86 c3_i32_350
  let c8_i32_351 : BitVec 32 := 8#32
  let v508 : BitVec 32 := Scalar.muli v507 c8_i32_351
  let c6_i32_352 : BitVec 32 := 6#32
  let v509 : BitVec 32 := Scalar.addi v508 c6_i32_352
  let v510 : Index := Scalar.indexCast v509
  ![0, 0, v510.toNat]
def k1_off92 (v511 : BitVec 32) : Fin 3 → Nat :=
  let v512 : Index := Scalar.indexCast v511
  let c0_355 : Index := 0#32
  let c0_356 : Index := 0#32
  ![v512.toNat, 0, 0]

def k1_chk31 (v511 : BitVec 32) : Prop :=
  (∀ a, (k1_off92 v511) a + S1x2x128.size a ≤ S40000x2x128.size a)
theorem k1_off92_inb : ∀ (v511 : BitVec 32) (k1_hw31 : k1_chk31 v511), ∀ a, (k1_off92 v511) a + S1x2x128.size a ≤ S40000x2x128.size a := fun v511 k1_hw31 => k1_hw31

def k1_off93 (k1_t1 : Fin k1_t1_loop.trips) : Fin 3 → Nat :=
  let c1200_i32_357 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v515 : BitVec 32 := Scalar.addi c1200_i32_357 v86
  let c3_i32_358 : BitVec 32 := 3#32
  let v516 : BitVec 32 := Scalar.addi v515 c3_i32_358
  let v517 : Index := Scalar.indexCast v516
  let c0_359 : Index := 0#32
  let c0_360 : Index := 0#32
  ![v517.toNat, 0, 0]
def k1_off94 (k1_t1 : Fin k1_t1_loop.trips) : Fin 3 → Nat :=
  let c0_364 : Index := 0#32
  let c0_365 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_361 : BitVec 32 := 3#32
  let v521 : BitVec 32 := Scalar.addi v86 c3_i32_361
  let c8_i32_362 : BitVec 32 := 8#32
  let v522 : BitVec 32 := Scalar.muli v521 c8_i32_362
  let c7_i32_363 : BitVec 32 := 7#32
  let v523 : BitVec 32 := Scalar.addi v522 c7_i32_363
  let v524 : Index := Scalar.indexCast v523
  ![0, 0, v524.toNat]
def k1_off95 (v525 : BitVec 32) : Fin 3 → Nat :=
  let v526 : Index := Scalar.indexCast v525
  let c0_366 : Index := 0#32
  let c0_367 : Index := 0#32
  ![v526.toNat, 0, 0]

def k1_chk32 (v525 : BitVec 32) : Prop :=
  (∀ a, (k1_off95 v525) a + S1x2x128.size a ≤ S40000x2x128.size a)
theorem k1_off95_inb : ∀ (v525 : BitVec 32) (k1_hw32 : k1_chk32 v525), ∀ a, (k1_off95 v525) a + S1x2x128.size a ≤ S40000x2x128.size a := fun v525 k1_hw32 => k1_hw32

def k1_off96 (k1_t1 : Fin k1_t1_loop.trips) : Fin 3 → Nat :=
  let c1400_i32_368 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v529 : BitVec 32 := Scalar.addi c1400_i32_368 v86
  let c3_i32_369 : BitVec 32 := 3#32
  let v530 : BitVec 32 := Scalar.addi v529 c3_i32_369
  let v531 : Index := Scalar.indexCast v530
  let c0_370 : Index := 0#32
  let c0_371 : Index := 0#32
  ![v531.toNat, 0, 0]
def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .smem S1x1x1600 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S768x8 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40000x2x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x4x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

@[reducible] def k2_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k2_off1 (k2_t1 : Fin k2_t1_loop.trips) : Fin 2 → Nat :=
  let c0_i32 : BitVec 32 := 0#32
  let c1_i32 : BitVec 32 := 1#32
  let arg7 : BitVec 32 := Scf.iv c0_i32 c1_i32 k2_t1
  let v2 : Index := Scalar.indexCast arg7
  let c0 : Index := 0#32
  ![v2.toNat, 0]
def k2_off2 (v5 : BitVec 32) : Fin 3 → Nat :=
  let v6 : Index := Scalar.indexCast v5
  let c0_2 : Index := 0#32
  let c0_3 : Index := 0#32
  ![v6.toNat, 0, 0]

def k2_chk1 (v5 : BitVec 32) : Prop :=
  (∀ a, (k2_off2 v5) a + S1x4x128.size a ≤ S10000x4x128.size a)
theorem k2_off2_inb : ∀ (v5 : BitVec 32) (k2_hw1 : k2_chk1 v5), ∀ a, (k2_off2 v5) a + S1x4x128.size a ≤ S10000x4x128.size a := fun v5 k2_hw1 => k2_hw1

def k2_off3 (k2_t1 : Fin k2_t1_loop.trips) : Fin 2 → Nat :=
  let c0_i32 : BitVec 32 := 0#32
  let c1_i32 : BitVec 32 := 1#32
  let arg7 : BitVec 32 := Scf.iv c0_i32 c1_i32 k2_t1
  let v12 : Index := Scalar.indexCast arg7
  let c0_4 : Index := 0#32
  ![v12.toNat, 0]
def k2_off4 (k2_t1 : Fin k2_t1_loop.trips) : Fin 2 → Nat :=
  let c0_i32 : BitVec 32 := 0#32
  let c1_i32 : BitVec 32 := 1#32
  let arg7 : BitVec 32 := Scf.iv c0_i32 c1_i32 k2_t1
  let v15 : Index := Scalar.indexCast arg7
  let c1 : Index := 1#32
  ![v15.toNat, 1]
def k2_off5 (v18 : BitVec 32) : Fin 3 → Nat :=
  let v19 : Index := Scalar.indexCast v18
  let c0_7 : Index := 0#32
  let c0_8 : Index := 0#32
  ![v19.toNat, 0, 0]

def k2_chk2 (v18 : BitVec 32) : Prop :=
  (∀ a, (k2_off5 v18) a + S1x4x128.size a ≤ S10000x4x128.size a)
theorem k2_off5_inb : ∀ (v18 : BitVec 32) (k2_hw2 : k2_chk2 v18), ∀ a, (k2_off5 v18) a + S1x4x128.size a ≤ S10000x4x128.size a := fun v18 k2_hw2 => k2_hw2

def k2_off6 (k2_t1 : Fin k2_t1_loop.trips) : Fin 2 → Nat :=
  let c0_i32 : BitVec 32 := 0#32
  let c1_i32 : BitVec 32 := 1#32
  let arg7 : BitVec 32 := Scf.iv c0_i32 c1_i32 k2_t1
  let v25 : Index := Scalar.indexCast arg7
  let c1_9 : Index := 1#32
  ![v25.toNat, 1]
def k2_off7 (k2_t1 : Fin k2_t1_loop.trips) : Fin 2 → Nat :=
  let c0_i32 : BitVec 32 := 0#32
  let c1_i32 : BitVec 32 := 1#32
  let arg7 : BitVec 32 := Scf.iv c0_i32 c1_i32 k2_t1
  let v28 : Index := Scalar.indexCast arg7
  let c2 : Index := 2#32
  ![v28.toNat, 2]
def k2_off8 (v31 : BitVec 32) : Fin 3 → Nat :=
  let v32 : Index := Scalar.indexCast v31
  let c0_11 : Index := 0#32
  let c0_12 : Index := 0#32
  ![v32.toNat, 0, 0]

def k2_chk3 (v31 : BitVec 32) : Prop :=
  (∀ a, (k2_off8 v31) a + S1x4x128.size a ≤ S10000x4x128.size a)
theorem k2_off8_inb : ∀ (v31 : BitVec 32) (k2_hw3 : k2_chk3 v31), ∀ a, (k2_off8 v31) a + S1x4x128.size a ≤ S10000x4x128.size a := fun v31 k2_hw3 => k2_hw3

def k2_off9 (k2_t1 : Fin k2_t1_loop.trips) : Fin 2 → Nat :=
  let c0_i32 : BitVec 32 := 0#32
  let c1_i32 : BitVec 32 := 1#32
  let arg7 : BitVec 32 := Scf.iv c0_i32 c1_i32 k2_t1
  let v38 : Index := Scalar.indexCast arg7
  let c2_13 : Index := 2#32
  ![v38.toNat, 2]
def k2_off10 (k2_t1 : Fin k2_t1_loop.trips) : Fin 2 → Nat :=
  let c0_i32 : BitVec 32 := 0#32
  let c1_i32 : BitVec 32 := 1#32
  let arg7 : BitVec 32 := Scf.iv c0_i32 c1_i32 k2_t1
  let v41 : Index := Scalar.indexCast arg7
  let c3 : Index := 3#32
  ![v41.toNat, 3]
def k2_off11 (v44 : BitVec 32) : Fin 3 → Nat :=
  let v45 : Index := Scalar.indexCast v44
  let c0_15 : Index := 0#32
  let c0_16 : Index := 0#32
  ![v45.toNat, 0, 0]

def k2_chk4 (v44 : BitVec 32) : Prop :=
  (∀ a, (k2_off11 v44) a + S1x4x128.size a ≤ S10000x4x128.size a)
theorem k2_off11_inb : ∀ (v44 : BitVec 32) (k2_hw4 : k2_chk4 v44), ∀ a, (k2_off11 v44) a + S1x4x128.size a ≤ S10000x4x128.size a := fun v44 k2_hw4 => k2_hw4

def k2_off12 (k2_t1 : Fin k2_t1_loop.trips) : Fin 2 → Nat :=
  let c0_i32 : BitVec 32 := 0#32
  let c1_i32 : BitVec 32 := 1#32
  let arg7 : BitVec 32 := Scf.iv c0_i32 c1_i32 k2_t1
  let v51 : Index := Scalar.indexCast arg7
  let c3_17 : Index := 3#32
  ![v51.toNat, 3]
def k2_off13 (k2_t1 : Fin k2_t1_loop.trips) : Fin 2 → Nat :=
  let c0_i32 : BitVec 32 := 0#32
  let c1_i32 : BitVec 32 := 1#32
  let arg7 : BitVec 32 := Scf.iv c0_i32 c1_i32 k2_t1
  let v54 : Index := Scalar.indexCast arg7
  let c4 : Index := 4#32
  ![v54.toNat, 4]
def k2_off14 (v57 : BitVec 32) : Fin 3 → Nat :=
  let v58 : Index := Scalar.indexCast v57
  let c0_19 : Index := 0#32
  let c0_20 : Index := 0#32
  ![v58.toNat, 0, 0]

def k2_chk5 (v57 : BitVec 32) : Prop :=
  (∀ a, (k2_off14 v57) a + S1x4x128.size a ≤ S10000x4x128.size a)
theorem k2_off14_inb : ∀ (v57 : BitVec 32) (k2_hw5 : k2_chk5 v57), ∀ a, (k2_off14 v57) a + S1x4x128.size a ≤ S10000x4x128.size a := fun v57 k2_hw5 => k2_hw5

def k2_off15 (k2_t1 : Fin k2_t1_loop.trips) : Fin 2 → Nat :=
  let c0_i32 : BitVec 32 := 0#32
  let c1_i32 : BitVec 32 := 1#32
  let arg7 : BitVec 32 := Scf.iv c0_i32 c1_i32 k2_t1
  let v64 : Index := Scalar.indexCast arg7
  let c4_21 : Index := 4#32
  ![v64.toNat, 4]
def k2_off16 (k2_t1 : Fin k2_t1_loop.trips) : Fin 2 → Nat :=
  let c0_i32 : BitVec 32 := 0#32
  let c1_i32 : BitVec 32 := 1#32
  let arg7 : BitVec 32 := Scf.iv c0_i32 c1_i32 k2_t1
  let v67 : Index := Scalar.indexCast arg7
  let c5 : Index := 5#32
  ![v67.toNat, 5]
def k2_off17 (v70 : BitVec 32) : Fin 3 → Nat :=
  let v71 : Index := Scalar.indexCast v70
  let c0_23 : Index := 0#32
  let c0_24 : Index := 0#32
  ![v71.toNat, 0, 0]

def k2_chk6 (v70 : BitVec 32) : Prop :=
  (∀ a, (k2_off17 v70) a + S1x4x128.size a ≤ S10000x4x128.size a)
theorem k2_off17_inb : ∀ (v70 : BitVec 32) (k2_hw6 : k2_chk6 v70), ∀ a, (k2_off17 v70) a + S1x4x128.size a ≤ S10000x4x128.size a := fun v70 k2_hw6 => k2_hw6

def k2_off18 (k2_t1 : Fin k2_t1_loop.trips) : Fin 2 → Nat :=
  let c0_i32 : BitVec 32 := 0#32
  let c1_i32 : BitVec 32 := 1#32
  let arg7 : BitVec 32 := Scf.iv c0_i32 c1_i32 k2_t1
  let v77 : Index := Scalar.indexCast arg7
  let c5_25 : Index := 5#32
  ![v77.toNat, 5]
def k2_off19 (k2_t1 : Fin k2_t1_loop.trips) : Fin 2 → Nat :=
  let c0_i32 : BitVec 32 := 0#32
  let c1_i32 : BitVec 32 := 1#32
  let arg7 : BitVec 32 := Scf.iv c0_i32 c1_i32 k2_t1
  let v80 : Index := Scalar.indexCast arg7
  let c6 : Index := 6#32
  ![v80.toNat, 6]
def k2_off20 (v83 : BitVec 32) : Fin 3 → Nat :=
  let v84 : Index := Scalar.indexCast v83
  let c0_27 : Index := 0#32
  let c0_28 : Index := 0#32
  ![v84.toNat, 0, 0]

def k2_chk7 (v83 : BitVec 32) : Prop :=
  (∀ a, (k2_off20 v83) a + S1x4x128.size a ≤ S10000x4x128.size a)
theorem k2_off20_inb : ∀ (v83 : BitVec 32) (k2_hw7 : k2_chk7 v83), ∀ a, (k2_off20 v83) a + S1x4x128.size a ≤ S10000x4x128.size a := fun v83 k2_hw7 => k2_hw7

def k2_off21 (k2_t1 : Fin k2_t1_loop.trips) : Fin 2 → Nat :=
  let c0_i32 : BitVec 32 := 0#32
  let c1_i32 : BitVec 32 := 1#32
  let arg7 : BitVec 32 := Scf.iv c0_i32 c1_i32 k2_t1
  let v90 : Index := Scalar.indexCast arg7
  let c6_29 : Index := 6#32
  ![v90.toNat, 6]
def k2_off22 (k2_t1 : Fin k2_t1_loop.trips) : Fin 2 → Nat :=
  let c0_i32 : BitVec 32 := 0#32
  let c1_i32 : BitVec 32 := 1#32
  let arg7 : BitVec 32 := Scf.iv c0_i32 c1_i32 k2_t1
  let v93 : Index := Scalar.indexCast arg7
  let c7 : Index := 7#32
  ![v93.toNat, 7]
def k2_off23 (v96 : BitVec 32) : Fin 3 → Nat :=
  let v97 : Index := Scalar.indexCast v96
  let c0_31 : Index := 0#32
  let c0_32 : Index := 0#32
  ![v97.toNat, 0, 0]

def k2_chk8 (v96 : BitVec 32) : Prop :=
  (∀ a, (k2_off23 v96) a + S1x4x128.size a ≤ S10000x4x128.size a)
theorem k2_off23_inb : ∀ (v96 : BitVec 32) (k2_hw8 : k2_chk8 v96), ∀ a, (k2_off23 v96) a + S1x4x128.size a ≤ S10000x4x128.size a := fun v96 k2_hw8 => k2_hw8

def k2_off24 (k2_t1 : Fin k2_t1_loop.trips) : Fin 2 → Nat :=
  let c0_i32 : BitVec 32 := 0#32
  let c1_i32 : BitVec 32 := 1#32
  let arg7 : BitVec 32 := Scf.iv c0_i32 c1_i32 k2_t1
  let v103 : Index := Scalar.indexCast arg7
  let c7_33 : Index := 7#32
  ![v103.toNat, 7]
def k2_off25 (k2_t1 : Fin k2_t1_loop.trips) : Fin 2 → Nat :=
  let c0_i32 : BitVec 32 := 0#32
  let c1_i32 : BitVec 32 := 1#32
  let arg7 : BitVec 32 := Scf.iv c0_i32 c1_i32 k2_t1
  let v106 : Index := Scalar.indexCast arg7
  let c8 : Index := 8#32
  ![v106.toNat, 8]
def k2_off26 (v109 : BitVec 32) : Fin 3 → Nat :=
  let v110 : Index := Scalar.indexCast v109
  let c0_35 : Index := 0#32
  let c0_36 : Index := 0#32
  ![v110.toNat, 0, 0]

def k2_chk9 (v109 : BitVec 32) : Prop :=
  (∀ a, (k2_off26 v109) a + S1x4x128.size a ≤ S10000x4x128.size a)
theorem k2_off26_inb : ∀ (v109 : BitVec 32) (k2_hw9 : k2_chk9 v109), ∀ a, (k2_off26 v109) a + S1x4x128.size a ≤ S10000x4x128.size a := fun v109 k2_hw9 => k2_hw9

def k2_off27 (k2_t1 : Fin k2_t1_loop.trips) : Fin 2 → Nat :=
  let c0_i32 : BitVec 32 := 0#32
  let c1_i32 : BitVec 32 := 1#32
  let arg7 : BitVec 32 := Scf.iv c0_i32 c1_i32 k2_t1
  let v116 : Index := Scalar.indexCast arg7
  let c8_37 : Index := 8#32
  ![v116.toNat, 8]
def k2_off28 (k2_t1 : Fin k2_t1_loop.trips) : Fin 2 → Nat :=
  let c0_i32 : BitVec 32 := 0#32
  let c1_i32 : BitVec 32 := 1#32
  let arg7 : BitVec 32 := Scf.iv c0_i32 c1_i32 k2_t1
  let v119 : Index := Scalar.indexCast arg7
  let c9 : Index := 9#32
  ![v119.toNat, 9]
def k2_off29 (v122 : BitVec 32) : Fin 3 → Nat :=
  let v123 : Index := Scalar.indexCast v122
  let c0_39 : Index := 0#32
  let c0_40 : Index := 0#32
  ![v123.toNat, 0, 0]

def k2_chk10 (v122 : BitVec 32) : Prop :=
  (∀ a, (k2_off29 v122) a + S1x4x128.size a ≤ S10000x4x128.size a)
theorem k2_off29_inb : ∀ (v122 : BitVec 32) (k2_hw10 : k2_chk10 v122), ∀ a, (k2_off29 v122) a + S1x4x128.size a ≤ S10000x4x128.size a := fun v122 k2_hw10 => k2_hw10

def k2_off30 (k2_t1 : Fin k2_t1_loop.trips) : Fin 2 → Nat :=
  let c0_i32 : BitVec 32 := 0#32
  let c1_i32 : BitVec 32 := 1#32
  let arg7 : BitVec 32 := Scf.iv c0_i32 c1_i32 k2_t1
  let v129 : Index := Scalar.indexCast arg7
  let c9_41 : Index := 9#32
  ![v129.toNat, 9]
def k2_off31 (k2_t1 : Fin k2_t1_loop.trips) : Fin 2 → Nat :=
  let c0_i32 : BitVec 32 := 0#32
  let c1_i32 : BitVec 32 := 1#32
  let arg7 : BitVec 32 := Scf.iv c0_i32 c1_i32 k2_t1
  let v132 : Index := Scalar.indexCast arg7
  let c10 : Index := 10#32
  ![v132.toNat, 10]
def k2_off32 (v135 : BitVec 32) : Fin 3 → Nat :=
  let v136 : Index := Scalar.indexCast v135
  let c0_43 : Index := 0#32
  let c0_44 : Index := 0#32
  ![v136.toNat, 0, 0]

def k2_chk11 (v135 : BitVec 32) : Prop :=
  (∀ a, (k2_off32 v135) a + S1x4x128.size a ≤ S10000x4x128.size a)
theorem k2_off32_inb : ∀ (v135 : BitVec 32) (k2_hw11 : k2_chk11 v135), ∀ a, (k2_off32 v135) a + S1x4x128.size a ≤ S10000x4x128.size a := fun v135 k2_hw11 => k2_hw11

def k2_off33 (k2_t1 : Fin k2_t1_loop.trips) : Fin 2 → Nat :=
  let c0_i32 : BitVec 32 := 0#32
  let c1_i32 : BitVec 32 := 1#32
  let arg7 : BitVec 32 := Scf.iv c0_i32 c1_i32 k2_t1
  let v142 : Index := Scalar.indexCast arg7
  let c10_45 : Index := 10#32
  ![v142.toNat, 10]
def k2_off34 (k2_t1 : Fin k2_t1_loop.trips) : Fin 2 → Nat :=
  let c0_i32 : BitVec 32 := 0#32
  let c1_i32 : BitVec 32 := 1#32
  let arg7 : BitVec 32 := Scf.iv c0_i32 c1_i32 k2_t1
  let v145 : Index := Scalar.indexCast arg7
  let c11 : Index := 11#32
  ![v145.toNat, 11]
def k2_off35 (v148 : BitVec 32) : Fin 3 → Nat :=
  let v149 : Index := Scalar.indexCast v148
  let c0_47 : Index := 0#32
  let c0_48 : Index := 0#32
  ![v149.toNat, 0, 0]

def k2_chk12 (v148 : BitVec 32) : Prop :=
  (∀ a, (k2_off35 v148) a + S1x4x128.size a ≤ S10000x4x128.size a)
theorem k2_off35_inb : ∀ (v148 : BitVec 32) (k2_hw12 : k2_chk12 v148), ∀ a, (k2_off35 v148) a + S1x4x128.size a ≤ S10000x4x128.size a := fun v148 k2_hw12 => k2_hw12

def k2_off36 (k2_t1 : Fin k2_t1_loop.trips) : Fin 2 → Nat :=
  let c0_i32 : BitVec 32 := 0#32
  let c1_i32 : BitVec 32 := 1#32
  let arg7 : BitVec 32 := Scf.iv c0_i32 c1_i32 k2_t1
  let v155 : Index := Scalar.indexCast arg7
  let c11_49 : Index := 11#32
  ![v155.toNat, 11]
def k2_off37 (k2_t1 : Fin k2_t1_loop.trips) : Fin 2 → Nat :=
  let c0_i32 : BitVec 32 := 0#32
  let c1_i32 : BitVec 32 := 1#32
  let arg7 : BitVec 32 := Scf.iv c0_i32 c1_i32 k2_t1
  let v158 : Index := Scalar.indexCast arg7
  let c12 : Index := 12#32
  ![v158.toNat, 12]
def k2_off38 (v161 : BitVec 32) : Fin 3 → Nat :=
  let v162 : Index := Scalar.indexCast v161
  let c0_51 : Index := 0#32
  let c0_52 : Index := 0#32
  ![v162.toNat, 0, 0]

def k2_chk13 (v161 : BitVec 32) : Prop :=
  (∀ a, (k2_off38 v161) a + S1x4x128.size a ≤ S10000x4x128.size a)
theorem k2_off38_inb : ∀ (v161 : BitVec 32) (k2_hw13 : k2_chk13 v161), ∀ a, (k2_off38 v161) a + S1x4x128.size a ≤ S10000x4x128.size a := fun v161 k2_hw13 => k2_hw13

def k2_off39 (k2_t1 : Fin k2_t1_loop.trips) : Fin 2 → Nat :=
  let c0_i32 : BitVec 32 := 0#32
  let c1_i32 : BitVec 32 := 1#32
  let arg7 : BitVec 32 := Scf.iv c0_i32 c1_i32 k2_t1
  let v168 : Index := Scalar.indexCast arg7
  let c12_53 : Index := 12#32
  ![v168.toNat, 12]
def k2_off40 (k2_t1 : Fin k2_t1_loop.trips) : Fin 2 → Nat :=
  let c0_i32 : BitVec 32 := 0#32
  let c1_i32 : BitVec 32 := 1#32
  let arg7 : BitVec 32 := Scf.iv c0_i32 c1_i32 k2_t1
  let v171 : Index := Scalar.indexCast arg7
  let c13 : Index := 13#32
  ![v171.toNat, 13]
def k2_off41 (v174 : BitVec 32) : Fin 3 → Nat :=
  let v175 : Index := Scalar.indexCast v174
  let c0_55 : Index := 0#32
  let c0_56 : Index := 0#32
  ![v175.toNat, 0, 0]

def k2_chk14 (v174 : BitVec 32) : Prop :=
  (∀ a, (k2_off41 v174) a + S1x4x128.size a ≤ S10000x4x128.size a)
theorem k2_off41_inb : ∀ (v174 : BitVec 32) (k2_hw14 : k2_chk14 v174), ∀ a, (k2_off41 v174) a + S1x4x128.size a ≤ S10000x4x128.size a := fun v174 k2_hw14 => k2_hw14

def k2_off42 (k2_t1 : Fin k2_t1_loop.trips) : Fin 2 → Nat :=
  let c0_i32 : BitVec 32 := 0#32
  let c1_i32 : BitVec 32 := 1#32
  let arg7 : BitVec 32 := Scf.iv c0_i32 c1_i32 k2_t1
  let v181 : Index := Scalar.indexCast arg7
  let c13_57 : Index := 13#32
  ![v181.toNat, 13]
def k2_off43 (k2_t1 : Fin k2_t1_loop.trips) : Fin 2 → Nat :=
  let c0_i32 : BitVec 32 := 0#32
  let c1_i32 : BitVec 32 := 1#32
  let arg7 : BitVec 32 := Scf.iv c0_i32 c1_i32 k2_t1
  let v184 : Index := Scalar.indexCast arg7
  let c14 : Index := 14#32
  ![v184.toNat, 14]
def k2_off44 (v187 : BitVec 32) : Fin 3 → Nat :=
  let v188 : Index := Scalar.indexCast v187
  let c0_59 : Index := 0#32
  let c0_60 : Index := 0#32
  ![v188.toNat, 0, 0]

def k2_chk15 (v187 : BitVec 32) : Prop :=
  (∀ a, (k2_off44 v187) a + S1x4x128.size a ≤ S10000x4x128.size a)
theorem k2_off44_inb : ∀ (v187 : BitVec 32) (k2_hw15 : k2_chk15 v187), ∀ a, (k2_off44 v187) a + S1x4x128.size a ≤ S10000x4x128.size a := fun v187 k2_hw15 => k2_hw15

def k2_off45 (k2_t1 : Fin k2_t1_loop.trips) : Fin 2 → Nat :=
  let c0_i32 : BitVec 32 := 0#32
  let c1_i32 : BitVec 32 := 1#32
  let arg7 : BitVec 32 := Scf.iv c0_i32 c1_i32 k2_t1
  let v194 : Index := Scalar.indexCast arg7
  let c14_61 : Index := 14#32
  ![v194.toNat, 14]
def k2_off46 (k2_t1 : Fin k2_t1_loop.trips) : Fin 2 → Nat :=
  let c0_i32 : BitVec 32 := 0#32
  let c1_i32 : BitVec 32 := 1#32
  let arg7 : BitVec 32 := Scf.iv c0_i32 c1_i32 k2_t1
  let v197 : Index := Scalar.indexCast arg7
  let c15 : Index := 15#32
  ![v197.toNat, 15]
def k2_off47 (v200 : BitVec 32) : Fin 3 → Nat :=
  let v201 : Index := Scalar.indexCast v200
  let c0_63 : Index := 0#32
  let c0_64 : Index := 0#32
  ![v201.toNat, 0, 0]

def k2_chk16 (v200 : BitVec 32) : Prop :=
  (∀ a, (k2_off47 v200) a + S1x4x128.size a ≤ S10000x4x128.size a)
theorem k2_off47_inb : ∀ (v200 : BitVec 32) (k2_hw16 : k2_chk16 v200), ∀ a, (k2_off47 v200) a + S1x4x128.size a ≤ S10000x4x128.size a := fun v200 k2_hw16 => k2_hw16

def k2_off48 (k2_t1 : Fin k2_t1_loop.trips) : Fin 2 → Nat :=
  let c0_i32 : BitVec 32 := 0#32
  let c1_i32 : BitVec 32 := 1#32
  let arg7 : BitVec 32 := Scf.iv c0_i32 c1_i32 k2_t1
  let v207 : Index := Scalar.indexCast arg7
  let c15_65 : Index := 15#32
  ![v207.toNat, 15]
def k2_off49 (k2_t1 : Fin k2_t1_loop.trips) : Fin 2 → Nat :=
  let c0_i32 : BitVec 32 := 0#32
  let c1_i32 : BitVec 32 := 1#32
  let arg7 : BitVec 32 := Scf.iv c0_i32 c1_i32 k2_t1
  let v210 : Index := Scalar.indexCast arg7
  let c16 : Index := 16#32
  ![v210.toNat, 16]
def k2_off50 (v213 : BitVec 32) : Fin 3 → Nat :=
  let v214 : Index := Scalar.indexCast v213
  let c0_67 : Index := 0#32
  let c0_68 : Index := 0#32
  ![v214.toNat, 0, 0]

def k2_chk17 (v213 : BitVec 32) : Prop :=
  (∀ a, (k2_off50 v213) a + S1x4x128.size a ≤ S10000x4x128.size a)
theorem k2_off50_inb : ∀ (v213 : BitVec 32) (k2_hw17 : k2_chk17 v213), ∀ a, (k2_off50 v213) a + S1x4x128.size a ≤ S10000x4x128.size a := fun v213 k2_hw17 => k2_hw17

def k2_off51 (k2_t1 : Fin k2_t1_loop.trips) : Fin 2 → Nat :=
  let c0_i32 : BitVec 32 := 0#32
  let c1_i32 : BitVec 32 := 1#32
  let arg7 : BitVec 32 := Scf.iv c0_i32 c1_i32 k2_t1
  let v220 : Index := Scalar.indexCast arg7
  let c16_69 : Index := 16#32
  ![v220.toNat, 16]
def k2_off52 (k2_t1 : Fin k2_t1_loop.trips) : Fin 2 → Nat :=
  let c0_i32 : BitVec 32 := 0#32
  let c1_i32 : BitVec 32 := 1#32
  let arg7 : BitVec 32 := Scf.iv c0_i32 c1_i32 k2_t1
  let v223 : Index := Scalar.indexCast arg7
  let c17 : Index := 17#32
  ![v223.toNat, 17]
def k2_off53 (v226 : BitVec 32) : Fin 3 → Nat :=
  let v227 : Index := Scalar.indexCast v226
  let c0_71 : Index := 0#32
  let c0_72 : Index := 0#32
  ![v227.toNat, 0, 0]

def k2_chk18 (v226 : BitVec 32) : Prop :=
  (∀ a, (k2_off53 v226) a + S1x4x128.size a ≤ S10000x4x128.size a)
theorem k2_off53_inb : ∀ (v226 : BitVec 32) (k2_hw18 : k2_chk18 v226), ∀ a, (k2_off53 v226) a + S1x4x128.size a ≤ S10000x4x128.size a := fun v226 k2_hw18 => k2_hw18

def k2_off54 (k2_t1 : Fin k2_t1_loop.trips) : Fin 2 → Nat :=
  let c0_i32 : BitVec 32 := 0#32
  let c1_i32 : BitVec 32 := 1#32
  let arg7 : BitVec 32 := Scf.iv c0_i32 c1_i32 k2_t1
  let v233 : Index := Scalar.indexCast arg7
  let c17_73 : Index := 17#32
  ![v233.toNat, 17]
def k2_off55 (k2_t1 : Fin k2_t1_loop.trips) : Fin 2 → Nat :=
  let c0_i32 : BitVec 32 := 0#32
  let c1_i32 : BitVec 32 := 1#32
  let arg7 : BitVec 32 := Scf.iv c0_i32 c1_i32 k2_t1
  let v236 : Index := Scalar.indexCast arg7
  let c18 : Index := 18#32
  ![v236.toNat, 18]
def k2_off56 (v239 : BitVec 32) : Fin 3 → Nat :=
  let v240 : Index := Scalar.indexCast v239
  let c0_75 : Index := 0#32
  let c0_76 : Index := 0#32
  ![v240.toNat, 0, 0]

def k2_chk19 (v239 : BitVec 32) : Prop :=
  (∀ a, (k2_off56 v239) a + S1x4x128.size a ≤ S10000x4x128.size a)
theorem k2_off56_inb : ∀ (v239 : BitVec 32) (k2_hw19 : k2_chk19 v239), ∀ a, (k2_off56 v239) a + S1x4x128.size a ≤ S10000x4x128.size a := fun v239 k2_hw19 => k2_hw19

def k2_off57 (k2_t1 : Fin k2_t1_loop.trips) : Fin 2 → Nat :=
  let c0_i32 : BitVec 32 := 0#32
  let c1_i32 : BitVec 32 := 1#32
  let arg7 : BitVec 32 := Scf.iv c0_i32 c1_i32 k2_t1
  let v246 : Index := Scalar.indexCast arg7
  let c18_77 : Index := 18#32
  ![v246.toNat, 18]
def k2_off58 (k2_t1 : Fin k2_t1_loop.trips) : Fin 2 → Nat :=
  let c0_i32 : BitVec 32 := 0#32
  let c1_i32 : BitVec 32 := 1#32
  let arg7 : BitVec 32 := Scf.iv c0_i32 c1_i32 k2_t1
  let v249 : Index := Scalar.indexCast arg7
  let c19 : Index := 19#32
  ![v249.toNat, 19]
def k2_off59 (v252 : BitVec 32) : Fin 3 → Nat :=
  let v253 : Index := Scalar.indexCast v252
  let c0_79 : Index := 0#32
  let c0_80 : Index := 0#32
  ![v253.toNat, 0, 0]

def k2_chk20 (v252 : BitVec 32) : Prop :=
  (∀ a, (k2_off59 v252) a + S1x4x128.size a ≤ S10000x4x128.size a)
theorem k2_off59_inb : ∀ (v252 : BitVec 32) (k2_hw20 : k2_chk20 v252), ∀ a, (k2_off59 v252) a + S1x4x128.size a ≤ S10000x4x128.size a := fun v252 k2_hw20 => k2_hw20

def k2_off60 (k2_t1 : Fin k2_t1_loop.trips) : Fin 2 → Nat :=
  let c0_i32 : BitVec 32 := 0#32
  let c1_i32 : BitVec 32 := 1#32
  let arg7 : BitVec 32 := Scf.iv c0_i32 c1_i32 k2_t1
  let v259 : Index := Scalar.indexCast arg7
  let c19_81 : Index := 19#32
  ![v259.toNat, 19]
def k2_off61 (k2_t1 : Fin k2_t1_loop.trips) : Fin 2 → Nat :=
  let c0_i32 : BitVec 32 := 0#32
  let c1_i32 : BitVec 32 := 1#32
  let arg7 : BitVec 32 := Scf.iv c0_i32 c1_i32 k2_t1
  let v262 : Index := Scalar.indexCast arg7
  let c20 : Index := 20#32
  ![v262.toNat, 20]
def k2_off62 (v265 : BitVec 32) : Fin 3 → Nat :=
  let v266 : Index := Scalar.indexCast v265
  let c0_83 : Index := 0#32
  let c0_84 : Index := 0#32
  ![v266.toNat, 0, 0]

def k2_chk21 (v265 : BitVec 32) : Prop :=
  (∀ a, (k2_off62 v265) a + S1x4x128.size a ≤ S10000x4x128.size a)
theorem k2_off62_inb : ∀ (v265 : BitVec 32) (k2_hw21 : k2_chk21 v265), ∀ a, (k2_off62 v265) a + S1x4x128.size a ≤ S10000x4x128.size a := fun v265 k2_hw21 => k2_hw21

def k2_off63 (k2_t1 : Fin k2_t1_loop.trips) : Fin 2 → Nat :=
  let c0_i32 : BitVec 32 := 0#32
  let c1_i32 : BitVec 32 := 1#32
  let arg7 : BitVec 32 := Scf.iv c0_i32 c1_i32 k2_t1
  let v272 : Index := Scalar.indexCast arg7
  let c20_85 : Index := 20#32
  ![v272.toNat, 20]
def k2_off64 (k2_t1 : Fin k2_t1_loop.trips) : Fin 2 → Nat :=
  let c0_i32 : BitVec 32 := 0#32
  let c1_i32 : BitVec 32 := 1#32
  let arg7 : BitVec 32 := Scf.iv c0_i32 c1_i32 k2_t1
  let v275 : Index := Scalar.indexCast arg7
  let c21 : Index := 21#32
  ![v275.toNat, 21]
def k2_off65 (v278 : BitVec 32) : Fin 3 → Nat :=
  let v279 : Index := Scalar.indexCast v278
  let c0_87 : Index := 0#32
  let c0_88 : Index := 0#32
  ![v279.toNat, 0, 0]

def k2_chk22 (v278 : BitVec 32) : Prop :=
  (∀ a, (k2_off65 v278) a + S1x4x128.size a ≤ S10000x4x128.size a)
theorem k2_off65_inb : ∀ (v278 : BitVec 32) (k2_hw22 : k2_chk22 v278), ∀ a, (k2_off65 v278) a + S1x4x128.size a ≤ S10000x4x128.size a := fun v278 k2_hw22 => k2_hw22

def k2_off66 (k2_t1 : Fin k2_t1_loop.trips) : Fin 2 → Nat :=
  let c0_i32 : BitVec 32 := 0#32
  let c1_i32 : BitVec 32 := 1#32
  let arg7 : BitVec 32 := Scf.iv c0_i32 c1_i32 k2_t1
  let v285 : Index := Scalar.indexCast arg7
  let c21_89 : Index := 21#32
  ![v285.toNat, 21]
def k2_off67 (k2_t1 : Fin k2_t1_loop.trips) : Fin 2 → Nat :=
  let c0_i32 : BitVec 32 := 0#32
  let c1_i32 : BitVec 32 := 1#32
  let arg7 : BitVec 32 := Scf.iv c0_i32 c1_i32 k2_t1
  let v288 : Index := Scalar.indexCast arg7
  let c22 : Index := 22#32
  ![v288.toNat, 22]
def k2_off68 (v291 : BitVec 32) : Fin 3 → Nat :=
  let v292 : Index := Scalar.indexCast v291
  let c0_91 : Index := 0#32
  let c0_92 : Index := 0#32
  ![v292.toNat, 0, 0]

def k2_chk23 (v291 : BitVec 32) : Prop :=
  (∀ a, (k2_off68 v291) a + S1x4x128.size a ≤ S10000x4x128.size a)
theorem k2_off68_inb : ∀ (v291 : BitVec 32) (k2_hw23 : k2_chk23 v291), ∀ a, (k2_off68 v291) a + S1x4x128.size a ≤ S10000x4x128.size a := fun v291 k2_hw23 => k2_hw23

def k2_off69 (k2_t1 : Fin k2_t1_loop.trips) : Fin 2 → Nat :=
  let c0_i32 : BitVec 32 := 0#32
  let c1_i32 : BitVec 32 := 1#32
  let arg7 : BitVec 32 := Scf.iv c0_i32 c1_i32 k2_t1
  let v298 : Index := Scalar.indexCast arg7
  let c22_93 : Index := 22#32
  ![v298.toNat, 22]
def k2_off70 (k2_t1 : Fin k2_t1_loop.trips) : Fin 2 → Nat :=
  let c0_i32 : BitVec 32 := 0#32
  let c1_i32 : BitVec 32 := 1#32
  let arg7 : BitVec 32 := Scf.iv c0_i32 c1_i32 k2_t1
  let v301 : Index := Scalar.indexCast arg7
  let c23 : Index := 23#32
  ![v301.toNat, 23]
def k2_off71 (v304 : BitVec 32) : Fin 3 → Nat :=
  let v305 : Index := Scalar.indexCast v304
  let c0_95 : Index := 0#32
  let c0_96 : Index := 0#32
  ![v305.toNat, 0, 0]

def k2_chk24 (v304 : BitVec 32) : Prop :=
  (∀ a, (k2_off71 v304) a + S1x4x128.size a ≤ S10000x4x128.size a)
theorem k2_off71_inb : ∀ (v304 : BitVec 32) (k2_hw24 : k2_chk24 v304), ∀ a, (k2_off71 v304) a + S1x4x128.size a ≤ S10000x4x128.size a := fun v304 k2_hw24 => k2_hw24

def k2_off72 (k2_t1 : Fin k2_t1_loop.trips) : Fin 2 → Nat :=
  let c0_i32 : BitVec 32 := 0#32
  let c1_i32 : BitVec 32 := 1#32
  let arg7 : BitVec 32 := Scf.iv c0_i32 c1_i32 k2_t1
  let v311 : Index := Scalar.indexCast arg7
  let c23_97 : Index := 23#32
  ![v311.toNat, 23]
def k2_off73 (k2_t1 : Fin k2_t1_loop.trips) : Fin 2 → Nat :=
  let c0_i32 : BitVec 32 := 0#32
  let c1_i32 : BitVec 32 := 1#32
  let arg7 : BitVec 32 := Scf.iv c0_i32 c1_i32 k2_t1
  let v314 : Index := Scalar.indexCast arg7
  let c24 : Index := 24#32
  ![v314.toNat, 24]
def k2_off74 (v317 : BitVec 32) : Fin 3 → Nat :=
  let v318 : Index := Scalar.indexCast v317
  let c0_99 : Index := 0#32
  let c0_100 : Index := 0#32
  ![v318.toNat, 0, 0]

def k2_chk25 (v317 : BitVec 32) : Prop :=
  (∀ a, (k2_off74 v317) a + S1x4x128.size a ≤ S10000x4x128.size a)
theorem k2_off74_inb : ∀ (v317 : BitVec 32) (k2_hw25 : k2_chk25 v317), ∀ a, (k2_off74 v317) a + S1x4x128.size a ≤ S10000x4x128.size a := fun v317 k2_hw25 => k2_hw25

def k2_off75 (k2_t1 : Fin k2_t1_loop.trips) : Fin 2 → Nat :=
  let c0_i32 : BitVec 32 := 0#32
  let c1_i32 : BitVec 32 := 1#32
  let arg7 : BitVec 32 := Scf.iv c0_i32 c1_i32 k2_t1
  let v324 : Index := Scalar.indexCast arg7
  let c24_101 : Index := 24#32
  ![v324.toNat, 24]
def k2_off76 (k2_t1 : Fin k2_t1_loop.trips) : Fin 2 → Nat :=
  let c0_i32 : BitVec 32 := 0#32
  let c1_i32 : BitVec 32 := 1#32
  let arg7 : BitVec 32 := Scf.iv c0_i32 c1_i32 k2_t1
  let v327 : Index := Scalar.indexCast arg7
  let c25 : Index := 25#32
  ![v327.toNat, 25]
def k2_off77 (v330 : BitVec 32) : Fin 3 → Nat :=
  let v331 : Index := Scalar.indexCast v330
  let c0_103 : Index := 0#32
  let c0_104 : Index := 0#32
  ![v331.toNat, 0, 0]

def k2_chk26 (v330 : BitVec 32) : Prop :=
  (∀ a, (k2_off77 v330) a + S1x4x128.size a ≤ S10000x4x128.size a)
theorem k2_off77_inb : ∀ (v330 : BitVec 32) (k2_hw26 : k2_chk26 v330), ∀ a, (k2_off77 v330) a + S1x4x128.size a ≤ S10000x4x128.size a := fun v330 k2_hw26 => k2_hw26

def k2_off78 (k2_t1 : Fin k2_t1_loop.trips) : Fin 2 → Nat :=
  let c0_i32 : BitVec 32 := 0#32
  let c1_i32 : BitVec 32 := 1#32
  let arg7 : BitVec 32 := Scf.iv c0_i32 c1_i32 k2_t1
  let v337 : Index := Scalar.indexCast arg7
  let c25_105 : Index := 25#32
  ![v337.toNat, 25]
def k2_off79 (k2_t1 : Fin k2_t1_loop.trips) : Fin 2 → Nat :=
  let c0_i32 : BitVec 32 := 0#32
  let c1_i32 : BitVec 32 := 1#32
  let arg7 : BitVec 32 := Scf.iv c0_i32 c1_i32 k2_t1
  let v340 : Index := Scalar.indexCast arg7
  let c26 : Index := 26#32
  ![v340.toNat, 26]
def k2_off80 (v343 : BitVec 32) : Fin 3 → Nat :=
  let v344 : Index := Scalar.indexCast v343
  let c0_107 : Index := 0#32
  let c0_108 : Index := 0#32
  ![v344.toNat, 0, 0]

def k2_chk27 (v343 : BitVec 32) : Prop :=
  (∀ a, (k2_off80 v343) a + S1x4x128.size a ≤ S10000x4x128.size a)
theorem k2_off80_inb : ∀ (v343 : BitVec 32) (k2_hw27 : k2_chk27 v343), ∀ a, (k2_off80 v343) a + S1x4x128.size a ≤ S10000x4x128.size a := fun v343 k2_hw27 => k2_hw27

def k2_off81 (k2_t1 : Fin k2_t1_loop.trips) : Fin 2 → Nat :=
  let c0_i32 : BitVec 32 := 0#32
  let c1_i32 : BitVec 32 := 1#32
  let arg7 : BitVec 32 := Scf.iv c0_i32 c1_i32 k2_t1
  let v350 : Index := Scalar.indexCast arg7
  let c26_109 : Index := 26#32
  ![v350.toNat, 26]
def k2_off82 (k2_t1 : Fin k2_t1_loop.trips) : Fin 2 → Nat :=
  let c0_i32 : BitVec 32 := 0#32
  let c1_i32 : BitVec 32 := 1#32
  let arg7 : BitVec 32 := Scf.iv c0_i32 c1_i32 k2_t1
  let v353 : Index := Scalar.indexCast arg7
  let c27 : Index := 27#32
  ![v353.toNat, 27]
def k2_off83 (v356 : BitVec 32) : Fin 3 → Nat :=
  let v357 : Index := Scalar.indexCast v356
  let c0_111 : Index := 0#32
  let c0_112 : Index := 0#32
  ![v357.toNat, 0, 0]

def k2_chk28 (v356 : BitVec 32) : Prop :=
  (∀ a, (k2_off83 v356) a + S1x4x128.size a ≤ S10000x4x128.size a)
theorem k2_off83_inb : ∀ (v356 : BitVec 32) (k2_hw28 : k2_chk28 v356), ∀ a, (k2_off83 v356) a + S1x4x128.size a ≤ S10000x4x128.size a := fun v356 k2_hw28 => k2_hw28

def k2_off84 (k2_t1 : Fin k2_t1_loop.trips) : Fin 2 → Nat :=
  let c0_i32 : BitVec 32 := 0#32
  let c1_i32 : BitVec 32 := 1#32
  let arg7 : BitVec 32 := Scf.iv c0_i32 c1_i32 k2_t1
  let v363 : Index := Scalar.indexCast arg7
  let c27_113 : Index := 27#32
  ![v363.toNat, 27]
def k2_off85 (k2_t1 : Fin k2_t1_loop.trips) : Fin 2 → Nat :=
  let c0_i32 : BitVec 32 := 0#32
  let c1_i32 : BitVec 32 := 1#32
  let arg7 : BitVec 32 := Scf.iv c0_i32 c1_i32 k2_t1
  let v366 : Index := Scalar.indexCast arg7
  let c28 : Index := 28#32
  ![v366.toNat, 28]
def k2_off86 (v369 : BitVec 32) : Fin 3 → Nat :=
  let v370 : Index := Scalar.indexCast v369
  let c0_115 : Index := 0#32
  let c0_116 : Index := 0#32
  ![v370.toNat, 0, 0]

def k2_chk29 (v369 : BitVec 32) : Prop :=
  (∀ a, (k2_off86 v369) a + S1x4x128.size a ≤ S10000x4x128.size a)
theorem k2_off86_inb : ∀ (v369 : BitVec 32) (k2_hw29 : k2_chk29 v369), ∀ a, (k2_off86 v369) a + S1x4x128.size a ≤ S10000x4x128.size a := fun v369 k2_hw29 => k2_hw29

def k2_off87 (k2_t1 : Fin k2_t1_loop.trips) : Fin 2 → Nat :=
  let c0_i32 : BitVec 32 := 0#32
  let c1_i32 : BitVec 32 := 1#32
  let arg7 : BitVec 32 := Scf.iv c0_i32 c1_i32 k2_t1
  let v376 : Index := Scalar.indexCast arg7
  let c28_117 : Index := 28#32
  ![v376.toNat, 28]
def k2_off88 (k2_t1 : Fin k2_t1_loop.trips) : Fin 2 → Nat :=
  let c0_i32 : BitVec 32 := 0#32
  let c1_i32 : BitVec 32 := 1#32
  let arg7 : BitVec 32 := Scf.iv c0_i32 c1_i32 k2_t1
  let v379 : Index := Scalar.indexCast arg7
  let c29 : Index := 29#32
  ![v379.toNat, 29]
def k2_off89 (v382 : BitVec 32) : Fin 3 → Nat :=
  let v383 : Index := Scalar.indexCast v382
  let c0_119 : Index := 0#32
  let c0_120 : Index := 0#32
  ![v383.toNat, 0, 0]

def k2_chk30 (v382 : BitVec 32) : Prop :=
  (∀ a, (k2_off89 v382) a + S1x4x128.size a ≤ S10000x4x128.size a)
theorem k2_off89_inb : ∀ (v382 : BitVec 32) (k2_hw30 : k2_chk30 v382), ∀ a, (k2_off89 v382) a + S1x4x128.size a ≤ S10000x4x128.size a := fun v382 k2_hw30 => k2_hw30

def k2_off90 (k2_t1 : Fin k2_t1_loop.trips) : Fin 2 → Nat :=
  let c0_i32 : BitVec 32 := 0#32
  let c1_i32 : BitVec 32 := 1#32
  let arg7 : BitVec 32 := Scf.iv c0_i32 c1_i32 k2_t1
  let v389 : Index := Scalar.indexCast arg7
  let c29_121 : Index := 29#32
  ![v389.toNat, 29]
def k2_off91 (k2_t1 : Fin k2_t1_loop.trips) : Fin 2 → Nat :=
  let c0_i32 : BitVec 32 := 0#32
  let c1_i32 : BitVec 32 := 1#32
  let arg7 : BitVec 32 := Scf.iv c0_i32 c1_i32 k2_t1
  let v392 : Index := Scalar.indexCast arg7
  let c30 : Index := 30#32
  ![v392.toNat, 30]
def k2_off92 (v395 : BitVec 32) : Fin 3 → Nat :=
  let v396 : Index := Scalar.indexCast v395
  let c0_123 : Index := 0#32
  let c0_124 : Index := 0#32
  ![v396.toNat, 0, 0]

def k2_chk31 (v395 : BitVec 32) : Prop :=
  (∀ a, (k2_off92 v395) a + S1x4x128.size a ≤ S10000x4x128.size a)
theorem k2_off92_inb : ∀ (v395 : BitVec 32) (k2_hw31 : k2_chk31 v395), ∀ a, (k2_off92 v395) a + S1x4x128.size a ≤ S10000x4x128.size a := fun v395 k2_hw31 => k2_hw31

def k2_off93 (k2_t1 : Fin k2_t1_loop.trips) : Fin 2 → Nat :=
  let c0_i32 : BitVec 32 := 0#32
  let c1_i32 : BitVec 32 := 1#32
  let arg7 : BitVec 32 := Scf.iv c0_i32 c1_i32 k2_t1
  let v402 : Index := Scalar.indexCast arg7
  let c30_125 : Index := 30#32
  ![v402.toNat, 30]
def k2_off94 (k2_t1 : Fin k2_t1_loop.trips) : Fin 2 → Nat :=
  let c0_i32 : BitVec 32 := 0#32
  let c1_i32 : BitVec 32 := 1#32
  let arg7 : BitVec 32 := Scf.iv c0_i32 c1_i32 k2_t1
  let v405 : Index := Scalar.indexCast arg7
  let c31 : Index := 31#32
  ![v405.toNat, 31]
def k2_off95 (v408 : BitVec 32) : Fin 3 → Nat :=
  let v409 : Index := Scalar.indexCast v408
  let c0_127 : Index := 0#32
  let c0_128 : Index := 0#32
  ![v409.toNat, 0, 0]

def k2_chk32 (v408 : BitVec 32) : Prop :=
  (∀ a, (k2_off95 v408) a + S1x4x128.size a ≤ S10000x4x128.size a)
theorem k2_off95_inb : ∀ (v408 : BitVec 32) (k2_hw32 : k2_chk32 v408), ∀ a, (k2_off95 v408) a + S1x4x128.size a ≤ S10000x4x128.size a := fun v408 k2_hw32 => k2_hw32

def k2_off96 (k2_t1 : Fin k2_t1_loop.trips) : Fin 2 → Nat :=
  let c0_i32 : BitVec 32 := 0#32
  let c1_i32 : BitVec 32 := 1#32
  let arg7 : BitVec 32 := Scf.iv c0_i32 c1_i32 k2_t1
  let v415 : Index := Scalar.indexCast arg7
  let c31_129 : Index := 31#32
  ![v415.toNat, 31]
def k2_off97 (k2_t1 : Fin k2_t1_loop.trips) : Fin 2 → Nat :=
  let c0_i32 : BitVec 32 := 0#32
  let c1_i32 : BitVec 32 := 1#32
  let arg7 : BitVec 32 := Scf.iv c0_i32 c1_i32 k2_t1
  let v418 : Index := Scalar.indexCast arg7
  let c32 : Index := 32#32
  ![v418.toNat, 32]
def k2_off98 (v421 : BitVec 32) : Fin 3 → Nat :=
  let v422 : Index := Scalar.indexCast v421
  let c0_131 : Index := 0#32
  let c0_132 : Index := 0#32
  ![v422.toNat, 0, 0]

def k2_chk33 (v421 : BitVec 32) : Prop :=
  (∀ a, (k2_off98 v421) a + S1x4x128.size a ≤ S10000x4x128.size a)
theorem k2_off98_inb : ∀ (v421 : BitVec 32) (k2_hw33 : k2_chk33 v421), ∀ a, (k2_off98 v421) a + S1x4x128.size a ≤ S10000x4x128.size a := fun v421 k2_hw33 => k2_hw33

def k2_off99 (k2_t1 : Fin k2_t1_loop.trips) : Fin 2 → Nat :=
  let c0_i32 : BitVec 32 := 0#32
  let c1_i32 : BitVec 32 := 1#32
  let arg7 : BitVec 32 := Scf.iv c0_i32 c1_i32 k2_t1
  let v428 : Index := Scalar.indexCast arg7
  let c32_133 : Index := 32#32
  ![v428.toNat, 32]
def k2_off100 (k2_t1 : Fin k2_t1_loop.trips) : Fin 2 → Nat :=
  let c0_i32 : BitVec 32 := 0#32
  let c1_i32 : BitVec 32 := 1#32
  let arg7 : BitVec 32 := Scf.iv c0_i32 c1_i32 k2_t1
  let v431 : Index := Scalar.indexCast arg7
  let c33 : Index := 33#32
  ![v431.toNat, 33]
def k2_off101 (v434 : BitVec 32) : Fin 3 → Nat :=
  let v435 : Index := Scalar.indexCast v434
  let c0_135 : Index := 0#32
  let c0_136 : Index := 0#32
  ![v435.toNat, 0, 0]

def k2_chk34 (v434 : BitVec 32) : Prop :=
  (∀ a, (k2_off101 v434) a + S1x4x128.size a ≤ S10000x4x128.size a)
theorem k2_off101_inb : ∀ (v434 : BitVec 32) (k2_hw34 : k2_chk34 v434), ∀ a, (k2_off101 v434) a + S1x4x128.size a ≤ S10000x4x128.size a := fun v434 k2_hw34 => k2_hw34

def k2_off102 (k2_t1 : Fin k2_t1_loop.trips) : Fin 2 → Nat :=
  let c0_i32 : BitVec 32 := 0#32
  let c1_i32 : BitVec 32 := 1#32
  let arg7 : BitVec 32 := Scf.iv c0_i32 c1_i32 k2_t1
  let v441 : Index := Scalar.indexCast arg7
  let c33_137 : Index := 33#32
  ![v441.toNat, 33]
def k2_off103 (k2_t1 : Fin k2_t1_loop.trips) : Fin 2 → Nat :=
  let c0_i32 : BitVec 32 := 0#32
  let c1_i32 : BitVec 32 := 1#32
  let arg7 : BitVec 32 := Scf.iv c0_i32 c1_i32 k2_t1
  let v444 : Index := Scalar.indexCast arg7
  let c34 : Index := 34#32
  ![v444.toNat, 34]
def k2_off104 (v447 : BitVec 32) : Fin 3 → Nat :=
  let v448 : Index := Scalar.indexCast v447
  let c0_139 : Index := 0#32
  let c0_140 : Index := 0#32
  ![v448.toNat, 0, 0]

def k2_chk35 (v447 : BitVec 32) : Prop :=
  (∀ a, (k2_off104 v447) a + S1x4x128.size a ≤ S10000x4x128.size a)
theorem k2_off104_inb : ∀ (v447 : BitVec 32) (k2_hw35 : k2_chk35 v447), ∀ a, (k2_off104 v447) a + S1x4x128.size a ≤ S10000x4x128.size a := fun v447 k2_hw35 => k2_hw35

def k2_off105 (k2_t1 : Fin k2_t1_loop.trips) : Fin 2 → Nat :=
  let c0_i32 : BitVec 32 := 0#32
  let c1_i32 : BitVec 32 := 1#32
  let arg7 : BitVec 32 := Scf.iv c0_i32 c1_i32 k2_t1
  let v454 : Index := Scalar.indexCast arg7
  let c34_141 : Index := 34#32
  ![v454.toNat, 34]
def k2_off106 (k2_t1 : Fin k2_t1_loop.trips) : Fin 2 → Nat :=
  let c0_i32 : BitVec 32 := 0#32
  let c1_i32 : BitVec 32 := 1#32
  let arg7 : BitVec 32 := Scf.iv c0_i32 c1_i32 k2_t1
  let v457 : Index := Scalar.indexCast arg7
  let c35 : Index := 35#32
  ![v457.toNat, 35]
def k2_off107 (v460 : BitVec 32) : Fin 3 → Nat :=
  let v461 : Index := Scalar.indexCast v460
  let c0_143 : Index := 0#32
  let c0_144 : Index := 0#32
  ![v461.toNat, 0, 0]

def k2_chk36 (v460 : BitVec 32) : Prop :=
  (∀ a, (k2_off107 v460) a + S1x4x128.size a ≤ S10000x4x128.size a)
theorem k2_off107_inb : ∀ (v460 : BitVec 32) (k2_hw36 : k2_chk36 v460), ∀ a, (k2_off107 v460) a + S1x4x128.size a ≤ S10000x4x128.size a := fun v460 k2_hw36 => k2_hw36

def k2_off108 (k2_t1 : Fin k2_t1_loop.trips) : Fin 2 → Nat :=
  let c0_i32 : BitVec 32 := 0#32
  let c1_i32 : BitVec 32 := 1#32
  let arg7 : BitVec 32 := Scf.iv c0_i32 c1_i32 k2_t1
  let v467 : Index := Scalar.indexCast arg7
  let c35_145 : Index := 35#32
  ![v467.toNat, 35]
def k2_off109 (k2_t1 : Fin k2_t1_loop.trips) : Fin 2 → Nat :=
  let c0_i32 : BitVec 32 := 0#32
  let c1_i32 : BitVec 32 := 1#32
  let arg7 : BitVec 32 := Scf.iv c0_i32 c1_i32 k2_t1
  let v470 : Index := Scalar.indexCast arg7
  let c36 : Index := 36#32
  ![v470.toNat, 36]
def k2_off110 (v473 : BitVec 32) : Fin 3 → Nat :=
  let v474 : Index := Scalar.indexCast v473
  let c0_147 : Index := 0#32
  let c0_148 : Index := 0#32
  ![v474.toNat, 0, 0]

def k2_chk37 (v473 : BitVec 32) : Prop :=
  (∀ a, (k2_off110 v473) a + S1x4x128.size a ≤ S10000x4x128.size a)
theorem k2_off110_inb : ∀ (v473 : BitVec 32) (k2_hw37 : k2_chk37 v473), ∀ a, (k2_off110 v473) a + S1x4x128.size a ≤ S10000x4x128.size a := fun v473 k2_hw37 => k2_hw37

def k2_off111 (k2_t1 : Fin k2_t1_loop.trips) : Fin 2 → Nat :=
  let c0_i32 : BitVec 32 := 0#32
  let c1_i32 : BitVec 32 := 1#32
  let arg7 : BitVec 32 := Scf.iv c0_i32 c1_i32 k2_t1
  let v480 : Index := Scalar.indexCast arg7
  let c36_149 : Index := 36#32
  ![v480.toNat, 36]
def k2_off112 (k2_t1 : Fin k2_t1_loop.trips) : Fin 2 → Nat :=
  let c0_i32 : BitVec 32 := 0#32
  let c1_i32 : BitVec 32 := 1#32
  let arg7 : BitVec 32 := Scf.iv c0_i32 c1_i32 k2_t1
  let v483 : Index := Scalar.indexCast arg7
  let c37 : Index := 37#32
  ![v483.toNat, 37]
def k2_off113 (v486 : BitVec 32) : Fin 3 → Nat :=
  let v487 : Index := Scalar.indexCast v486
  let c0_151 : Index := 0#32
  let c0_152 : Index := 0#32
  ![v487.toNat, 0, 0]

def k2_chk38 (v486 : BitVec 32) : Prop :=
  (∀ a, (k2_off113 v486) a + S1x4x128.size a ≤ S10000x4x128.size a)
theorem k2_off113_inb : ∀ (v486 : BitVec 32) (k2_hw38 : k2_chk38 v486), ∀ a, (k2_off113 v486) a + S1x4x128.size a ≤ S10000x4x128.size a := fun v486 k2_hw38 => k2_hw38

def k2_off114 (k2_t1 : Fin k2_t1_loop.trips) : Fin 2 → Nat :=
  let c0_i32 : BitVec 32 := 0#32
  let c1_i32 : BitVec 32 := 1#32
  let arg7 : BitVec 32 := Scf.iv c0_i32 c1_i32 k2_t1
  let v493 : Index := Scalar.indexCast arg7
  let c37_153 : Index := 37#32
  ![v493.toNat, 37]
def k2_off115 (k2_t1 : Fin k2_t1_loop.trips) : Fin 2 → Nat :=
  let c0_i32 : BitVec 32 := 0#32
  let c1_i32 : BitVec 32 := 1#32
  let arg7 : BitVec 32 := Scf.iv c0_i32 c1_i32 k2_t1
  let v496 : Index := Scalar.indexCast arg7
  let c38 : Index := 38#32
  ![v496.toNat, 38]
def k2_off116 (v499 : BitVec 32) : Fin 3 → Nat :=
  let v500 : Index := Scalar.indexCast v499
  let c0_155 : Index := 0#32
  let c0_156 : Index := 0#32
  ![v500.toNat, 0, 0]

def k2_chk39 (v499 : BitVec 32) : Prop :=
  (∀ a, (k2_off116 v499) a + S1x4x128.size a ≤ S10000x4x128.size a)
theorem k2_off116_inb : ∀ (v499 : BitVec 32) (k2_hw39 : k2_chk39 v499), ∀ a, (k2_off116 v499) a + S1x4x128.size a ≤ S10000x4x128.size a := fun v499 k2_hw39 => k2_hw39

def k2_off117 (k2_t1 : Fin k2_t1_loop.trips) : Fin 2 → Nat :=
  let c0_i32 : BitVec 32 := 0#32
  let c1_i32 : BitVec 32 := 1#32
  let arg7 : BitVec 32 := Scf.iv c0_i32 c1_i32 k2_t1
  let v506 : Index := Scalar.indexCast arg7
  let c38_157 : Index := 38#32
  ![v506.toNat, 38]
def k2_off118 (k2_t1 : Fin k2_t1_loop.trips) : Fin 2 → Nat :=
  let c0_i32 : BitVec 32 := 0#32
  let c1_i32 : BitVec 32 := 1#32
  let arg7 : BitVec 32 := Scf.iv c0_i32 c1_i32 k2_t1
  let v509 : Index := Scalar.indexCast arg7
  let c39 : Index := 39#32
  ![v509.toNat, 39]
def k2_off119 (v512 : BitVec 32) : Fin 3 → Nat :=
  let v513 : Index := Scalar.indexCast v512
  let c0_159 : Index := 0#32
  let c0_160 : Index := 0#32
  ![v513.toNat, 0, 0]

def k2_chk40 (v512 : BitVec 32) : Prop :=
  (∀ a, (k2_off119 v512) a + S1x4x128.size a ≤ S10000x4x128.size a)
theorem k2_off119_inb : ∀ (v512 : BitVec 32) (k2_hw40 : k2_chk40 v512), ∀ a, (k2_off119 v512) a + S1x4x128.size a ≤ S10000x4x128.size a := fun v512 k2_hw40 => k2_hw40

def k2_off120 (k2_t1 : Fin k2_t1_loop.trips) : Fin 2 → Nat :=
  let c0_i32 : BitVec 32 := 0#32
  let c1_i32 : BitVec 32 := 1#32
  let arg7 : BitVec 32 := Scf.iv c0_i32 c1_i32 k2_t1
  let v519 : Index := Scalar.indexCast arg7
  let c39_161 : Index := 39#32
  ![v519.toNat, 39]
def k2_off121 (k2_t1 : Fin k2_t1_loop.trips) : Fin 2 → Nat :=
  let c0_i32 : BitVec 32 := 0#32
  let c1_i32 : BitVec 32 := 1#32
  let arg7 : BitVec 32 := Scf.iv c0_i32 c1_i32 k2_t1
  let v522 : Index := Scalar.indexCast arg7
  let c40 : Index := 40#32
  ![v522.toNat, 40]
def k2_off122 (v525 : BitVec 32) : Fin 3 → Nat :=
  let v526 : Index := Scalar.indexCast v525
  let c0_163 : Index := 0#32
  let c0_164 : Index := 0#32
  ![v526.toNat, 0, 0]

def k2_chk41 (v525 : BitVec 32) : Prop :=
  (∀ a, (k2_off122 v525) a + S1x4x128.size a ≤ S10000x4x128.size a)
theorem k2_off122_inb : ∀ (v525 : BitVec 32) (k2_hw41 : k2_chk41 v525), ∀ a, (k2_off122 v525) a + S1x4x128.size a ≤ S10000x4x128.size a := fun v525 k2_hw41 => k2_hw41

def k2_off123 (k2_t1 : Fin k2_t1_loop.trips) : Fin 2 → Nat :=
  let c0_i32 : BitVec 32 := 0#32
  let c1_i32 : BitVec 32 := 1#32
  let arg7 : BitVec 32 := Scf.iv c0_i32 c1_i32 k2_t1
  let v532 : Index := Scalar.indexCast arg7
  let c40_165 : Index := 40#32
  ![v532.toNat, 40]
def k2_off124 (k2_t1 : Fin k2_t1_loop.trips) : Fin 2 → Nat :=
  let c0_i32 : BitVec 32 := 0#32
  let c1_i32 : BitVec 32 := 1#32
  let arg7 : BitVec 32 := Scf.iv c0_i32 c1_i32 k2_t1
  let v535 : Index := Scalar.indexCast arg7
  let c41 : Index := 41#32
  ![v535.toNat, 41]
def k2_off125 (v538 : BitVec 32) : Fin 3 → Nat :=
  let v539 : Index := Scalar.indexCast v538
  let c0_167 : Index := 0#32
  let c0_168 : Index := 0#32
  ![v539.toNat, 0, 0]

def k2_chk42 (v538 : BitVec 32) : Prop :=
  (∀ a, (k2_off125 v538) a + S1x4x128.size a ≤ S10000x4x128.size a)
theorem k2_off125_inb : ∀ (v538 : BitVec 32) (k2_hw42 : k2_chk42 v538), ∀ a, (k2_off125 v538) a + S1x4x128.size a ≤ S10000x4x128.size a := fun v538 k2_hw42 => k2_hw42

def k2_off126 (k2_t1 : Fin k2_t1_loop.trips) : Fin 2 → Nat :=
  let c0_i32 : BitVec 32 := 0#32
  let c1_i32 : BitVec 32 := 1#32
  let arg7 : BitVec 32 := Scf.iv c0_i32 c1_i32 k2_t1
  let v545 : Index := Scalar.indexCast arg7
  let c41_169 : Index := 41#32
  ![v545.toNat, 41]
def k2_off127 (k2_t1 : Fin k2_t1_loop.trips) : Fin 2 → Nat :=
  let c0_i32 : BitVec 32 := 0#32
  let c1_i32 : BitVec 32 := 1#32
  let arg7 : BitVec 32 := Scf.iv c0_i32 c1_i32 k2_t1
  let v548 : Index := Scalar.indexCast arg7
  let c42 : Index := 42#32
  ![v548.toNat, 42]
def k2_off128 (v551 : BitVec 32) : Fin 3 → Nat :=
  let v552 : Index := Scalar.indexCast v551
  let c0_171 : Index := 0#32
  let c0_172 : Index := 0#32
  ![v552.toNat, 0, 0]

def k2_chk43 (v551 : BitVec 32) : Prop :=
  (∀ a, (k2_off128 v551) a + S1x4x128.size a ≤ S10000x4x128.size a)
theorem k2_off128_inb : ∀ (v551 : BitVec 32) (k2_hw43 : k2_chk43 v551), ∀ a, (k2_off128 v551) a + S1x4x128.size a ≤ S10000x4x128.size a := fun v551 k2_hw43 => k2_hw43

def k2_off129 (k2_t1 : Fin k2_t1_loop.trips) : Fin 2 → Nat :=
  let c0_i32 : BitVec 32 := 0#32
  let c1_i32 : BitVec 32 := 1#32
  let arg7 : BitVec 32 := Scf.iv c0_i32 c1_i32 k2_t1
  let v558 : Index := Scalar.indexCast arg7
  let c42_173 : Index := 42#32
  ![v558.toNat, 42]
def k2_off130 (k2_t1 : Fin k2_t1_loop.trips) : Fin 2 → Nat :=
  let c0_i32 : BitVec 32 := 0#32
  let c1_i32 : BitVec 32 := 1#32
  let arg7 : BitVec 32 := Scf.iv c0_i32 c1_i32 k2_t1
  let v561 : Index := Scalar.indexCast arg7
  let c43 : Index := 43#32
  ![v561.toNat, 43]
def k2_off131 (v564 : BitVec 32) : Fin 3 → Nat :=
  let v565 : Index := Scalar.indexCast v564
  let c0_175 : Index := 0#32
  let c0_176 : Index := 0#32
  ![v565.toNat, 0, 0]

def k2_chk44 (v564 : BitVec 32) : Prop :=
  (∀ a, (k2_off131 v564) a + S1x4x128.size a ≤ S10000x4x128.size a)
theorem k2_off131_inb : ∀ (v564 : BitVec 32) (k2_hw44 : k2_chk44 v564), ∀ a, (k2_off131 v564) a + S1x4x128.size a ≤ S10000x4x128.size a := fun v564 k2_hw44 => k2_hw44

def k2_off132 (k2_t1 : Fin k2_t1_loop.trips) : Fin 2 → Nat :=
  let c0_i32 : BitVec 32 := 0#32
  let c1_i32 : BitVec 32 := 1#32
  let arg7 : BitVec 32 := Scf.iv c0_i32 c1_i32 k2_t1
  let v571 : Index := Scalar.indexCast arg7
  let c43_177 : Index := 43#32
  ![v571.toNat, 43]
def k2_off133 (k2_t1 : Fin k2_t1_loop.trips) : Fin 2 → Nat :=
  let c0_i32 : BitVec 32 := 0#32
  let c1_i32 : BitVec 32 := 1#32
  let arg7 : BitVec 32 := Scf.iv c0_i32 c1_i32 k2_t1
  let v574 : Index := Scalar.indexCast arg7
  let c44 : Index := 44#32
  ![v574.toNat, 44]
def k2_off134 (v577 : BitVec 32) : Fin 3 → Nat :=
  let v578 : Index := Scalar.indexCast v577
  let c0_179 : Index := 0#32
  let c0_180 : Index := 0#32
  ![v578.toNat, 0, 0]

def k2_chk45 (v577 : BitVec 32) : Prop :=
  (∀ a, (k2_off134 v577) a + S1x4x128.size a ≤ S10000x4x128.size a)
theorem k2_off134_inb : ∀ (v577 : BitVec 32) (k2_hw45 : k2_chk45 v577), ∀ a, (k2_off134 v577) a + S1x4x128.size a ≤ S10000x4x128.size a := fun v577 k2_hw45 => k2_hw45

def k2_off135 (k2_t1 : Fin k2_t1_loop.trips) : Fin 2 → Nat :=
  let c0_i32 : BitVec 32 := 0#32
  let c1_i32 : BitVec 32 := 1#32
  let arg7 : BitVec 32 := Scf.iv c0_i32 c1_i32 k2_t1
  let v584 : Index := Scalar.indexCast arg7
  let c44_181 : Index := 44#32
  ![v584.toNat, 44]
def k2_off136 (k2_t1 : Fin k2_t1_loop.trips) : Fin 2 → Nat :=
  let c0_i32 : BitVec 32 := 0#32
  let c1_i32 : BitVec 32 := 1#32
  let arg7 : BitVec 32 := Scf.iv c0_i32 c1_i32 k2_t1
  let v587 : Index := Scalar.indexCast arg7
  let c45 : Index := 45#32
  ![v587.toNat, 45]
def k2_off137 (v590 : BitVec 32) : Fin 3 → Nat :=
  let v591 : Index := Scalar.indexCast v590
  let c0_183 : Index := 0#32
  let c0_184 : Index := 0#32
  ![v591.toNat, 0, 0]

def k2_chk46 (v590 : BitVec 32) : Prop :=
  (∀ a, (k2_off137 v590) a + S1x4x128.size a ≤ S10000x4x128.size a)
theorem k2_off137_inb : ∀ (v590 : BitVec 32) (k2_hw46 : k2_chk46 v590), ∀ a, (k2_off137 v590) a + S1x4x128.size a ≤ S10000x4x128.size a := fun v590 k2_hw46 => k2_hw46

def k2_off138 (k2_t1 : Fin k2_t1_loop.trips) : Fin 2 → Nat :=
  let c0_i32 : BitVec 32 := 0#32
  let c1_i32 : BitVec 32 := 1#32
  let arg7 : BitVec 32 := Scf.iv c0_i32 c1_i32 k2_t1
  let v597 : Index := Scalar.indexCast arg7
  let c45_185 : Index := 45#32
  ![v597.toNat, 45]
def k2_off139 (k2_t1 : Fin k2_t1_loop.trips) : Fin 2 → Nat :=
  let c0_i32 : BitVec 32 := 0#32
  let c1_i32 : BitVec 32 := 1#32
  let arg7 : BitVec 32 := Scf.iv c0_i32 c1_i32 k2_t1
  let v600 : Index := Scalar.indexCast arg7
  let c46 : Index := 46#32
  ![v600.toNat, 46]
def k2_off140 (v603 : BitVec 32) : Fin 3 → Nat :=
  let v604 : Index := Scalar.indexCast v603
  let c0_187 : Index := 0#32
  let c0_188 : Index := 0#32
  ![v604.toNat, 0, 0]

def k2_chk47 (v603 : BitVec 32) : Prop :=
  (∀ a, (k2_off140 v603) a + S1x4x128.size a ≤ S10000x4x128.size a)
theorem k2_off140_inb : ∀ (v603 : BitVec 32) (k2_hw47 : k2_chk47 v603), ∀ a, (k2_off140 v603) a + S1x4x128.size a ≤ S10000x4x128.size a := fun v603 k2_hw47 => k2_hw47

def k2_off141 (k2_t1 : Fin k2_t1_loop.trips) : Fin 2 → Nat :=
  let c0_i32 : BitVec 32 := 0#32
  let c1_i32 : BitVec 32 := 1#32
  let arg7 : BitVec 32 := Scf.iv c0_i32 c1_i32 k2_t1
  let v610 : Index := Scalar.indexCast arg7
  let c46_189 : Index := 46#32
  ![v610.toNat, 46]
def k2_off142 (k2_t1 : Fin k2_t1_loop.trips) : Fin 2 → Nat :=
  let c0_i32 : BitVec 32 := 0#32
  let c1_i32 : BitVec 32 := 1#32
  let arg7 : BitVec 32 := Scf.iv c0_i32 c1_i32 k2_t1
  let v613 : Index := Scalar.indexCast arg7
  let c47 : Index := 47#32
  ![v613.toNat, 47]
def k2_off143 (v616 : BitVec 32) : Fin 3 → Nat :=
  let v617 : Index := Scalar.indexCast v616
  let c0_191 : Index := 0#32
  let c0_192 : Index := 0#32
  ![v617.toNat, 0, 0]

def k2_chk48 (v616 : BitVec 32) : Prop :=
  (∀ a, (k2_off143 v616) a + S1x4x128.size a ≤ S10000x4x128.size a)
theorem k2_off143_inb : ∀ (v616 : BitVec 32) (k2_hw48 : k2_chk48 v616), ∀ a, (k2_off143 v616) a + S1x4x128.size a ≤ S10000x4x128.size a := fun v616 k2_hw48 => k2_hw48

def k2_off144 (k2_t1 : Fin k2_t1_loop.trips) : Fin 2 → Nat :=
  let c0_i32 : BitVec 32 := 0#32
  let c1_i32 : BitVec 32 := 1#32
  let arg7 : BitVec 32 := Scf.iv c0_i32 c1_i32 k2_t1
  let v623 : Index := Scalar.indexCast arg7
  let c47_193 : Index := 47#32
  ![v623.toNat, 47]
def k2_off145 (k2_t1 : Fin k2_t1_loop.trips) : Fin 3 → Nat :=
  let c0_i32 : BitVec 32 := 0#32
  let c1_i32 : BitVec 32 := 1#32
  let arg7 : BitVec 32 := Scf.iv c0_i32 c1_i32 k2_t1
  let v635 : Index := Scalar.indexCast arg7
  let c0_198 : Index := 0#32
  let c0_199 : Index := 0#32
  ![v635.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .smem S64x48 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .smem S64x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .smem S64x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S10000x4x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S64x4x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
abbrev S40000x768 : Shape := ⟨2, ![40000, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S768x512 : Shape := ⟨2, ![768, 512]⟩
abbrev S512 : Shape := ⟨1, ![512]⟩
abbrev S10000x8 : Shape := ⟨2, ![10000, 8]⟩
abbrev S16x32x48 : Shape := ⟨3, ![16, 32, 48]⟩
abbrev S768x768 : Shape := ⟨2, ![768, 768]⟩
abbrev S768x2048 : Shape := ⟨2, ![768, 2048]⟩
abbrev S_ : Shape := ⟨0, ![]⟩
abbrev S2048 : Shape := ⟨1, ![2048]⟩
abbrev S1x2048 : Shape := ⟨2, ![1, 2048]⟩
abbrev S40000x2x2x128 : Shape := ⟨4, ![40000, 2, 2, 128]⟩
abbrev S40000x2x1x128 : Shape := ⟨4, ![40000, 2, 1, 128]⟩
abbrev S40000x2x128 : Shape := ⟨3, ![40000, 2, 128]⟩
abbrev S1000x768 : Shape := ⟨2, ![1000, 768]⟩
abbrev S1000x2x128 : Shape := ⟨3, ![1000, 2, 128]⟩
abbrev S1000x2x2x128 : Shape := ⟨4, ![1000, 2, 2, 128]⟩
abbrev S1000x2x1x128 : Shape := ⟨4, ![1000, 2, 1, 128]⟩
abbrev S1000x2048 : Shape := ⟨2, ![1000, 2048]⟩
abbrev S1000x128 : Shape := ⟨2, ![1000, 128]⟩
abbrev S1000x1x128 : Shape := ⟨3, ![1000, 1, 128]⟩
abbrev S80000 : Shape := ⟨1, ![80000]⟩
abbrev S80000x1 : Shape := ⟨2, ![80000, 1]⟩
abbrev S80000x768 : Shape := ⟨2, ![80000, 768]⟩
abbrev S50x1x1600 : Shape := ⟨3, ![50, 1, 1600]⟩
abbrev S768x8 : Shape := ⟨2, ![768, 8]⟩
abbrev S10000x4x128 : Shape := ⟨3, ![10000, 4, 128]⟩
abbrev S1x1x1600 : Shape := ⟨3, ![1, 1, 1600]⟩
abbrev S1600x768 : Shape := ⟨2, ![1600, 768]⟩
abbrev S1600x1 : Shape := ⟨2, ![1600, 1]⟩
abbrev S200x4x128 : Shape := ⟨3, ![200, 4, 128]⟩
abbrev S1600x2x128 : Shape := ⟨3, ![1600, 2, 128]⟩
abbrev S1600x2x2x128 : Shape := ⟨4, ![1600, 2, 2, 128]⟩
abbrev S1600x2x1x128 : Shape := ⟨4, ![1600, 2, 1, 128]⟩
abbrev S1600x8 : Shape := ⟨2, ![1600, 8]⟩
abbrev S200x8x8 : Shape := ⟨3, ![200, 8, 8]⟩
abbrev S200x8 : Shape := ⟨2, ![200, 8]⟩
abbrev S200x1x8 : Shape := ⟨3, ![200, 1, 8]⟩
abbrev S1x1x1 : Shape := ⟨3, ![1, 1, 1]⟩
abbrev S1x2x128 : Shape := ⟨3, ![1, 2, 128]⟩
abbrev S1x2x2x128 : Shape := ⟨4, ![1, 2, 2, 128]⟩
abbrev S1x2x1x128 : Shape := ⟨4, ![1, 2, 1, 128]⟩
abbrev S2x128 : Shape := ⟨2, ![2, 128]⟩
abbrev S200x2x128 : Shape := ⟨3, ![200, 2, 128]⟩
abbrev S200x2x2x128 : Shape := ⟨4, ![200, 2, 2, 128]⟩
abbrev S200x2x1x128 : Shape := ⟨4, ![200, 2, 1, 128]⟩
abbrev S200x1x1 : Shape := ⟨3, ![200, 1, 1]⟩
abbrev S512x48 : Shape := ⟨2, ![512, 48]⟩
abbrev S4x128 : Shape := ⟨2, ![4, 128]⟩
abbrev S512x4x128 : Shape := ⟨3, ![512, 4, 128]⟩
abbrev S64x48 : Shape := ⟨2, ![64, 48]⟩
abbrev S64x4x128 : Shape := ⟨3, ![64, 4, 128]⟩
abbrev S1x1 : Shape := ⟨2, ![1, 1]⟩
abbrev S1x4x128 : Shape := ⟨3, ![1, 4, 128]⟩
abbrev S16x32x512 : Shape := ⟨3, ![16, 32, 512]⟩

abbrev nBuf : Space → Nat
  | .hbm => 66
  | .vmem => 25
  | .smem => 8
  | _ => 0

abbrev bufTy : (tb : Table) → Fin (tcTables nBuf tb) → BufTy
  | .hbm, ⟨0, _⟩ => ⟨S40000x768, .f32⟩
  | .hbm, ⟨1, _⟩ => ⟨S1536x768, .f32⟩
  | .hbm, ⟨2, _⟩ => ⟨S768, .f32⟩
  | .hbm, ⟨3, _⟩ => ⟨S768x1, .f32⟩
  | .hbm, ⟨4, _⟩ => ⟨S1, .f32⟩
  | .hbm, ⟨5, _⟩ => ⟨S768x512, .f32⟩
  | .hbm, ⟨6, _⟩ => ⟨S512, .f32⟩
  | .hbm, ⟨7, _⟩ => ⟨S10000x8, .f32⟩
  | .hbm, ⟨8, _⟩ => ⟨S16x32x48, .f32⟩
  | .hbm, ⟨9, _⟩ => ⟨S10000x8, .i32⟩
  | .hbm, ⟨10, _⟩ => ⟨S10000x8, .i32⟩
  | .hbm, ⟨11, _⟩ => ⟨S16x32x48, .i32⟩
  | .hbm, ⟨12, _⟩ => ⟨S768x768, .f32⟩
  | .hbm, ⟨13, _⟩ => ⟨S768x768, .f32⟩
  | .hbm, ⟨14, _⟩ => ⟨S768x2048, .f32⟩
  | .hbm, ⟨15, _⟩ => ⟨S768x2048, .bf16⟩
  | .hbm, ⟨16, _⟩ => ⟨S_, .f32⟩
  | .hbm, ⟨17, _⟩ => ⟨S768, .f32⟩
  | .hbm, ⟨18, _⟩ => ⟨S_, .f32⟩
  | .hbm, ⟨19, _⟩ => ⟨S512, .f32⟩
  | .hbm, ⟨20, _⟩ => ⟨S2048, .f32⟩
  | .hbm, ⟨21, _⟩ => ⟨S1x2048, .f32⟩
  | .hbm, ⟨22, _⟩ => ⟨S40000x768, .bf16⟩
  | .hbm, ⟨23, _⟩ => ⟨S40000x768, .bf16⟩
  | .hbm, ⟨24, _⟩ => ⟨S40000x2x2x128, .bf16⟩
  | .hbm, ⟨25, _⟩ => ⟨S80000, .i32⟩
  | .hbm, ⟨26, _⟩ => ⟨S_, .i32⟩
  | .hbm, ⟨27, _⟩ => ⟨S80000, .i32⟩
  | .hbm, ⟨28, _⟩ => ⟨S80000, .i1⟩
  | .hbm, ⟨29, _⟩ => ⟨S_, .i32⟩
  | .hbm, ⟨30, _⟩ => ⟨S80000, .i32⟩
  | .hbm, ⟨31, _⟩ => ⟨S80000, .i32⟩
  | .hbm, ⟨32, _⟩ => ⟨S80000, .i32⟩
  | .hbm, ⟨33, _⟩ => ⟨S80000x1, .i32⟩
  | .hbm, ⟨34, _⟩ => ⟨S80000x768, .bf16⟩
  | .hbm, ⟨35, _⟩ => ⟨S80000, .i32⟩
  | .hbm, ⟨36, _⟩ => ⟨S50x1x1600, .i32⟩
  | .hbm, ⟨37, _⟩ => ⟨S80000x1, .f32⟩
  | .hbm, ⟨38, _⟩ => ⟨S768x8, .f32⟩
  | .hbm, ⟨39, _⟩ => ⟨S768x8, .bf16⟩
  | .hbm, ⟨40, _⟩ => ⟨S_, .i32⟩
  | .hbm, ⟨41, _⟩ => ⟨S80000, .i32⟩
  | .hbm, ⟨42, _⟩ => ⟨S80000, .i1⟩
  | .hbm, ⟨43, _⟩ => ⟨S_, .i32⟩
  | .hbm, ⟨44, _⟩ => ⟨S80000, .i32⟩
  | .hbm, ⟨45, _⟩ => ⟨S80000, .i32⟩
  | .hbm, ⟨46, _⟩ => ⟨S80000, .i32⟩
  | .hbm, ⟨47, _⟩ => ⟨S80000x1, .i32⟩
  | .hbm, ⟨48, _⟩ => ⟨S80000x768, .bf16⟩
  | .hbm, ⟨49, _⟩ => ⟨S10000x4x128, .f32⟩
  | .hbm, ⟨50, _⟩ => ⟨S512x48, .i32⟩
  | .hbm, ⟨51, _⟩ => ⟨S_, .i32⟩
  | .hbm, ⟨52, _⟩ => ⟨S512x48, .i32⟩
  | .hbm, ⟨53, _⟩ => ⟨S512x48, .i32⟩
  | .hbm, ⟨54, _⟩ => ⟨S_, .i32⟩
  | .hbm, ⟨55, _⟩ => ⟨S512x48, .i32⟩
  | .hbm, ⟨56, _⟩ => ⟨S512x48, .i32⟩
  | .hbm, ⟨57, _⟩ => ⟨S512x48, .f32⟩
  | .hbm, ⟨58, _⟩ => ⟨S_, .i32⟩
  | .hbm, ⟨59, _⟩ => ⟨S512x48, .i32⟩
  | .hbm, ⟨60, _⟩ => ⟨S512x48, .i1⟩
  | .hbm, ⟨61, _⟩ => ⟨S512x48, .f32⟩
  | .hbm, ⟨62, _⟩ => ⟨S512x48, .f32⟩
  | .hbm, ⟨63, _⟩ => ⟨S4x128, .f32⟩
  | .hbm, ⟨64, _⟩ => ⟨S512x4x128, .f32⟩
  | .hbm, ⟨65, _⟩ => ⟨S16x32x512, .f32⟩
  | .local _ .vmem, ⟨0, _⟩ => ⟨S1000x768, .f32⟩
  | .local _ .vmem, ⟨1, _⟩ => ⟨S1000x768, .f32⟩
  | .local _ .vmem, ⟨2, _⟩ => ⟨S768x2048, .bf16⟩
  | .local _ .vmem, ⟨3, _⟩ => ⟨S1x2048, .f32⟩
  | .local _ .vmem, ⟨4, _⟩ => ⟨S1000x768, .bf16⟩
  | .local _ .vmem, ⟨5, _⟩ => ⟨S1000x768, .bf16⟩
  | .local _ .vmem, ⟨6, _⟩ => ⟨S1000x768, .bf16⟩
  | .local _ .vmem, ⟨7, _⟩ => ⟨S1000x768, .bf16⟩
  | .local _ .vmem, ⟨8, _⟩ => ⟨S1000x2x2x128, .bf16⟩
  | .local _ .vmem, ⟨9, _⟩ => ⟨S1000x2x2x128, .bf16⟩
  | .local _ .vmem, ⟨10, _⟩ => ⟨S1600x768, .bf16⟩
  | .local _ .vmem, ⟨11, _⟩ => ⟨S1600x768, .bf16⟩
  | .local _ .vmem, ⟨12, _⟩ => ⟨S1600x768, .bf16⟩
  | .local _ .vmem, ⟨13, _⟩ => ⟨S1600x768, .bf16⟩
  | .local _ .vmem, ⟨14, _⟩ => ⟨S1600x1, .f32⟩
  | .local _ .vmem, ⟨15, _⟩ => ⟨S1600x1, .f32⟩
  | .local _ .vmem, ⟨16, _⟩ => ⟨S768x8, .bf16⟩
  | .local _ .vmem, ⟨17, _⟩ => ⟨S40000x2x2x128, .bf16⟩
  | .local _ .vmem, ⟨18, _⟩ => ⟨S200x4x128, .f32⟩
  | .local _ .vmem, ⟨19, _⟩ => ⟨S200x4x128, .f32⟩
  | .local _ .vmem, ⟨20, _⟩ => ⟨S1600x2x2x128, .bf16⟩
  | .local _ .vmem, ⟨21, _⟩ => ⟨S10000x4x128, .f32⟩
  | .local _ .vmem, ⟨22, _⟩ => ⟨S4x128, .f32⟩
  | .local _ .vmem, ⟨23, _⟩ => ⟨S64x4x128, .f32⟩
  | .local _ .vmem, ⟨24, _⟩ => ⟨S64x4x128, .f32⟩
  | .local _ .smem, ⟨0, _⟩ => ⟨S1x1x1600, .i32⟩
  | .local _ .smem, ⟨1, _⟩ => ⟨S1x1x1600, .i32⟩
  | .local _ .smem, ⟨2, _⟩ => ⟨S64x48, .i32⟩
  | .local _ .smem, ⟨3, _⟩ => ⟨S64x48, .i32⟩
  | .local _ .smem, ⟨4, _⟩ => ⟨S64x48, .f32⟩
  | .local _ .smem, ⟨5, _⟩ => ⟨S64x48, .f32⟩
  | .local _ .smem, ⟨6, _⟩ => ⟨S64x48, .f32⟩
  | .local _ .smem, ⟨7, _⟩ => ⟨S64x48, .f32⟩
  | _, _ => ⟨S40000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_c_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc1_stg0_0 : Ref sig .tc := ⟨.smem, 0, rfl⟩
abbrev cc1_stg0_1 : Ref sig .tc := ⟨.smem, 1, rfl⟩
abbrev cc2_stg0_0 : Ref sig .tc := ⟨.smem, 2, rfl⟩
abbrev cc2_stg0_1 : Ref sig .tc := ⟨.smem, 3, rfl⟩
abbrev cc2_stg1_0 : Ref sig .tc := ⟨.smem, 4, rfl⟩
abbrev cc2_stg1_1 : Ref sig .tc := ⟨.smem, 5, rfl⟩
abbrev cc2_stg2_0 : Ref sig .tc := ⟨.smem, 6, rfl⟩
abbrev cc2_stg2_1 : Ref sig .tc := ⟨.smem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F] [Named F]

def κ : String → Option EReal := fun
  | "mask" => some ⊥
  | _ => none

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x2x2x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

@[reducible] def k1_t1_loop : Scf.Loop 32 :=
  let c0_i32 : BitVec 32 := 0#32
  let c50_i32 : BitVec 32 := 50#32
  let v29 : BitVec 32 := Scalar.addi c0_i32 c50_i32
  let c1_i32 : BitVec 32 := 1#32
  ⟨c0_i32, v29, c1_i32⟩
def k1_off1 (k1_t1 : Fin k1_t1_loop.trips) : Fin 3 → Nat :=
  let c0_35 : Index := 0#32
  let c0_36 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_33 : BitVec 32 := 0#32
  let v87 : BitVec 32 := Scalar.addi v86 c0_i32_33
  let c8_i32 : BitVec 32 := 8#32
  let v88 : BitVec 32 := Scalar.muli v87 c8_i32
  let c0_i32_34 : BitVec 32 := 0#32
  let v89 : BitVec 32 := Scalar.addi v88 c0_i32_34
  let v90 : Index := Scalar.indexCast v89
  ![0, 0, v90.toNat]
def k1_off2 (v91 : BitVec 32) : Fin 4 → Nat :=
  let v92 : Index := Scalar.indexCast v91
  let c0_37 : Index := 0#32
  let c0_38 : Index := 0#32
  ![v92.toNat, 0, 0, 0]

def k1_chk1 (v91 : BitVec 32) : Prop :=
  (∀ a, (k1_off2 v91) a + S1x2x2x128.size a ≤ S40000x2x2x128.size a)
theorem k1_off2_inb : ∀ (v91 : BitVec 32) (k1_hw1 : k1_chk1 v91), ∀ a, (k1_off2 v91) a + S1x2x2x128.size a ≤ S40000x2x2x128.size a := fun v91 k1_hw1 => k1_hw1

def k1_off3 (k1_t1 : Fin k1_t1_loop.trips) : Fin 4 → Nat :=
  let c0_i32_39 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v95 : BitVec 32 := Scalar.addi c0_i32_39 v86
  let c0_i32_40 : BitVec 32 := 0#32
  let v96 : BitVec 32 := Scalar.addi v95 c0_i32_40
  let v97 : Index := Scalar.indexCast v96
  let c0_41 : Index := 0#32
  let c0_42 : Index := 0#32
  ![v97.toNat, 0, 0, 0]
def k1_off4 (k1_t1 : Fin k1_t1_loop.trips) : Fin 3 → Nat :=
  let c0_46 : Index := 0#32
  let c0_47 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_43 : BitVec 32 := 0#32
  let v101 : BitVec 32 := Scalar.addi v86 c0_i32_43
  let c8_i32_44 : BitVec 32 := 8#32
  let v102 : BitVec 32 := Scalar.muli v101 c8_i32_44
  let c1_i32_45 : BitVec 32 := 1#32
  let v103 : BitVec 32 := Scalar.addi v102 c1_i32_45
  let v104 : Index := Scalar.indexCast v103
  ![0, 0, v104.toNat]
def k1_off5 (v105 : BitVec 32) : Fin 4 → Nat :=
  let v106 : Index := Scalar.indexCast v105
  let c0_48 : Index := 0#32
  let c0_49 : Index := 0#32
  ![v106.toNat, 0, 0, 0]

def k1_chk2 (v105 : BitVec 32) : Prop :=
  (∀ a, (k1_off5 v105) a + S1x2x2x128.size a ≤ S40000x2x2x128.size a)
theorem k1_off5_inb : ∀ (v105 : BitVec 32) (k1_hw2 : k1_chk2 v105), ∀ a, (k1_off5 v105) a + S1x2x2x128.size a ≤ S40000x2x2x128.size a := fun v105 k1_hw2 => k1_hw2

def k1_off6 (k1_t1 : Fin k1_t1_loop.trips) : Fin 4 → Nat :=
  let c200_i32 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v109 : BitVec 32 := Scalar.addi c200_i32 v86
  let c0_i32_50 : BitVec 32 := 0#32
  let v110 : BitVec 32 := Scalar.addi v109 c0_i32_50
  let v111 : Index := Scalar.indexCast v110
  let c0_51 : Index := 0#32
  let c0_52 : Index := 0#32
  ![v111.toNat, 0, 0, 0]
def k1_off7 (k1_t1 : Fin k1_t1_loop.trips) : Fin 3 → Nat :=
  let c0_55 : Index := 0#32
  let c0_56 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_53 : BitVec 32 := 0#32
  let v115 : BitVec 32 := Scalar.addi v86 c0_i32_53
  let c8_i32_54 : BitVec 32 := 8#32
  let v116 : BitVec 32 := Scalar.muli v115 c8_i32_54
  let c2_i32 : BitVec 32 := 2#32
  let v117 : BitVec 32 := Scalar.addi v116 c2_i32
  let v118 : Index := Scalar.indexCast v117
  ![0, 0, v118.toNat]
def k1_off8 (v119 : BitVec 32) : Fin 4 → Nat :=
  let v120 : Index := Scalar.indexCast v119
  let c0_57 : Index := 0#32
  let c0_58 : Index := 0#32
  ![v120.toNat, 0, 0, 0]

def k1_chk3 (v119 : BitVec 32) : Prop :=
  (∀ a, (k1_off8 v119) a + S1x2x2x128.size a ≤ S40000x2x2x128.size a)
theorem k1_off8_inb : ∀ (v119 : BitVec 32) (k1_hw3 : k1_chk3 v119), ∀ a, (k1_off8 v119) a + S1x2x2x128.size a ≤ S40000x2x2x128.size a := fun v119 k1_hw3 => k1_hw3

def k1_off9 (k1_t1 : Fin k1_t1_loop.trips) : Fin 4 → Nat :=
  let c400_i32 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v123 : BitVec 32 := Scalar.addi c400_i32 v86
  let c0_i32_59 : BitVec 32 := 0#32
  let v124 : BitVec 32 := Scalar.addi v123 c0_i32_59
  let v125 : Index := Scalar.indexCast v124
  let c0_60 : Index := 0#32
  let c0_61 : Index := 0#32
  ![v125.toNat, 0, 0, 0]
def k1_off10 (k1_t1 : Fin k1_t1_loop.trips) : Fin 3 → Nat :=
  let c0_64 : Index := 0#32
  let c0_65 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_62 : BitVec 32 := 0#32
  let v129 : BitVec 32 := Scalar.addi v86 c0_i32_62
  let c8_i32_63 : BitVec 32 := 8#32
  let v130 : BitVec 32 := Scalar.muli v129 c8_i32_63
  let c3_i32 : BitVec 32 := 3#32
  let v131 : BitVec 32 := Scalar.addi v130 c3_i32
  let v132 : Index := Scalar.indexCast v131
  ![0, 0, v132.toNat]
def k1_off11 (v133 : BitVec 32) : Fin 4 → Nat :=
  let v134 : Index := Scalar.indexCast v133
  let c0_66 : Index := 0#32
  let c0_67 : Index := 0#32
  ![v134.toNat, 0, 0, 0]

def k1_chk4 (v133 : BitVec 32) : Prop :=
  (∀ a, (k1_off11 v133) a + S1x2x2x128.size a ≤ S40000x2x2x128.size a)
theorem k1_off11_inb : ∀ (v133 : BitVec 32) (k1_hw4 : k1_chk4 v133), ∀ a, (k1_off11 v133) a + S1x2x2x128.size a ≤ S40000x2x2x128.size a := fun v133 k1_hw4 => k1_hw4

def k1_off12 (k1_t1 : Fin k1_t1_loop.trips) : Fin 4 → Nat :=
  let c600_i32 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v137 : BitVec 32 := Scalar.addi c600_i32 v86
  let c0_i32_68 : BitVec 32 := 0#32
  let v138 : BitVec 32 := Scalar.addi v137 c0_i32_68
  let v139 : Index := Scalar.indexCast v138
  let c0_69 : Index := 0#32
  let c0_70 : Index := 0#32
  ![v139.toNat, 0, 0, 0]
def k1_off13 (k1_t1 : Fin k1_t1_loop.trips) : Fin 3 → Nat :=
  let c0_74 : Index := 0#32
  let c0_75 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_71 : BitVec 32 := 0#32
  let v143 : BitVec 32 := Scalar.addi v86 c0_i32_71
  let c8_i32_72 : BitVec 32 := 8#32
  let v144 : BitVec 32 := Scalar.muli v143 c8_i32_72
  let c4_i32_73 : BitVec 32 := 4#32
  let v145 : BitVec 32 := Scalar.addi v144 c4_i32_73
  let v146 : Index := Scalar.indexCast v145
  ![0, 0, v146.toNat]
def k1_off14 (v147 : BitVec 32) : Fin 4 → Nat :=
  let v148 : Index := Scalar.indexCast v147
  let c0_76 : Index := 0#32
  let c0_77 : Index := 0#32
  ![v148.toNat, 0, 0, 0]

def k1_chk5 (v147 : BitVec 32) : Prop :=
  (∀ a, (k1_off14 v147) a + S1x2x2x128.size a ≤ S40000x2x2x128.size a)
theorem k1_off14_inb : ∀ (v147 : BitVec 32) (k1_hw5 : k1_chk5 v147), ∀ a, (k1_off14 v147) a + S1x2x2x128.size a ≤ S40000x2x2x128.size a := fun v147 k1_hw5 => k1_hw5

def k1_off15 (k1_t1 : Fin k1_t1_loop.trips) : Fin 4 → Nat :=
  let c800_i32 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v151 : BitVec 32 := Scalar.addi c800_i32 v86
  let c0_i32_78 : BitVec 32 := 0#32
  let v152 : BitVec 32 := Scalar.addi v151 c0_i32_78
  let v153 : Index := Scalar.indexCast v152
  let c0_79 : Index := 0#32
  let c0_80 : Index := 0#32
  ![v153.toNat, 0, 0, 0]
def k1_off16 (k1_t1 : Fin k1_t1_loop.trips) : Fin 3 → Nat :=
  let c0_83 : Index := 0#32
  let c0_84 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_81 : BitVec 32 := 0#32
  let v157 : BitVec 32 := Scalar.addi v86 c0_i32_81
  let c8_i32_82 : BitVec 32 := 8#32
  let v158 : BitVec 32 := Scalar.muli v157 c8_i32_82
  let c5_i32 : BitVec 32 := 5#32
  let v159 : BitVec 32 := Scalar.addi v158 c5_i32
  let v160 : Index := Scalar.indexCast v159
  ![0, 0, v160.toNat]
def k1_off17 (v161 : BitVec 32) : Fin 4 → Nat :=
  let v162 : Index := Scalar.indexCast v161
  let c0_85 : Index := 0#32
  let c0_86 : Index := 0#32
  ![v162.toNat, 0, 0, 0]

def k1_chk6 (v161 : BitVec 32) : Prop :=
  (∀ a, (k1_off17 v161) a + S1x2x2x128.size a ≤ S40000x2x2x128.size a)
theorem k1_off17_inb : ∀ (v161 : BitVec 32) (k1_hw6 : k1_chk6 v161), ∀ a, (k1_off17 v161) a + S1x2x2x128.size a ≤ S40000x2x2x128.size a := fun v161 k1_hw6 => k1_hw6

def k1_off18 (k1_t1 : Fin k1_t1_loop.trips) : Fin 4 → Nat :=
  let c1000_i32 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v165 : BitVec 32 := Scalar.addi c1000_i32 v86
  let c0_i32_87 : BitVec 32 := 0#32
  let v166 : BitVec 32 := Scalar.addi v165 c0_i32_87
  let v167 : Index := Scalar.indexCast v166
  let c0_88 : Index := 0#32
  let c0_89 : Index := 0#32
  ![v167.toNat, 0, 0, 0]
def k1_off19 (k1_t1 : Fin k1_t1_loop.trips) : Fin 3 → Nat :=
  let c0_92 : Index := 0#32
  let c0_93 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_90 : BitVec 32 := 0#32
  let v171 : BitVec 32 := Scalar.addi v86 c0_i32_90
  let c8_i32_91 : BitVec 32 := 8#32
  let v172 : BitVec 32 := Scalar.muli v171 c8_i32_91
  let c6_i32 : BitVec 32 := 6#32
  let v173 : BitVec 32 := Scalar.addi v172 c6_i32
  let v174 : Index := Scalar.indexCast v173
  ![0, 0, v174.toNat]
def k1_off20 (v175 : BitVec 32) : Fin 4 → Nat :=
  let v176 : Index := Scalar.indexCast v175
  let c0_94 : Index := 0#32
  let c0_95 : Index := 0#32
  ![v176.toNat, 0, 0, 0]

def k1_chk7 (v175 : BitVec 32) : Prop :=
  (∀ a, (k1_off20 v175) a + S1x2x2x128.size a ≤ S40000x2x2x128.size a)
theorem k1_off20_inb : ∀ (v175 : BitVec 32) (k1_hw7 : k1_chk7 v175), ∀ a, (k1_off20 v175) a + S1x2x2x128.size a ≤ S40000x2x2x128.size a := fun v175 k1_hw7 => k1_hw7

def k1_off21 (k1_t1 : Fin k1_t1_loop.trips) : Fin 4 → Nat :=
  let c1200_i32 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v179 : BitVec 32 := Scalar.addi c1200_i32 v86
  let c0_i32_96 : BitVec 32 := 0#32
  let v180 : BitVec 32 := Scalar.addi v179 c0_i32_96
  let v181 : Index := Scalar.indexCast v180
  let c0_97 : Index := 0#32
  let c0_98 : Index := 0#32
  ![v181.toNat, 0, 0, 0]
def k1_off22 (k1_t1 : Fin k1_t1_loop.trips) : Fin 3 → Nat :=
  let c0_101 : Index := 0#32
  let c0_102 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c0_i32_99 : BitVec 32 := 0#32
  let v185 : BitVec 32 := Scalar.addi v86 c0_i32_99
  let c8_i32_100 : BitVec 32 := 8#32
  let v186 : BitVec 32 := Scalar.muli v185 c8_i32_100
  let c7_i32 : BitVec 32 := 7#32
  let v187 : BitVec 32 := Scalar.addi v186 c7_i32
  let v188 : Index := Scalar.indexCast v187
  ![0, 0, v188.toNat]
def k1_off23 (v189 : BitVec 32) : Fin 4 → Nat :=
  let v190 : Index := Scalar.indexCast v189
  let c0_103 : Index := 0#32
  let c0_104 : Index := 0#32
  ![v190.toNat, 0, 0, 0]

def k1_chk8 (v189 : BitVec 32) : Prop :=
  (∀ a, (k1_off23 v189) a + S1x2x2x128.size a ≤ S40000x2x2x128.size a)
theorem k1_off23_inb : ∀ (v189 : BitVec 32) (k1_hw8 : k1_chk8 v189), ∀ a, (k1_off23 v189) a + S1x2x2x128.size a ≤ S40000x2x2x128.size a := fun v189 k1_hw8 => k1_hw8

def k1_off24 (k1_t1 : Fin k1_t1_loop.trips) : Fin 4 → Nat :=
  let c1400_i32 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v193 : BitVec 32 := Scalar.addi c1400_i32 v86
  let c0_i32_105 : BitVec 32 := 0#32
  let v194 : BitVec 32 := Scalar.addi v193 c0_i32_105
  let v195 : Index := Scalar.indexCast v194
  let c0_106 : Index := 0#32
  let c0_107 : Index := 0#32
  ![v195.toNat, 0, 0, 0]
def k1_off25 (k1_t1 : Fin k1_t1_loop.trips) : Fin 3 → Nat :=
  let c0_111 : Index := 0#32
  let c0_112 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_108 : BitVec 32 := 1#32
  let v199 : BitVec 32 := Scalar.addi v86 c1_i32_108
  let c8_i32_109 : BitVec 32 := 8#32
  let v200 : BitVec 32 := Scalar.muli v199 c8_i32_109
  let c0_i32_110 : BitVec 32 := 0#32
  let v201 : BitVec 32 := Scalar.addi v200 c0_i32_110
  let v202 : Index := Scalar.indexCast v201
  ![0, 0, v202.toNat]
def k1_off26 (v203 : BitVec 32) : Fin 4 → Nat :=
  let v204 : Index := Scalar.indexCast v203
  let c0_113 : Index := 0#32
  let c0_114 : Index := 0#32
  ![v204.toNat, 0, 0, 0]

def k1_chk9 (v203 : BitVec 32) : Prop :=
  (∀ a, (k1_off26 v203) a + S1x2x2x128.size a ≤ S40000x2x2x128.size a)
theorem k1_off26_inb : ∀ (v203 : BitVec 32) (k1_hw9 : k1_chk9 v203), ∀ a, (k1_off26 v203) a + S1x2x2x128.size a ≤ S40000x2x2x128.size a := fun v203 k1_hw9 => k1_hw9

def k1_off27 (k1_t1 : Fin k1_t1_loop.trips) : Fin 4 → Nat :=
  let c0_i32_115 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v207 : BitVec 32 := Scalar.addi c0_i32_115 v86
  let c1_i32_116 : BitVec 32 := 1#32
  let v208 : BitVec 32 := Scalar.addi v207 c1_i32_116
  let v209 : Index := Scalar.indexCast v208
  let c0_117 : Index := 0#32
  let c0_118 : Index := 0#32
  ![v209.toNat, 0, 0, 0]
def k1_off28 (k1_t1 : Fin k1_t1_loop.trips) : Fin 3 → Nat :=
  let c0_122 : Index := 0#32
  let c0_123 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_119 : BitVec 32 := 1#32
  let v213 : BitVec 32 := Scalar.addi v86 c1_i32_119
  let c8_i32_120 : BitVec 32 := 8#32
  let v214 : BitVec 32 := Scalar.muli v213 c8_i32_120
  let c1_i32_121 : BitVec 32 := 1#32
  let v215 : BitVec 32 := Scalar.addi v214 c1_i32_121
  let v216 : Index := Scalar.indexCast v215
  ![0, 0, v216.toNat]
def k1_off29 (v217 : BitVec 32) : Fin 4 → Nat :=
  let v218 : Index := Scalar.indexCast v217
  let c0_124 : Index := 0#32
  let c0_125 : Index := 0#32
  ![v218.toNat, 0, 0, 0]

def k1_chk10 (v217 : BitVec 32) : Prop :=
  (∀ a, (k1_off29 v217) a + S1x2x2x128.size a ≤ S40000x2x2x128.size a)
theorem k1_off29_inb : ∀ (v217 : BitVec 32) (k1_hw10 : k1_chk10 v217), ∀ a, (k1_off29 v217) a + S1x2x2x128.size a ≤ S40000x2x2x128.size a := fun v217 k1_hw10 => k1_hw10

def k1_off30 (k1_t1 : Fin k1_t1_loop.trips) : Fin 4 → Nat :=
  let c200_i32_126 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v221 : BitVec 32 := Scalar.addi c200_i32_126 v86
  let c1_i32_127 : BitVec 32 := 1#32
  let v222 : BitVec 32 := Scalar.addi v221 c1_i32_127
  let v223 : Index := Scalar.indexCast v222
  let c0_128 : Index := 0#32
  let c0_129 : Index := 0#32
  ![v223.toNat, 0, 0, 0]
def k1_off31 (k1_t1 : Fin k1_t1_loop.trips) : Fin 3 → Nat :=
  let c0_133 : Index := 0#32
  let c0_134 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_130 : BitVec 32 := 1#32
  let v227 : BitVec 32 := Scalar.addi v86 c1_i32_130
  let c8_i32_131 : BitVec 32 := 8#32
  let v228 : BitVec 32 := Scalar.muli v227 c8_i32_131
  let c2_i32_132 : BitVec 32 := 2#32
  let v229 : BitVec 32 := Scalar.addi v228 c2_i32_132
  let v230 : Index := Scalar.indexCast v229
  ![0, 0, v230.toNat]
def k1_off32 (v231 : BitVec 32) : Fin 4 → Nat :=
  let v232 : Index := Scalar.indexCast v231
  let c0_135 : Index := 0#32
  let c0_136 : Index := 0#32
  ![v232.toNat, 0, 0, 0]

def k1_chk11 (v231 : BitVec 32) : Prop :=
  (∀ a, (k1_off32 v231) a + S1x2x2x128.size a ≤ S40000x2x2x128.size a)
theorem k1_off32_inb : ∀ (v231 : BitVec 32) (k1_hw11 : k1_chk11 v231), ∀ a, (k1_off32 v231) a + S1x2x2x128.size a ≤ S40000x2x2x128.size a := fun v231 k1_hw11 => k1_hw11

def k1_off33 (k1_t1 : Fin k1_t1_loop.trips) : Fin 4 → Nat :=
  let c400_i32_137 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v235 : BitVec 32 := Scalar.addi c400_i32_137 v86
  let c1_i32_138 : BitVec 32 := 1#32
  let v236 : BitVec 32 := Scalar.addi v235 c1_i32_138
  let v237 : Index := Scalar.indexCast v236
  let c0_139 : Index := 0#32
  let c0_140 : Index := 0#32
  ![v237.toNat, 0, 0, 0]
def k1_off34 (k1_t1 : Fin k1_t1_loop.trips) : Fin 3 → Nat :=
  let c0_144 : Index := 0#32
  let c0_145 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_141 : BitVec 32 := 1#32
  let v241 : BitVec 32 := Scalar.addi v86 c1_i32_141
  let c8_i32_142 : BitVec 32 := 8#32
  let v242 : BitVec 32 := Scalar.muli v241 c8_i32_142
  let c3_i32_143 : BitVec 32 := 3#32
  let v243 : BitVec 32 := Scalar.addi v242 c3_i32_143
  let v244 : Index := Scalar.indexCast v243
  ![0, 0, v244.toNat]
def k1_off35 (v245 : BitVec 32) : Fin 4 → Nat :=
  let v246 : Index := Scalar.indexCast v245
  let c0_146 : Index := 0#32
  let c0_147 : Index := 0#32
  ![v246.toNat, 0, 0, 0]

def k1_chk12 (v245 : BitVec 32) : Prop :=
  (∀ a, (k1_off35 v245) a + S1x2x2x128.size a ≤ S40000x2x2x128.size a)
theorem k1_off35_inb : ∀ (v245 : BitVec 32) (k1_hw12 : k1_chk12 v245), ∀ a, (k1_off35 v245) a + S1x2x2x128.size a ≤ S40000x2x2x128.size a := fun v245 k1_hw12 => k1_hw12

def k1_off36 (k1_t1 : Fin k1_t1_loop.trips) : Fin 4 → Nat :=
  let c600_i32_148 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v249 : BitVec 32 := Scalar.addi c600_i32_148 v86
  let c1_i32_149 : BitVec 32 := 1#32
  let v250 : BitVec 32 := Scalar.addi v249 c1_i32_149
  let v251 : Index := Scalar.indexCast v250
  let c0_150 : Index := 0#32
  let c0_151 : Index := 0#32
  ![v251.toNat, 0, 0, 0]
def k1_off37 (k1_t1 : Fin k1_t1_loop.trips) : Fin 3 → Nat :=
  let c0_155 : Index := 0#32
  let c0_156 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_152 : BitVec 32 := 1#32
  let v255 : BitVec 32 := Scalar.addi v86 c1_i32_152
  let c8_i32_153 : BitVec 32 := 8#32
  let v256 : BitVec 32 := Scalar.muli v255 c8_i32_153
  let c4_i32_154 : BitVec 32 := 4#32
  let v257 : BitVec 32 := Scalar.addi v256 c4_i32_154
  let v258 : Index := Scalar.indexCast v257
  ![0, 0, v258.toNat]
def k1_off38 (v259 : BitVec 32) : Fin 4 → Nat :=
  let v260 : Index := Scalar.indexCast v259
  let c0_157 : Index := 0#32
  let c0_158 : Index := 0#32
  ![v260.toNat, 0, 0, 0]

def k1_chk13 (v259 : BitVec 32) : Prop :=
  (∀ a, (k1_off38 v259) a + S1x2x2x128.size a ≤ S40000x2x2x128.size a)
theorem k1_off38_inb : ∀ (v259 : BitVec 32) (k1_hw13 : k1_chk13 v259), ∀ a, (k1_off38 v259) a + S1x2x2x128.size a ≤ S40000x2x2x128.size a := fun v259 k1_hw13 => k1_hw13

def k1_off39 (k1_t1 : Fin k1_t1_loop.trips) : Fin 4 → Nat :=
  let c800_i32_159 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v263 : BitVec 32 := Scalar.addi c800_i32_159 v86
  let c1_i32_160 : BitVec 32 := 1#32
  let v264 : BitVec 32 := Scalar.addi v263 c1_i32_160
  let v265 : Index := Scalar.indexCast v264
  let c0_161 : Index := 0#32
  let c0_162 : Index := 0#32
  ![v265.toNat, 0, 0, 0]
def k1_off40 (k1_t1 : Fin k1_t1_loop.trips) : Fin 3 → Nat :=
  let c0_166 : Index := 0#32
  let c0_167 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_163 : BitVec 32 := 1#32
  let v269 : BitVec 32 := Scalar.addi v86 c1_i32_163
  let c8_i32_164 : BitVec 32 := 8#32
  let v270 : BitVec 32 := Scalar.muli v269 c8_i32_164
  let c5_i32_165 : BitVec 32 := 5#32
  let v271 : BitVec 32 := Scalar.addi v270 c5_i32_165
  let v272 : Index := Scalar.indexCast v271
  ![0, 0, v272.toNat]
def k1_off41 (v273 : BitVec 32) : Fin 4 → Nat :=
  let v274 : Index := Scalar.indexCast v273
  let c0_168 : Index := 0#32
  let c0_169 : Index := 0#32
  ![v274.toNat, 0, 0, 0]

def k1_chk14 (v273 : BitVec 32) : Prop :=
  (∀ a, (k1_off41 v273) a + S1x2x2x128.size a ≤ S40000x2x2x128.size a)
theorem k1_off41_inb : ∀ (v273 : BitVec 32) (k1_hw14 : k1_chk14 v273), ∀ a, (k1_off41 v273) a + S1x2x2x128.size a ≤ S40000x2x2x128.size a := fun v273 k1_hw14 => k1_hw14

def k1_off42 (k1_t1 : Fin k1_t1_loop.trips) : Fin 4 → Nat :=
  let c1000_i32_170 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v277 : BitVec 32 := Scalar.addi c1000_i32_170 v86
  let c1_i32_171 : BitVec 32 := 1#32
  let v278 : BitVec 32 := Scalar.addi v277 c1_i32_171
  let v279 : Index := Scalar.indexCast v278
  let c0_172 : Index := 0#32
  let c0_173 : Index := 0#32
  ![v279.toNat, 0, 0, 0]
def k1_off43 (k1_t1 : Fin k1_t1_loop.trips) : Fin 3 → Nat :=
  let c0_177 : Index := 0#32
  let c0_178 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_174 : BitVec 32 := 1#32
  let v283 : BitVec 32 := Scalar.addi v86 c1_i32_174
  let c8_i32_175 : BitVec 32 := 8#32
  let v284 : BitVec 32 := Scalar.muli v283 c8_i32_175
  let c6_i32_176 : BitVec 32 := 6#32
  let v285 : BitVec 32 := Scalar.addi v284 c6_i32_176
  let v286 : Index := Scalar.indexCast v285
  ![0, 0, v286.toNat]
def k1_off44 (v287 : BitVec 32) : Fin 4 → Nat :=
  let v288 : Index := Scalar.indexCast v287
  let c0_179 : Index := 0#32
  let c0_180 : Index := 0#32
  ![v288.toNat, 0, 0, 0]

def k1_chk15 (v287 : BitVec 32) : Prop :=
  (∀ a, (k1_off44 v287) a + S1x2x2x128.size a ≤ S40000x2x2x128.size a)
theorem k1_off44_inb : ∀ (v287 : BitVec 32) (k1_hw15 : k1_chk15 v287), ∀ a, (k1_off44 v287) a + S1x2x2x128.size a ≤ S40000x2x2x128.size a := fun v287 k1_hw15 => k1_hw15

def k1_off45 (k1_t1 : Fin k1_t1_loop.trips) : Fin 4 → Nat :=
  let c1200_i32_181 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v291 : BitVec 32 := Scalar.addi c1200_i32_181 v86
  let c1_i32_182 : BitVec 32 := 1#32
  let v292 : BitVec 32 := Scalar.addi v291 c1_i32_182
  let v293 : Index := Scalar.indexCast v292
  let c0_183 : Index := 0#32
  let c0_184 : Index := 0#32
  ![v293.toNat, 0, 0, 0]
def k1_off46 (k1_t1 : Fin k1_t1_loop.trips) : Fin 3 → Nat :=
  let c0_188 : Index := 0#32
  let c0_189 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c1_i32_185 : BitVec 32 := 1#32
  let v297 : BitVec 32 := Scalar.addi v86 c1_i32_185
  let c8_i32_186 : BitVec 32 := 8#32
  let v298 : BitVec 32 := Scalar.muli v297 c8_i32_186
  let c7_i32_187 : BitVec 32 := 7#32
  let v299 : BitVec 32 := Scalar.addi v298 c7_i32_187
  let v300 : Index := Scalar.indexCast v299
  ![0, 0, v300.toNat]
def k1_off47 (v301 : BitVec 32) : Fin 4 → Nat :=
  let v302 : Index := Scalar.indexCast v301
  let c0_190 : Index := 0#32
  let c0_191 : Index := 0#32
  ![v302.toNat, 0, 0, 0]

def k1_chk16 (v301 : BitVec 32) : Prop :=
  (∀ a, (k1_off47 v301) a + S1x2x2x128.size a ≤ S40000x2x2x128.size a)
theorem k1_off47_inb : ∀ (v301 : BitVec 32) (k1_hw16 : k1_chk16 v301), ∀ a, (k1_off47 v301) a + S1x2x2x128.size a ≤ S40000x2x2x128.size a := fun v301 k1_hw16 => k1_hw16

def k1_off48 (k1_t1 : Fin k1_t1_loop.trips) : Fin 4 → Nat :=
  let c1400_i32_192 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v305 : BitVec 32 := Scalar.addi c1400_i32_192 v86
  let c1_i32_193 : BitVec 32 := 1#32
  let v306 : BitVec 32 := Scalar.addi v305 c1_i32_193
  let v307 : Index := Scalar.indexCast v306
  let c0_194 : Index := 0#32
  let c0_195 : Index := 0#32
  ![v307.toNat, 0, 0, 0]
def k1_off49 (k1_t1 : Fin k1_t1_loop.trips) : Fin 3 → Nat :=
  let c0_199 : Index := 0#32
  let c0_200 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_196 : BitVec 32 := 2#32
  let v311 : BitVec 32 := Scalar.addi v86 c2_i32_196
  let c8_i32_197 : BitVec 32 := 8#32
  let v312 : BitVec 32 := Scalar.muli v311 c8_i32_197
  let c0_i32_198 : BitVec 32 := 0#32
  let v313 : BitVec 32 := Scalar.addi v312 c0_i32_198
  let v314 : Index := Scalar.indexCast v313
  ![0, 0, v314.toNat]
def k1_off50 (v315 : BitVec 32) : Fin 4 → Nat :=
  let v316 : Index := Scalar.indexCast v315
  let c0_201 : Index := 0#32
  let c0_202 : Index := 0#32
  ![v316.toNat, 0, 0, 0]

def k1_chk17 (v315 : BitVec 32) : Prop :=
  (∀ a, (k1_off50 v315) a + S1x2x2x128.size a ≤ S40000x2x2x128.size a)
theorem k1_off50_inb : ∀ (v315 : BitVec 32) (k1_hw17 : k1_chk17 v315), ∀ a, (k1_off50 v315) a + S1x2x2x128.size a ≤ S40000x2x2x128.size a := fun v315 k1_hw17 => k1_hw17

def k1_off51 (k1_t1 : Fin k1_t1_loop.trips) : Fin 4 → Nat :=
  let c0_i32_203 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v319 : BitVec 32 := Scalar.addi c0_i32_203 v86
  let c2_i32_204 : BitVec 32 := 2#32
  let v320 : BitVec 32 := Scalar.addi v319 c2_i32_204
  let v321 : Index := Scalar.indexCast v320
  let c0_205 : Index := 0#32
  let c0_206 : Index := 0#32
  ![v321.toNat, 0, 0, 0]
def k1_off52 (k1_t1 : Fin k1_t1_loop.trips) : Fin 3 → Nat :=
  let c0_210 : Index := 0#32
  let c0_211 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_207 : BitVec 32 := 2#32
  let v325 : BitVec 32 := Scalar.addi v86 c2_i32_207
  let c8_i32_208 : BitVec 32 := 8#32
  let v326 : BitVec 32 := Scalar.muli v325 c8_i32_208
  let c1_i32_209 : BitVec 32 := 1#32
  let v327 : BitVec 32 := Scalar.addi v326 c1_i32_209
  let v328 : Index := Scalar.indexCast v327
  ![0, 0, v328.toNat]
def k1_off53 (v329 : BitVec 32) : Fin 4 → Nat :=
  let v330 : Index := Scalar.indexCast v329
  let c0_212 : Index := 0#32
  let c0_213 : Index := 0#32
  ![v330.toNat, 0, 0, 0]

def k1_chk18 (v329 : BitVec 32) : Prop :=
  (∀ a, (k1_off53 v329) a + S1x2x2x128.size a ≤ S40000x2x2x128.size a)
theorem k1_off53_inb : ∀ (v329 : BitVec 32) (k1_hw18 : k1_chk18 v329), ∀ a, (k1_off53 v329) a + S1x2x2x128.size a ≤ S40000x2x2x128.size a := fun v329 k1_hw18 => k1_hw18

def k1_off54 (k1_t1 : Fin k1_t1_loop.trips) : Fin 4 → Nat :=
  let c200_i32_214 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v333 : BitVec 32 := Scalar.addi c200_i32_214 v86
  let c2_i32_215 : BitVec 32 := 2#32
  let v334 : BitVec 32 := Scalar.addi v333 c2_i32_215
  let v335 : Index := Scalar.indexCast v334
  let c0_216 : Index := 0#32
  let c0_217 : Index := 0#32
  ![v335.toNat, 0, 0, 0]
def k1_off55 (k1_t1 : Fin k1_t1_loop.trips) : Fin 3 → Nat :=
  let c0_221 : Index := 0#32
  let c0_222 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_218 : BitVec 32 := 2#32
  let v339 : BitVec 32 := Scalar.addi v86 c2_i32_218
  let c8_i32_219 : BitVec 32 := 8#32
  let v340 : BitVec 32 := Scalar.muli v339 c8_i32_219
  let c2_i32_220 : BitVec 32 := 2#32
  let v341 : BitVec 32 := Scalar.addi v340 c2_i32_220
  let v342 : Index := Scalar.indexCast v341
  ![0, 0, v342.toNat]
def k1_off56 (v343 : BitVec 32) : Fin 4 → Nat :=
  let v344 : Index := Scalar.indexCast v343
  let c0_223 : Index := 0#32
  let c0_224 : Index := 0#32
  ![v344.toNat, 0, 0, 0]

def k1_chk19 (v343 : BitVec 32) : Prop :=
  (∀ a, (k1_off56 v343) a + S1x2x2x128.size a ≤ S40000x2x2x128.size a)
theorem k1_off56_inb : ∀ (v343 : BitVec 32) (k1_hw19 : k1_chk19 v343), ∀ a, (k1_off56 v343) a + S1x2x2x128.size a ≤ S40000x2x2x128.size a := fun v343 k1_hw19 => k1_hw19

def k1_off57 (k1_t1 : Fin k1_t1_loop.trips) : Fin 4 → Nat :=
  let c400_i32_225 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v347 : BitVec 32 := Scalar.addi c400_i32_225 v86
  let c2_i32_226 : BitVec 32 := 2#32
  let v348 : BitVec 32 := Scalar.addi v347 c2_i32_226
  let v349 : Index := Scalar.indexCast v348
  let c0_227 : Index := 0#32
  let c0_228 : Index := 0#32
  ![v349.toNat, 0, 0, 0]
def k1_off58 (k1_t1 : Fin k1_t1_loop.trips) : Fin 3 → Nat :=
  let c0_232 : Index := 0#32
  let c0_233 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_229 : BitVec 32 := 2#32
  let v353 : BitVec 32 := Scalar.addi v86 c2_i32_229
  let c8_i32_230 : BitVec 32 := 8#32
  let v354 : BitVec 32 := Scalar.muli v353 c8_i32_230
  let c3_i32_231 : BitVec 32 := 3#32
  let v355 : BitVec 32 := Scalar.addi v354 c3_i32_231
  let v356 : Index := Scalar.indexCast v355
  ![0, 0, v356.toNat]
def k1_off59 (v357 : BitVec 32) : Fin 4 → Nat :=
  let v358 : Index := Scalar.indexCast v357
  let c0_234 : Index := 0#32
  let c0_235 : Index := 0#32
  ![v358.toNat, 0, 0, 0]

def k1_chk20 (v357 : BitVec 32) : Prop :=
  (∀ a, (k1_off59 v357) a + S1x2x2x128.size a ≤ S40000x2x2x128.size a)
theorem k1_off59_inb : ∀ (v357 : BitVec 32) (k1_hw20 : k1_chk20 v357), ∀ a, (k1_off59 v357) a + S1x2x2x128.size a ≤ S40000x2x2x128.size a := fun v357 k1_hw20 => k1_hw20

def k1_off60 (k1_t1 : Fin k1_t1_loop.trips) : Fin 4 → Nat :=
  let c600_i32_236 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v361 : BitVec 32 := Scalar.addi c600_i32_236 v86
  let c2_i32_237 : BitVec 32 := 2#32
  let v362 : BitVec 32 := Scalar.addi v361 c2_i32_237
  let v363 : Index := Scalar.indexCast v362
  let c0_238 : Index := 0#32
  let c0_239 : Index := 0#32
  ![v363.toNat, 0, 0, 0]
def k1_off61 (k1_t1 : Fin k1_t1_loop.trips) : Fin 3 → Nat :=
  let c0_243 : Index := 0#32
  let c0_244 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_240 : BitVec 32 := 2#32
  let v367 : BitVec 32 := Scalar.addi v86 c2_i32_240
  let c8_i32_241 : BitVec 32 := 8#32
  let v368 : BitVec 32 := Scalar.muli v367 c8_i32_241
  let c4_i32_242 : BitVec 32 := 4#32
  let v369 : BitVec 32 := Scalar.addi v368 c4_i32_242
  let v370 : Index := Scalar.indexCast v369
  ![0, 0, v370.toNat]
def k1_off62 (v371 : BitVec 32) : Fin 4 → Nat :=
  let v372 : Index := Scalar.indexCast v371
  let c0_245 : Index := 0#32
  let c0_246 : Index := 0#32
  ![v372.toNat, 0, 0, 0]

def k1_chk21 (v371 : BitVec 32) : Prop :=
  (∀ a, (k1_off62 v371) a + S1x2x2x128.size a ≤ S40000x2x2x128.size a)
theorem k1_off62_inb : ∀ (v371 : BitVec 32) (k1_hw21 : k1_chk21 v371), ∀ a, (k1_off62 v371) a + S1x2x2x128.size a ≤ S40000x2x2x128.size a := fun v371 k1_hw21 => k1_hw21

def k1_off63 (k1_t1 : Fin k1_t1_loop.trips) : Fin 4 → Nat :=
  let c800_i32_247 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v375 : BitVec 32 := Scalar.addi c800_i32_247 v86
  let c2_i32_248 : BitVec 32 := 2#32
  let v376 : BitVec 32 := Scalar.addi v375 c2_i32_248
  let v377 : Index := Scalar.indexCast v376
  let c0_249 : Index := 0#32
  let c0_250 : Index := 0#32
  ![v377.toNat, 0, 0, 0]
def k1_off64 (k1_t1 : Fin k1_t1_loop.trips) : Fin 3 → Nat :=
  let c0_254 : Index := 0#32
  let c0_255 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_251 : BitVec 32 := 2#32
  let v381 : BitVec 32 := Scalar.addi v86 c2_i32_251
  let c8_i32_252 : BitVec 32 := 8#32
  let v382 : BitVec 32 := Scalar.muli v381 c8_i32_252
  let c5_i32_253 : BitVec 32 := 5#32
  let v383 : BitVec 32 := Scalar.addi v382 c5_i32_253
  let v384 : Index := Scalar.indexCast v383
  ![0, 0, v384.toNat]
def k1_off65 (v385 : BitVec 32) : Fin 4 → Nat :=
  let v386 : Index := Scalar.indexCast v385
  let c0_256 : Index := 0#32
  let c0_257 : Index := 0#32
  ![v386.toNat, 0, 0, 0]

def k1_chk22 (v385 : BitVec 32) : Prop :=
  (∀ a, (k1_off65 v385) a + S1x2x2x128.size a ≤ S40000x2x2x128.size a)
theorem k1_off65_inb : ∀ (v385 : BitVec 32) (k1_hw22 : k1_chk22 v385), ∀ a, (k1_off65 v385) a + S1x2x2x128.size a ≤ S40000x2x2x128.size a := fun v385 k1_hw22 => k1_hw22

def k1_off66 (k1_t1 : Fin k1_t1_loop.trips) : Fin 4 → Nat :=
  let c1000_i32_258 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v389 : BitVec 32 := Scalar.addi c1000_i32_258 v86
  let c2_i32_259 : BitVec 32 := 2#32
  let v390 : BitVec 32 := Scalar.addi v389 c2_i32_259
  let v391 : Index := Scalar.indexCast v390
  let c0_260 : Index := 0#32
  let c0_261 : Index := 0#32
  ![v391.toNat, 0, 0, 0]
def k1_off67 (k1_t1 : Fin k1_t1_loop.trips) : Fin 3 → Nat :=
  let c0_265 : Index := 0#32
  let c0_266 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_262 : BitVec 32 := 2#32
  let v395 : BitVec 32 := Scalar.addi v86 c2_i32_262
  let c8_i32_263 : BitVec 32 := 8#32
  let v396 : BitVec 32 := Scalar.muli v395 c8_i32_263
  let c6_i32_264 : BitVec 32 := 6#32
  let v397 : BitVec 32 := Scalar.addi v396 c6_i32_264
  let v398 : Index := Scalar.indexCast v397
  ![0, 0, v398.toNat]
def k1_off68 (v399 : BitVec 32) : Fin 4 → Nat :=
  let v400 : Index := Scalar.indexCast v399
  let c0_267 : Index := 0#32
  let c0_268 : Index := 0#32
  ![v400.toNat, 0, 0, 0]

def k1_chk23 (v399 : BitVec 32) : Prop :=
  (∀ a, (k1_off68 v399) a + S1x2x2x128.size a ≤ S40000x2x2x128.size a)
theorem k1_off68_inb : ∀ (v399 : BitVec 32) (k1_hw23 : k1_chk23 v399), ∀ a, (k1_off68 v399) a + S1x2x2x128.size a ≤ S40000x2x2x128.size a := fun v399 k1_hw23 => k1_hw23

def k1_off69 (k1_t1 : Fin k1_t1_loop.trips) : Fin 4 → Nat :=
  let c1200_i32_269 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v403 : BitVec 32 := Scalar.addi c1200_i32_269 v86
  let c2_i32_270 : BitVec 32 := 2#32
  let v404 : BitVec 32 := Scalar.addi v403 c2_i32_270
  let v405 : Index := Scalar.indexCast v404
  let c0_271 : Index := 0#32
  let c0_272 : Index := 0#32
  ![v405.toNat, 0, 0, 0]
def k1_off70 (k1_t1 : Fin k1_t1_loop.trips) : Fin 3 → Nat :=
  let c0_276 : Index := 0#32
  let c0_277 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c2_i32_273 : BitVec 32 := 2#32
  let v409 : BitVec 32 := Scalar.addi v86 c2_i32_273
  let c8_i32_274 : BitVec 32 := 8#32
  let v410 : BitVec 32 := Scalar.muli v409 c8_i32_274
  let c7_i32_275 : BitVec 32 := 7#32
  let v411 : BitVec 32 := Scalar.addi v410 c7_i32_275
  let v412 : Index := Scalar.indexCast v411
  ![0, 0, v412.toNat]
def k1_off71 (v413 : BitVec 32) : Fin 4 → Nat :=
  let v414 : Index := Scalar.indexCast v413
  let c0_278 : Index := 0#32
  let c0_279 : Index := 0#32
  ![v414.toNat, 0, 0, 0]

def k1_chk24 (v413 : BitVec 32) : Prop :=
  (∀ a, (k1_off71 v413) a + S1x2x2x128.size a ≤ S40000x2x2x128.size a)
theorem k1_off71_inb : ∀ (v413 : BitVec 32) (k1_hw24 : k1_chk24 v413), ∀ a, (k1_off71 v413) a + S1x2x2x128.size a ≤ S40000x2x2x128.size a := fun v413 k1_hw24 => k1_hw24

def k1_off72 (k1_t1 : Fin k1_t1_loop.trips) : Fin 4 → Nat :=
  let c1400_i32_280 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v417 : BitVec 32 := Scalar.addi c1400_i32_280 v86
  let c2_i32_281 : BitVec 32 := 2#32
  let v418 : BitVec 32 := Scalar.addi v417 c2_i32_281
  let v419 : Index := Scalar.indexCast v418
  let c0_282 : Index := 0#32
  let c0_283 : Index := 0#32
  ![v419.toNat, 0, 0, 0]
def k1_off73 (k1_t1 : Fin k1_t1_loop.trips) : Fin 3 → Nat :=
  let c0_287 : Index := 0#32
  let c0_288 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_284 : BitVec 32 := 3#32
  let v423 : BitVec 32 := Scalar.addi v86 c3_i32_284
  let c8_i32_285 : BitVec 32 := 8#32
  let v424 : BitVec 32 := Scalar.muli v423 c8_i32_285
  let c0_i32_286 : BitVec 32 := 0#32
  let v425 : BitVec 32 := Scalar.addi v424 c0_i32_286
  let v426 : Index := Scalar.indexCast v425
  ![0, 0, v426.toNat]
def k1_off74 (v427 : BitVec 32) : Fin 4 → Nat :=
  let v428 : Index := Scalar.indexCast v427
  let c0_289 : Index := 0#32
  let c0_290 : Index := 0#32
  ![v428.toNat, 0, 0, 0]

def k1_chk25 (v427 : BitVec 32) : Prop :=
  (∀ a, (k1_off74 v427) a + S1x2x2x128.size a ≤ S40000x2x2x128.size a)
theorem k1_off74_inb : ∀ (v427 : BitVec 32) (k1_hw25 : k1_chk25 v427), ∀ a, (k1_off74 v427) a + S1x2x2x128.size a ≤ S40000x2x2x128.size a := fun v427 k1_hw25 => k1_hw25

def k1_off75 (k1_t1 : Fin k1_t1_loop.trips) : Fin 4 → Nat :=
  let c0_i32_291 : BitVec 32 := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v431 : BitVec 32 := Scalar.addi c0_i32_291 v86
  let c3_i32_292 : BitVec 32 := 3#32
  let v432 : BitVec 32 := Scalar.addi v431 c3_i32_292
  let v433 : Index := Scalar.indexCast v432
  let c0_293 : Index := 0#32
  let c0_294 : Index := 0#32
  ![v433.toNat, 0, 0, 0]
def k1_off76 (k1_t1 : Fin k1_t1_loop.trips) : Fin 3 → Nat :=
  let c0_298 : Index := 0#32
  let c0_299 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_295 : BitVec 32 := 3#32
  let v437 : BitVec 32 := Scalar.addi v86 c3_i32_295
  let c8_i32_296 : BitVec 32 := 8#32
  let v438 : BitVec 32 := Scalar.muli v437 c8_i32_296
  let c1_i32_297 : BitVec 32 := 1#32
  let v439 : BitVec 32 := Scalar.addi v438 c1_i32_297
  let v440 : Index := Scalar.indexCast v439
  ![0, 0, v440.toNat]
def k1_off77 (v441 : BitVec 32) : Fin 4 → Nat :=
  let v442 : Index := Scalar.indexCast v441
  let c0_300 : Index := 0#32
  let c0_301 : Index := 0#32
  ![v442.toNat, 0, 0, 0]

def k1_chk26 (v441 : BitVec 32) : Prop :=
  (∀ a, (k1_off77 v441) a + S1x2x2x128.size a ≤ S40000x2x2x128.size a)
theorem k1_off77_inb : ∀ (v441 : BitVec 32) (k1_hw26 : k1_chk26 v441), ∀ a, (k1_off77 v441) a + S1x2x2x128.size a ≤ S40000x2x2x128.size a := fun v441 k1_hw26 => k1_hw26

def k1_off78 (k1_t1 : Fin k1_t1_loop.trips) : Fin 4 → Nat :=
  let c200_i32_302 : BitVec 32 := 200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v445 : BitVec 32 := Scalar.addi c200_i32_302 v86
  let c3_i32_303 : BitVec 32 := 3#32
  let v446 : BitVec 32 := Scalar.addi v445 c3_i32_303
  let v447 : Index := Scalar.indexCast v446
  let c0_304 : Index := 0#32
  let c0_305 : Index := 0#32
  ![v447.toNat, 0, 0, 0]
def k1_off79 (k1_t1 : Fin k1_t1_loop.trips) : Fin 3 → Nat :=
  let c0_309 : Index := 0#32
  let c0_310 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_306 : BitVec 32 := 3#32
  let v451 : BitVec 32 := Scalar.addi v86 c3_i32_306
  let c8_i32_307 : BitVec 32 := 8#32
  let v452 : BitVec 32 := Scalar.muli v451 c8_i32_307
  let c2_i32_308 : BitVec 32 := 2#32
  let v453 : BitVec 32 := Scalar.addi v452 c2_i32_308
  let v454 : Index := Scalar.indexCast v453
  ![0, 0, v454.toNat]
def k1_off80 (v455 : BitVec 32) : Fin 4 → Nat :=
  let v456 : Index := Scalar.indexCast v455
  let c0_311 : Index := 0#32
  let c0_312 : Index := 0#32
  ![v456.toNat, 0, 0, 0]

def k1_chk27 (v455 : BitVec 32) : Prop :=
  (∀ a, (k1_off80 v455) a + S1x2x2x128.size a ≤ S40000x2x2x128.size a)
theorem k1_off80_inb : ∀ (v455 : BitVec 32) (k1_hw27 : k1_chk27 v455), ∀ a, (k1_off80 v455) a + S1x2x2x128.size a ≤ S40000x2x2x128.size a := fun v455 k1_hw27 => k1_hw27

def k1_off81 (k1_t1 : Fin k1_t1_loop.trips) : Fin 4 → Nat :=
  let c400_i32_313 : BitVec 32 := 400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v459 : BitVec 32 := Scalar.addi c400_i32_313 v86
  let c3_i32_314 : BitVec 32 := 3#32
  let v460 : BitVec 32 := Scalar.addi v459 c3_i32_314
  let v461 : Index := Scalar.indexCast v460
  let c0_315 : Index := 0#32
  let c0_316 : Index := 0#32
  ![v461.toNat, 0, 0, 0]
def k1_off82 (k1_t1 : Fin k1_t1_loop.trips) : Fin 3 → Nat :=
  let c0_320 : Index := 0#32
  let c0_321 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_317 : BitVec 32 := 3#32
  let v465 : BitVec 32 := Scalar.addi v86 c3_i32_317
  let c8_i32_318 : BitVec 32 := 8#32
  let v466 : BitVec 32 := Scalar.muli v465 c8_i32_318
  let c3_i32_319 : BitVec 32 := 3#32
  let v467 : BitVec 32 := Scalar.addi v466 c3_i32_319
  let v468 : Index := Scalar.indexCast v467
  ![0, 0, v468.toNat]
def k1_off83 (v469 : BitVec 32) : Fin 4 → Nat :=
  let v470 : Index := Scalar.indexCast v469
  let c0_322 : Index := 0#32
  let c0_323 : Index := 0#32
  ![v470.toNat, 0, 0, 0]

def k1_chk28 (v469 : BitVec 32) : Prop :=
  (∀ a, (k1_off83 v469) a + S1x2x2x128.size a ≤ S40000x2x2x128.size a)
theorem k1_off83_inb : ∀ (v469 : BitVec 32) (k1_hw28 : k1_chk28 v469), ∀ a, (k1_off83 v469) a + S1x2x2x128.size a ≤ S40000x2x2x128.size a := fun v469 k1_hw28 => k1_hw28

def k1_off84 (k1_t1 : Fin k1_t1_loop.trips) : Fin 4 → Nat :=
  let c600_i32_324 : BitVec 32 := 600#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v473 : BitVec 32 := Scalar.addi c600_i32_324 v86
  let c3_i32_325 : BitVec 32 := 3#32
  let v474 : BitVec 32 := Scalar.addi v473 c3_i32_325
  let v475 : Index := Scalar.indexCast v474
  let c0_326 : Index := 0#32
  let c0_327 : Index := 0#32
  ![v475.toNat, 0, 0, 0]
def k1_off85 (k1_t1 : Fin k1_t1_loop.trips) : Fin 3 → Nat :=
  let c0_331 : Index := 0#32
  let c0_332 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_328 : BitVec 32 := 3#32
  let v479 : BitVec 32 := Scalar.addi v86 c3_i32_328
  let c8_i32_329 : BitVec 32 := 8#32
  let v480 : BitVec 32 := Scalar.muli v479 c8_i32_329
  let c4_i32_330 : BitVec 32 := 4#32
  let v481 : BitVec 32 := Scalar.addi v480 c4_i32_330
  let v482 : Index := Scalar.indexCast v481
  ![0, 0, v482.toNat]
def k1_off86 (v483 : BitVec 32) : Fin 4 → Nat :=
  let v484 : Index := Scalar.indexCast v483
  let c0_333 : Index := 0#32
  let c0_334 : Index := 0#32
  ![v484.toNat, 0, 0, 0]

def k1_chk29 (v483 : BitVec 32) : Prop :=
  (∀ a, (k1_off86 v483) a + S1x2x2x128.size a ≤ S40000x2x2x128.size a)
theorem k1_off86_inb : ∀ (v483 : BitVec 32) (k1_hw29 : k1_chk29 v483), ∀ a, (k1_off86 v483) a + S1x2x2x128.size a ≤ S40000x2x2x128.size a := fun v483 k1_hw29 => k1_hw29

def k1_off87 (k1_t1 : Fin k1_t1_loop.trips) : Fin 4 → Nat :=
  let c800_i32_335 : BitVec 32 := 800#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v487 : BitVec 32 := Scalar.addi c800_i32_335 v86
  let c3_i32_336 : BitVec 32 := 3#32
  let v488 : BitVec 32 := Scalar.addi v487 c3_i32_336
  let v489 : Index := Scalar.indexCast v488
  let c0_337 : Index := 0#32
  let c0_338 : Index := 0#32
  ![v489.toNat, 0, 0, 0]
def k1_off88 (k1_t1 : Fin k1_t1_loop.trips) : Fin 3 → Nat :=
  let c0_342 : Index := 0#32
  let c0_343 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_339 : BitVec 32 := 3#32
  let v493 : BitVec 32 := Scalar.addi v86 c3_i32_339
  let c8_i32_340 : BitVec 32 := 8#32
  let v494 : BitVec 32 := Scalar.muli v493 c8_i32_340
  let c5_i32_341 : BitVec 32 := 5#32
  let v495 : BitVec 32 := Scalar.addi v494 c5_i32_341
  let v496 : Index := Scalar.indexCast v495
  ![0, 0, v496.toNat]
def k1_off89 (v497 : BitVec 32) : Fin 4 → Nat :=
  let v498 : Index := Scalar.indexCast v497
  let c0_344 : Index := 0#32
  let c0_345 : Index := 0#32
  ![v498.toNat, 0, 0, 0]

def k1_chk30 (v497 : BitVec 32) : Prop :=
  (∀ a, (k1_off89 v497) a + S1x2x2x128.size a ≤ S40000x2x2x128.size a)
theorem k1_off89_inb : ∀ (v497 : BitVec 32) (k1_hw30 : k1_chk30 v497), ∀ a, (k1_off89 v497) a + S1x2x2x128.size a ≤ S40000x2x2x128.size a := fun v497 k1_hw30 => k1_hw30

def k1_off90 (k1_t1 : Fin k1_t1_loop.trips) : Fin 4 → Nat :=
  let c1000_i32_346 : BitVec 32 := 1000#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v501 : BitVec 32 := Scalar.addi c1000_i32_346 v86
  let c3_i32_347 : BitVec 32 := 3#32
  let v502 : BitVec 32 := Scalar.addi v501 c3_i32_347
  let v503 : Index := Scalar.indexCast v502
  let c0_348 : Index := 0#32
  let c0_349 : Index := 0#32
  ![v503.toNat, 0, 0, 0]
def k1_off91 (k1_t1 : Fin k1_t1_loop.trips) : Fin 3 → Nat :=
  let c0_353 : Index := 0#32
  let c0_354 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_350 : BitVec 32 := 3#32
  let v507 : BitVec 32 := Scalar.addi v86 c3_i32_350
  let c8_i32_351 : BitVec 32 := 8#32
  let v508 : BitVec 32 := Scalar.muli v507 c8_i32_351
  let c6_i32_352 : BitVec 32 := 6#32
  let v509 : BitVec 32 := Scalar.addi v508 c6_i32_352
  let v510 : Index := Scalar.indexCast v509
  ![0, 0, v510.toNat]
def k1_off92 (v511 : BitVec 32) : Fin 4 → Nat :=
  let v512 : Index := Scalar.indexCast v511
  let c0_355 : Index := 0#32
  let c0_356 : Index := 0#32
  ![v512.toNat, 0, 0, 0]

def k1_chk31 (v511 : BitVec 32) : Prop :=
  (∀ a, (k1_off92 v511) a + S1x2x2x128.size a ≤ S40000x2x2x128.size a)
theorem k1_off92_inb : ∀ (v511 : BitVec 32) (k1_hw31 : k1_chk31 v511), ∀ a, (k1_off92 v511) a + S1x2x2x128.size a ≤ S40000x2x2x128.size a := fun v511 k1_hw31 => k1_hw31

def k1_off93 (k1_t1 : Fin k1_t1_loop.trips) : Fin 4 → Nat :=
  let c1200_i32_357 : BitVec 32 := 1200#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v515 : BitVec 32 := Scalar.addi c1200_i32_357 v86
  let c3_i32_358 : BitVec 32 := 3#32
  let v516 : BitVec 32 := Scalar.addi v515 c3_i32_358
  let v517 : Index := Scalar.indexCast v516
  let c0_359 : Index := 0#32
  let c0_360 : Index := 0#32
  ![v517.toNat, 0, 0, 0]
def k1_off94 (k1_t1 : Fin k1_t1_loop.trips) : Fin 3 → Nat :=
  let c0_364 : Index := 0#32
  let c0_365 : Index := 0#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let c3_i32_361 : BitVec 32 := 3#32
  let v521 : BitVec 32 := Scalar.addi v86 c3_i32_361
  let c8_i32_362 : BitVec 32 := 8#32
  let v522 : BitVec 32 := Scalar.muli v521 c8_i32_362
  let c7_i32_363 : BitVec 32 := 7#32
  let v523 : BitVec 32 := Scalar.addi v522 c7_i32_363
  let v524 : Index := Scalar.indexCast v523
  ![0, 0, v524.toNat]
def k1_off95 (v525 : BitVec 32) : Fin 4 → Nat :=
  let v526 : Index := Scalar.indexCast v525
  let c0_366 : Index := 0#32
  let c0_367 : Index := 0#32
  ![v526.toNat, 0, 0, 0]

def k1_chk32 (v525 : BitVec 32) : Prop :=
  (∀ a, (k1_off95 v525) a + S1x2x2x128.size a ≤ S40000x2x2x128.size a)
theorem k1_off95_inb : ∀ (v525 : BitVec 32) (k1_hw32 : k1_chk32 v525), ∀ a, (k1_off95 v525) a + S1x2x2x128.size a ≤ S40000x2x2x128.size a := fun v525 k1_hw32 => k1_hw32

def k1_off96 (k1_t1 : Fin k1_t1_loop.trips) : Fin 4 → Nat :=
  let c1400_i32_368 : BitVec 32 := 1400#32
  let c0_i32 : BitVec 32 := 0#32
  let c1_i32 : BitVec 32 := 1#32
  let arg9 : BitVec 32 := Scf.iv c0_i32 c1_i32 k1_t1
  let c4_i32 : BitVec 32 := 4#32
  let v86 : BitVec 32 := Scalar.muli arg9 c4_i32
  let v529 : BitVec 32 := Scalar.addi c1400_i32_368 v86
  let c3_i32_369 : BitVec 32 := 3#32
  let v530 : BitVec 32 := Scalar.addi v529 c3_i32_369
  let v531 : Index := Scalar.indexCast v530
  let c0_370 : Index := 0#32
  let c0_371 : Index := 0#32
  ![v531.toNat, 0, 0, 0]
def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, 0, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .smem S1x1x1600 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S768x8 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40000x2x2x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x4x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

@[reducible] def k2_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k2_off1 (k2_t1 : Fin k2_t1_loop.trips) : Fin 2 → Nat :=
  let c0_i32 : BitVec 32 := 0#32
  let c1_i32 : BitVec 32 := 1#32
  let arg7 : BitVec 32 := Scf.iv c0_i32 c1_i32 k2_t1
  let v2 : Index := Scalar.indexCast arg7
  let c0 : Index := 0#32
  ![v2.toNat, 0]
def k2_off2 (v5 : BitVec 32) : Fin 3 → Nat :=
  let v6 : Index := Scalar.indexCast v5
  let c0_2 : Index := 0#32
  let c0_3 : Index := 0#32
  ![v6.toNat, 0, 0]

def k2_chk1 (v5 : BitVec 32) : Prop :=
  (∀ a, (k2_off2 v5) a + S1x4x128.size a ≤ S10000x4x128.size a)
theorem k2_off2_inb : ∀ (v5 : BitVec 32) (k2_hw1 : k2_chk1 v5), ∀ a, (k2_off2 v5) a + S1x4x128.size a ≤ S10000x4x128.size a := fun v5 k2_hw1 => k2_hw1

def k2_off3 (k2_t1 : Fin k2_t1_loop.trips) : Fin 2 → Nat :=
  let c0_i32 : BitVec 32 := 0#32
  let c1_i32 : BitVec 32 := 1#32
  let arg7 : BitVec 32 := Scf.iv c0_i32 c1_i32 k2_t1
  let v12 : Index := Scalar.indexCast arg7
  let c0_4 : Index := 0#32
  ![v12.toNat, 0]
def k2_off4 (k2_t1 : Fin k2_t1_loop.trips) : Fin 2 → Nat :=
  let c0_i32 : BitVec 32 := 0#32
  let c1_i32 : BitVec 32 := 1#32
  let arg7 : BitVec 32 := Scf.iv c0_i32 c1_i32 k2_t1
  let v15 : Index := Scalar.indexCast arg7
  let c1 : Index := 1#32
  ![v15.toNat, 1]
def k2_off5 (v18 : BitVec 32) : Fin 3 → Nat :=
  let v19 : Index := Scalar.indexCast v18
  let c0_7 : Index := 0#32
  let c0_8 : Index := 0#32
  ![v19.toNat, 0, 0]

def k2_chk2 (v18 : BitVec 32) : Prop :=
  (∀ a, (k2_off5 v18) a + S1x4x128.size a ≤ S10000x4x128.size a)
theorem k2_off5_inb : ∀ (v18 : BitVec 32) (k2_hw2 : k2_chk2 v18), ∀ a, (k2_off5 v18) a + S1x4x128.size a ≤ S10000x4x128.size a := fun v18 k2_hw2 => k2_hw2

def k2_off6 (k2_t1 : Fin k2_t1_loop.trips) : Fin 2 → Nat :=
  let c0_i32 : BitVec 32 := 0#32
  let c1_i32 : BitVec 32 := 1#32
  let arg7 : BitVec 32 := Scf.iv c0_i32 c1_i32 k2_t1
  let v25 : Index := Scalar.indexCast arg7
  let c1_9 : Index := 1#32
  ![v25.toNat, 1]
def k2_off7 (k2_t1 : Fin k2_t1_loop.trips) : Fin 2 → Nat :=
  let c0_i32 : BitVec 32 := 0#32
  let c1_i32 : BitVec 32 := 1#32
  let arg7 : BitVec 32 := Scf.iv c0_i32 c1_i32 k2_t1
  let v28 : Index := Scalar.indexCast arg7
  let c2 : Index := 2#32
  ![v28.toNat, 2]
def k2_off8 (v31 : BitVec 32) : Fin 3 → Nat :=
  let v32 : Index := Scalar.indexCast v31
  let c0_11 : Index := 0#32
  let c0_12 : Index := 0#32
  ![v32.toNat, 0, 0]

def k2_chk3 (v31 : BitVec 32) : Prop :=
  (∀ a, (k2_off8 v31) a + S1x4x128.size a ≤ S10000x4x128.size a)
theorem k2_off8_inb : ∀ (v31 : BitVec 32) (k2_hw3 : k2_chk3 v31), ∀ a, (k2_off8 v31) a + S1x4x128.size a ≤ S10000x4x128.size a := fun v31 k2_hw3 => k2_hw3

def k2_off9 (k2_t1 : Fin k2_t1_loop.trips) : Fin 2 → Nat :=
  let c0_i32 : BitVec 32 := 0#32
  let c1_i32 : BitVec 32 := 1#32
  let arg7 : BitVec 32 := Scf.iv c0_i32 c1_i32 k2_t1
  let v38 : Index := Scalar.indexCast arg7
  let c2_13 : Index := 2#32
  ![v38.toNat, 2]
def k2_off10 (k2_t1 : Fin k2_t1_loop.trips) : Fin 2 → Nat :=
  let c0_i32 : BitVec 32 := 0#32
  let c1_i32 : BitVec 32 := 1#32
  let arg7 : BitVec 32 := Scf.iv c0_i32 c1_i32 k2_t1
  let v41 : Index := Scalar.indexCast arg7
  let c3 : Index := 3#32
  ![v41.toNat, 3]
def k2_off11 (v44 : BitVec 32) : Fin 3 → Nat :=
  let v45 : Index := Scalar.indexCast v44
  let c0_15 : Index := 0#32
  let c0_16 : Index := 0#32
  ![v45.toNat, 0, 0]

def k2_chk4 (v44 : BitVec 32) : Prop :=
  (∀ a, (k2_off11 v44) a + S1x4x128.size a ≤ S10000x4x128.size a)
theorem k2_off11_inb : ∀ (v44 : BitVec 32) (k2_hw4 : k2_chk4 v44), ∀ a, (k2_off11 v44) a + S1x4x128.size a ≤ S10000x4x128.size a := fun v44 k2_hw4 => k2_hw4

def k2_off12 (k2_t1 : Fin k2_t1_loop.trips) : Fin 2 → Nat :=
  let c0_i32 : BitVec 32 := 0#32
  let c1_i32 : BitVec 32 := 1#32
  let arg7 : BitVec 32 := Scf.iv c0_i32 c1_i32 k2_t1
  let v51 : Index := Scalar.indexCast arg7
  let c3_17 : Index := 3#32
  ![v51.toNat, 3]
def k2_off13 (k2_t1 : Fin k2_t1_loop.trips) : Fin 2 → Nat :=
  let c0_i32 : BitVec 32 := 0#32
  let c1_i32 : BitVec 32 := 1#32
  let arg7 : BitVec 32 := Scf.iv c0_i32 c1_i32 k2_t1
  let v54 : Index := Scalar.indexCast arg7
  let c4 : Index := 4#32
  ![v54.toNat, 4]
def k2_off14 (v57 : BitVec 32) : Fin 3 → Nat :=
  let v58 : Index := Scalar.indexCast v57
  let c0_19 : Index := 0#32
  let c0_20 : Index := 0#32
  ![v58.toNat, 0, 0]

def k2_chk5 (v57 : BitVec 32) : Prop :=
  (∀ a, (k2_off14 v57) a + S1x4x128.size a ≤ S10000x4x128.size a)
theorem k2_off14_inb : ∀ (v57 : BitVec 32) (k2_hw5 : k2_chk5 v57), ∀ a, (k2_off14 v57) a + S1x4x128.size a ≤ S10000x4x128.size a := fun v57 k2_hw5 => k2_hw5

def k2_off15 (k2_t1 : Fin k2_t1_loop.trips) : Fin 2 → Nat :=
  let c0_i32 : BitVec 32 := 0#32
  let c1_i32 : BitVec 32 := 1#32
  let arg7 : BitVec 32 := Scf.iv c0_i32 c1_i32 k2_t1
  let v64 : Index := Scalar.indexCast arg7
  let c4_21 : Index := 4#32
  ![v64.toNat, 4]
def k2_off16 (k2_t1 : Fin k2_t1_loop.trips) : Fin 2 → Nat :=
  let c0_i32 : BitVec 32 := 0#32
  let c1_i32 : BitVec 32 := 1#32
  let arg7 : BitVec 32 := Scf.iv c0_i32 c1_i32 k2_t1
  let v67 : Index := Scalar.indexCast arg7
  let c5 : Index := 5#32
  ![v67.toNat, 5]
def k2_off17 (v70 : BitVec 32) : Fin 3 → Nat :=
  let v71 : Index := Scalar.indexCast v70
  let c0_23 : Index := 0#32
  let c0_24 : Index := 0#32
  ![v71.toNat, 0, 0]

def k2_chk6 (v70 : BitVec 32) : Prop :=
  (∀ a, (k2_off17 v70) a + S1x4x128.size a ≤ S10000x4x128.size a)
theorem k2_off17_inb : ∀ (v70 : BitVec 32) (k2_hw6 : k2_chk6 v70), ∀ a, (k2_off17 v70) a + S1x4x128.size a ≤ S10000x4x128.size a := fun v70 k2_hw6 => k2_hw6

def k2_off18 (k2_t1 : Fin k2_t1_loop.trips) : Fin 2 → Nat :=
  let c0_i32 : BitVec 32 := 0#32
  let c1_i32 : BitVec 32 := 1#32
  let arg7 : BitVec 32 := Scf.iv c0_i32 c1_i32 k2_t1
  let v77 : Index := Scalar.indexCast arg7
  let c5_25 : Index := 5#32
  ![v77.toNat, 5]
def k2_off19 (k2_t1 : Fin k2_t1_loop.trips) : Fin 2 → Nat :=
  let c0_i32 : BitVec 32 := 0#32
  let c1_i32 : BitVec 32 := 1#32
  let arg7 : BitVec 32 := Scf.iv c0_i32 c1_i32 k2_t1
  let v80 : Index := Scalar.indexCast arg7
  let c6 : Index := 6#32
  ![v80.toNat, 6]
def k2_off20 (v83 : BitVec 32) : Fin 3 → Nat :=
  let v84 : Index := Scalar.indexCast v83
  let c0_27 : Index := 0#32
  let c0_28 : Index := 0#32
  ![v84.toNat, 0, 0]

def k2_chk7 (v83 : BitVec 32) : Prop :=
  (∀ a, (k2_off20 v83) a + S1x4x128.size a ≤ S10000x4x128.size a)
theorem k2_off20_inb : ∀ (v83 : BitVec 32) (k2_hw7 : k2_chk7 v83), ∀ a, (k2_off20 v83) a + S1x4x128.size a ≤ S10000x4x128.size a := fun v83 k2_hw7 => k2_hw7

def k2_off21 (k2_t1 : Fin k2_t1_loop.trips) : Fin 2 → Nat :=
  let c0_i32 : BitVec 32 := 0#32
  let c1_i32 : BitVec 32 := 1#32
  let arg7 : BitVec 32 := Scf.iv c0_i32 c1_i32 k2_t1
  let v90 : Index := Scalar.indexCast arg7
  let c6_29 : Index := 6#32
  ![v90.toNat, 6]
def k2_off22 (k2_t1 : Fin k2_t1_loop.trips) : Fin 2 → Nat :=
  let c0_i32 : BitVec 32 := 0#32
  let c1_i32 : BitVec 32 := 1#32
  let arg7 : BitVec 32 := Scf.iv c0_i32 c1_i32 k2_t1
  let v93 : Index := Scalar.indexCast arg7
  let c7 : Index := 7#32
  ![v93.toNat, 7]
def k2_off23 (v96 : BitVec 32) : Fin 3 → Nat :=
  let v97 : Index := Scalar.indexCast v96
  let c0_31 : Index := 0#32
  let c0_32 : Index := 0#32
  ![v97.toNat, 0, 0]

def k2_chk8 (v96 : BitVec 32) : Prop :=
  (∀ a, (k2_off23 v96) a + S1x4x128.size a ≤ S10000x4x128.size a)
theorem k2_off23_inb : ∀ (v96 : BitVec 32) (k2_hw8 : k2_chk8 v96), ∀ a, (k2_off23 v96) a + S1x4x128.size a ≤ S10000x4x128.size a := fun v96 k2_hw8 => k2_hw8

def k2_off24 (k2_t1 : Fin k2_t1_loop.trips) : Fin 2 → Nat :=
  let c0_i32 : BitVec 32 := 0#32
  let c1_i32 : BitVec 32 := 1#32
  let arg7 : BitVec 32 := Scf.iv c0_i32 c1_i32 k2_t1
  let v103 : Index := Scalar.indexCast arg7
  let c7_33 : Index := 7#32
  ![v103.toNat, 7]
def k2_off25 (k2_t1 : Fin k2_t1_loop.trips) : Fin 2 → Nat :=
  let c0_i32 : BitVec 32 := 0#32
  let c1_i32 : BitVec 32 := 1#32
  let arg7 : BitVec 32 := Scf.iv c0_i32 c1_i32 k2_t1
  let v106 : Index := Scalar.indexCast arg7
  let c8 : Index := 8#32
  ![v106.toNat, 8]
def k2_off26 (v109 : BitVec 32) : Fin 3 → Nat :=
  let v110 : Index := Scalar.indexCast v109
  let c0_35 : Index := 0#32
  let c0_36 : Index := 0#32
  ![v110.toNat, 0, 0]

def k2_chk9 (v109 : BitVec 32) : Prop :=
  (∀ a, (k2_off26 v109) a + S1x4x128.size a ≤ S10000x4x128.size a)
theorem k2_off26_inb : ∀ (v109 : BitVec 32) (k2_hw9 : k2_chk9 v109), ∀ a, (k2_off26 v109) a + S1x4x128.size a ≤ S10000x4x128.size a := fun v109 k2_hw9 => k2_hw9

def k2_off27 (k2_t1 : Fin k2_t1_loop.trips) : Fin 2 → Nat :=
  let c0_i32 : BitVec 32 := 0#32
  let c1_i32 : BitVec 32 := 1#32
  let arg7 : BitVec 32 := Scf.iv c0_i32 c1_i32 k2_t1
  let v116 : Index := Scalar.indexCast arg7
  let c8_37 : Index := 8#32
  ![v116.toNat, 8]
def k2_off28 (k2_t1 : Fin k2_t1_loop.trips) : Fin 2 → Nat :=
  let c0_i32 : BitVec 32 := 0#32
  let c1_i32 : BitVec 32 := 1#32
  let arg7 : BitVec 32 := Scf.iv c0_i32 c1_i32 k2_t1
  let v119 : Index := Scalar.indexCast arg7
  let c9 : Index := 9#32
  ![v119.toNat, 9]
def k2_off29 (v122 : BitVec 32) : Fin 3 → Nat :=
  let v123 : Index := Scalar.indexCast v122
  let c0_39 : Index := 0#32
  let c0_40 : Index := 0#32
  ![v123.toNat, 0, 0]

def k2_chk10 (v122 : BitVec 32) : Prop :=
  (∀ a, (k2_off29 v122) a + S1x4x128.size a ≤ S10000x4x128.size a)
theorem k2_off29_inb : ∀ (v122 : BitVec 32) (k2_hw10 : k2_chk10 v122), ∀ a, (k2_off29 v122) a + S1x4x128.size a ≤ S10000x4x128.size a := fun v122 k2_hw10 => k2_hw10

def k2_off30 (k2_t1 : Fin k2_t1_loop.trips) : Fin 2 → Nat :=
  let c0_i32 : BitVec 32 := 0#32
  let c1_i32 : BitVec 32 := 1#32
  let arg7 : BitVec 32 := Scf.iv c0_i32 c1_i32 k2_t1
  let v129 : Index := Scalar.indexCast arg7
  let c9_41 : Index := 9#32
  ![v129.toNat, 9]
def k2_off31 (k2_t1 : Fin k2_t1_loop.trips) : Fin 2 → Nat :=
  let c0_i32 : BitVec 32 := 0#32
  let c1_i32 : BitVec 32 := 1#32
  let arg7 : BitVec 32 := Scf.iv c0_i32 c1_i32 k2_t1
  let v132 : Index := Scalar.indexCast arg7
  let c10 : Index := 10#32
  ![v132.toNat, 10]
def k2_off32 (v135 : BitVec 32) : Fin 3 → Nat :=
  let v136 : Index := Scalar.indexCast v135
  let c0_43 : Index := 0#32
  let c0_44 : Index := 0#32
  ![v136.toNat, 0, 0]

def k2_chk11 (v135 : BitVec 32) : Prop :=
  (∀ a, (k2_off32 v135) a + S1x4x128.size a ≤ S10000x4x128.size a)
theorem k2_off32_inb : ∀ (v135 : BitVec 32) (k2_hw11 : k2_chk11 v135), ∀ a, (k2_off32 v135) a + S1x4x128.size a ≤ S10000x4x128.size a := fun v135 k2_hw11 => k2_hw11

def k2_off33 (k2_t1 : Fin k2_t1_loop.trips) : Fin 2 → Nat :=
  let c0_i32 : BitVec 32 := 0#32
  let c1_i32 : BitVec 32 := 1#32
  let arg7 : BitVec 32 := Scf.iv c0_i32 c1_i32 k2_t1
  let v142 : Index := Scalar.indexCast arg7
  let c10_45 : Index := 10#32
  ![v142.toNat, 10]
def k2_off34 (k2_t1 : Fin k2_t1_loop.trips) : Fin 2 → Nat :=
  let c0_i32 : BitVec 32 := 0#32
  let c1_i32 : BitVec 32 := 1#32
  let arg7 : BitVec 32 := Scf.iv c0_i32 c1_i32 k2_t1
  let v145 : Index := Scalar.indexCast arg7
  let c11 : Index := 11#32
  ![v145.toNat, 11]
def k2_off35 (v148 : BitVec 32) : Fin 3 → Nat :=
  let v149 : Index := Scalar.indexCast v148
  let c0_47 : Index := 0#32
  let c0_48 : Index := 0#32
  ![v149.toNat, 0, 0]

def k2_chk12 (v148 : BitVec 32) : Prop :=
  (∀ a, (k2_off35 v148) a + S1x4x128.size a ≤ S10000x4x128.size a)
theorem k2_off35_inb : ∀ (v148 : BitVec 32) (k2_hw12 : k2_chk12 v148), ∀ a, (k2_off35 v148) a + S1x4x128.size a ≤ S10000x4x128.size a := fun v148 k2_hw12 => k2_hw12

def k2_off36 (k2_t1 : Fin k2_t1_loop.trips) : Fin 2 → Nat :=
  let c0_i32 : BitVec 32 := 0#32
  let c1_i32 : BitVec 32 := 1#32
  let arg7 : BitVec 32 := Scf.iv c0_i32 c1_i32 k2_t1
  let v155 : Index := Scalar.indexCast arg7
  let c11_49 : Index := 11#32
  ![v155.toNat, 11]
def k2_off37 (k2_t1 : Fin k2_t1_loop.trips) : Fin 2 → Nat :=
  let c0_i32 : BitVec 32 := 0#32
  let c1_i32 : BitVec 32 := 1#32
  let arg7 : BitVec 32 := Scf.iv c0_i32 c1_i32 k2_t1
  let v158 : Index := Scalar.indexCast arg7
  let c12 : Index := 12#32
  ![v158.toNat, 12]
def k2_off38 (v161 : BitVec 32) : Fin 3 → Nat :=
  let v162 : Index := Scalar.indexCast v161
  let c0_51 : Index := 0#32
  let c0_52 : Index := 0#32
  ![v162.toNat, 0, 0]

def k2_chk13 (v161 : BitVec 32) : Prop :=
  (∀ a, (k2_off38 v161) a + S1x4x128.size a ≤ S10000x4x128.size a)
theorem k2_off38_inb : ∀ (v161 : BitVec 32) (k2_hw13 : k2_chk13 v161), ∀ a, (k2_off38 v161) a + S1x4x128.size a ≤ S10000x4x128.size a := fun v161 k2_hw13 => k2_hw13

def k2_off39 (k2_t1 : Fin k2_t1_loop.trips) : Fin 2 → Nat :=
  let c0_i32 : BitVec 32 := 0#32
  let c1_i32 : BitVec 32 := 1#32
  let arg7 : BitVec 32 := Scf.iv c0_i32 c1_i32 k2_t1
  let v168 : Index := Scalar.indexCast arg7
  let c12_53 : Index := 12#32
  ![v168.toNat, 12]
def k2_off40 (k2_t1 : Fin k2_t1_loop.trips) : Fin 2 → Nat :=
  let c0_i32 : BitVec 32 := 0#32
  let c1_i32 : BitVec 32 := 1#32
  let arg7 : BitVec 32 := Scf.iv c0_i32 c1_i32 k2_t1
  let v171 : Index := Scalar.indexCast arg7
  let c13 : Index := 13#32
  ![v171.toNat, 13]
def k2_off41 (v174 : BitVec 32) : Fin 3 → Nat :=
  let v175 : Index := Scalar.indexCast v174
  let c0_55 : Index := 0#32
  let c0_56 : Index := 0#32
  ![v175.toNat, 0, 0]

def k2_chk14 (v174 : BitVec 32) : Prop :=
  (∀ a, (k2_off41 v174) a + S1x4x128.size a ≤ S10000x4x128.size a)
theorem k2_off41_inb : ∀ (v174 : BitVec 32) (k2_hw14 : k2_chk14 v174), ∀ a, (k2_off41 v174) a + S1x4x128.size a ≤ S10000x4x128.size a := fun v174 k2_hw14 => k2_hw14

def k2_off42 (k2_t1 : Fin k2_t1_loop.trips) : Fin 2 → Nat :=
  let c0_i32 : BitVec 32 := 0#32
  let c1_i32 : BitVec 32 := 1#32
  let arg7 : BitVec 32 := Scf.iv c0_i32 c1_i32 k2_t1
  let v181 : Index := Scalar.indexCast arg7
  let c13_57 : Index := 13#32
  ![v181.toNat, 13]
def k2_off43 (k2_t1 : Fin k2_t1_loop.trips) : Fin 2 → Nat :=
  let c0_i32 : BitVec 32 := 0#32
  let c1_i32 : BitVec 32 := 1#32
  let arg7 : BitVec 32 := Scf.iv c0_i32 c1_i32 k2_t1
  let v184 : Index := Scalar.indexCast arg7
  let c14 : Index := 14#32
  ![v184.toNat, 14]
def k2_off44 (v187 : BitVec 32) : Fin 3 → Nat :=
  let v188 : Index := Scalar.indexCast v187
  let c0_59 : Index := 0#32
  let c0_60 : Index := 0#32
  ![v188.toNat, 0, 0]

def k2_chk15 (v187 : BitVec 32) : Prop :=
  (∀ a, (k2_off44 v187) a + S1x4x128.size a ≤ S10000x4x128.size a)
theorem k2_off44_inb : ∀ (v187 : BitVec 32) (k2_hw15 : k2_chk15 v187), ∀ a, (k2_off44 v187) a + S1x4x128.size a ≤ S10000x4x128.size a := fun v187 k2_hw15 => k2_hw15

def k2_off45 (k2_t1 : Fin k2_t1_loop.trips) : Fin 2 → Nat :=
  let c0_i32 : BitVec 32 := 0#32
  let c1_i32 : BitVec 32 := 1#32
  let arg7 : BitVec 32 := Scf.iv c0_i32 c1_i32 k2_t1
  let v194 : Index := Scalar.indexCast arg7
  let c14_61 : Index := 14#32
  ![v194.toNat, 14]
def k2_off46 (k2_t1 : Fin k2_t1_loop.trips) : Fin 2 → Nat :=
  let c0_i32 : BitVec 32 := 0#32
  let c1_i32 : BitVec 32 := 1#32
  let arg7 : BitVec 32 := Scf.iv c0_i32 c1_i32 k2_t1
  let v197 : Index := Scalar.indexCast arg7
  let c15 : Index := 15#32
  ![v197.toNat, 15]
def k2_off47 (v200 : BitVec 32) : Fin 3 → Nat :=
  let v201 : Index := Scalar.indexCast v200
  let c0_63 : Index := 0#32
  let c0_64 : Index := 0#32
  ![v201.toNat, 0, 0]

def k2_chk16 (v200 : BitVec 32) : Prop :=
  (∀ a, (k2_off47 v200) a + S1x4x128.size a ≤ S10000x4x128.size a)
theorem k2_off47_inb : ∀ (v200 : BitVec 32) (k2_hw16 : k2_chk16 v200), ∀ a, (k2_off47 v200) a + S1x4x128.size a ≤ S10000x4x128.size a := fun v200 k2_hw16 => k2_hw16

def k2_off48 (k2_t1 : Fin k2_t1_loop.trips) : Fin 2 → Nat :=
  let c0_i32 : BitVec 32 := 0#32
  let c1_i32 : BitVec 32 := 1#32
  let arg7 : BitVec 32 := Scf.iv c0_i32 c1_i32 k2_t1
  let v207 : Index := Scalar.indexCast arg7
  let c15_65 : Index := 15#32
  ![v207.toNat, 15]
def k2_off49 (k2_t1 : Fin k2_t1_loop.trips) : Fin 2 → Nat :=
  let c0_i32 : BitVec 32 := 0#32
  let c1_i32 : BitVec 32 := 1#32
  let arg7 : BitVec 32 := Scf.iv c0_i32 c1_i32 k2_t1
  let v210 : Index := Scalar.indexCast arg7
  let c16 : Index := 16#32
  ![v210.toNat, 16]
def k2_off50 (v213 : BitVec 32) : Fin 3 → Nat :=
  let v214 : Index := Scalar.indexCast v213
  let c0_67 : Index := 0#32
  let c0_68 : Index := 0#32
  ![v214.toNat, 0, 0]

def k2_chk17 (v213 : BitVec 32) : Prop :=
  (∀ a, (k2_off50 v213) a + S1x4x128.size a ≤ S10000x4x128.size a)
theorem k2_off50_inb : ∀ (v213 : BitVec 32) (k2_hw17 : k2_chk17 v213), ∀ a, (k2_off50 v213) a + S1x4x128.size a ≤ S10000x4x128.size a := fun v213 k2_hw17 => k2_hw17

def k2_off51 (k2_t1 : Fin k2_t1_loop.trips) : Fin 2 → Nat :=
  let c0_i32 : BitVec 32 := 0#32
  let c1_i32 : BitVec 32 := 1#32
  let arg7 : BitVec 32 := Scf.iv c0_i32 c1_i32 k2_t1
  let v220 : Index := Scalar.indexCast arg7
  let c16_69 : Index := 16#32
  ![v220.toNat, 16]
def k2_off52 (k2_t1 : Fin k2_t1_loop.trips) : Fin 2 → Nat :=
  let c0_i32 : BitVec 32 := 0#32
  let c1_i32 : BitVec 32 := 1#32
  let arg7 : BitVec 32 := Scf.iv c0_i32 c1_i32 k2_t1
  let v223 : Index := Scalar.indexCast arg7
  let c17 : Index := 17#32
  ![v223.toNat, 17]
def k2_off53 (v226 : BitVec 32) : Fin 3 → Nat :=
  let v227 : Index := Scalar.indexCast v226
  let c0_71 : Index := 0#32
  let c0_72 : Index := 0#32
  ![v227.toNat, 0, 0]

def k2_chk18 (v226 : BitVec 32) : Prop :=
  (∀ a, (k2_off53 v226) a + S1x4x128.size a ≤ S10000x4x128.size a)
theorem k2_off53_inb : ∀ (v226 : BitVec 32) (k2_hw18 : k2_chk18 v226), ∀ a, (k2_off53 v226) a + S1x4x128.size a ≤ S10000x4x128.size a := fun v226 k2_hw18 => k2_hw18

def k2_off54 (k2_t1 : Fin k2_t1_loop.trips) : Fin 2 → Nat :=
  let c0_i32 : BitVec 32 := 0#32
  let c1_i32 : BitVec 32 := 1#32
  let arg7 : BitVec 32 := Scf.iv c0_i32 c1_i32 k2_t1
  let v233 : Index := Scalar.indexCast arg7
  let c17_73 : Index := 17#32
  ![v233.toNat, 17]
def k2_off55 (k2_t1 : Fin k2_t1_loop.trips) : Fin 2 → Nat :=
  let c0_i32 : BitVec 32 := 0#32
  let c1_i32 : BitVec 32 := 1#32
  let arg7 : BitVec 32 := Scf.iv c0_i32 c1_i32 k2_t1
  let v236 : Index := Scalar.indexCast arg7
  let c18 : Index := 18#32
  ![v236.toNat, 18]
def k2_off56 (v239 : BitVec 32) : Fin 3 → Nat :=
  let v240 : Index := Scalar.indexCast v239
  let c0_75 : Index := 0#32
  let c0_76 : Index := 0#32
  ![v240.toNat, 0, 0]

def k2_chk19 (v239 : BitVec 32) : Prop :=
  (∀ a, (k2_off56 v239) a + S1x4x128.size a ≤ S10000x4x128.size a)
theorem k2_off56_inb : ∀ (v239 : BitVec 32) (k2_hw19 : k2_chk19 v239), ∀ a, (k2_off56 v239) a + S1x4x128.size a ≤ S10000x4x128.size a := fun v239 k2_hw19 => k2_hw19

def k2_off57 (k2_t1 : Fin k2_t1_loop.trips) : Fin 2 → Nat :=
  let c0_i32 : BitVec 32 := 0#32
  let c1_i32 : BitVec 32 := 1#32
  let arg7 : BitVec 32 := Scf.iv c0_i32 c1_i32 k2_t1
  let v246 : Index := Scalar.indexCast arg7
  let c18_77 : Index := 18#32
  ![v246.toNat, 18]
def k2_off58 (k2_t1 : Fin k2_t1_loop.trips) : Fin 2 → Nat :=
  let c0_i32 : BitVec 32 := 0#32
  let c1_i32 : BitVec 32 := 1#32
  let arg7 : BitVec 32 := Scf.iv c0_i32 c1_i32 k2_t1
  let v249 : Index := Scalar.indexCast arg7
  let c19 : Index := 19#32
  ![v249.toNat, 19]
def k2_off59 (v252 : BitVec 32) : Fin 3 → Nat :=
  let v253 : Index := Scalar.indexCast v252
  let c0_79 : Index := 0#32
  let c0_80 : Index := 0#32
  ![v253.toNat, 0, 0]

def k2_chk20 (v252 : BitVec 32) : Prop :=
  (∀ a, (k2_off59 v252) a + S1x4x128.size a ≤ S10000x4x128.size a)
theorem k2_off59_inb : ∀ (v252 : BitVec 32) (k2_hw20 : k2_chk20 v252), ∀ a, (k2_off59 v252) a + S1x4x128.size a ≤ S10000x4x128.size a := fun v252 k2_hw20 => k2_hw20

def k2_off60 (k2_t1 : Fin k2_t1_loop.trips) : Fin 2 → Nat :=
  let c0_i32 : BitVec 32 := 0#32
  let c1_i32 : BitVec 32 := 1#32
  let arg7 : BitVec 32 := Scf.iv c0_i32 c1_i32 k2_t1
  let v259 : Index := Scalar.indexCast arg7
  let c19_81 : Index := 19#32
  ![v259.toNat, 19]
def k2_off61 (k2_t1 : Fin k2_t1_loop.trips) : Fin 2 → Nat :=
  let c0_i32 : BitVec 32 := 0#32
  let c1_i32 : BitVec 32 := 1#32
  let arg7 : BitVec 32 := Scf.iv c0_i32 c1_i32 k2_t1
  let v262 : Index := Scalar.indexCast arg7
  let c20 : Index := 20#32
  ![v262.toNat, 20]
def k2_off62 (v265 : BitVec 32) : Fin 3 → Nat :=
  let v266 : Index := Scalar.indexCast v265
  let c0_83 : Index := 0#32
  let c0_84 : Index := 0#32
  ![v266.toNat, 0, 0]

def k2_chk21 (v265 : BitVec 32) : Prop :=
  (∀ a, (k2_off62 v265) a + S1x4x128.size a ≤ S10000x4x128.size a)
theorem k2_off62_inb : ∀ (v265 : BitVec 32) (k2_hw21 : k2_chk21 v265), ∀ a, (k2_off62 v265) a + S1x4x128.size a ≤ S10000x4x128.size a := fun v265 k2_hw21 => k2_hw21

def k2_off63 (k2_t1 : Fin k2_t1_loop.trips) : Fin 2 → Nat :=
  let c0_i32 : BitVec 32 := 0#32
  let c1_i32 : BitVec 32 := 1#32
  let arg7 : BitVec 32 := Scf.iv c0_i32 c1_i32 k2_t1
  let v272 : Index := Scalar.indexCast arg7
  let c20_85 : Index := 20#32
  ![v272.toNat, 20]
def k2_off64 (k2_t1 : Fin k2_t1_loop.trips) : Fin 2 → Nat :=
  let c0_i32 : BitVec 32 := 0#32
  let c1_i32 : BitVec 32 := 1#32
  let arg7 : BitVec 32 := Scf.iv c0_i32 c1_i32 k2_t1
  let v275 : Index := Scalar.indexCast arg7
  let c21 : Index := 21#32
  ![v275.toNat, 21]
def k2_off65 (v278 : BitVec 32) : Fin 3 → Nat :=
  let v279 : Index := Scalar.indexCast v278
  let c0_87 : Index := 0#32
  let c0_88 : Index := 0#32
  ![v279.toNat, 0, 0]

def k2_chk22 (v278 : BitVec 32) : Prop :=
  (∀ a, (k2_off65 v278) a + S1x4x128.size a ≤ S10000x4x128.size a)
theorem k2_off65_inb : ∀ (v278 : BitVec 32) (k2_hw22 : k2_chk22 v278), ∀ a, (k2_off65 v278) a + S1x4x128.size a ≤ S10000x4x128.size a := fun v278 k2_hw22 => k2_hw22

def k2_off66 (k2_t1 : Fin k2_t1_loop.trips) : Fin 2 → Nat :=
  let c0_i32 : BitVec 32 := 0#32
  let c1_i32 : BitVec 32 := 1#32
  let arg7 : BitVec 32 := Scf.iv c0_i32 c1_i32 k2_t1
  let v285 : Index := Scalar.indexCast arg7
  let c21_89 : Index := 21#32
  ![v285.toNat, 21]
def k2_off67 (k2_t1 : Fin k2_t1_loop.trips) : Fin 2 → Nat :=
  let c0_i32 : BitVec 32 := 0#32
  let c1_i32 : BitVec 32 := 1#32
  let arg7 : BitVec 32 := Scf.iv c0_i32 c1_i32 k2_t1
  let v288 : Index := Scalar.indexCast arg7
  let c22 : Index := 22#32
  ![v288.toNat, 22]
def k2_off68 (v291 : BitVec 32) : Fin 3 → Nat :=
  let v292 : Index := Scalar.indexCast v291
  let c0_91 : Index := 0#32
  let c0_92 : Index := 0#32
  ![v292.toNat, 0, 0]

def k2_chk23 (v291 : BitVec 32) : Prop :=
  (∀ a, (k2_off68 v291) a + S1x4x128.size a ≤ S10000x4x128.size a)
theorem k2_off68_inb : ∀ (v291 : BitVec 32) (k2_hw23 : k2_chk23 v291), ∀ a, (k2_off68 v291) a + S1x4x128.size a ≤ S10000x4x128.size a := fun v291 k2_hw23 => k2_hw23

def k2_off69 (k2_t1 : Fin k2_t1_loop.trips) : Fin 2 → Nat :=
  let c0_i32 : BitVec 32 := 0#32
  let c1_i32 : BitVec 32 := 1#32
  let arg7 : BitVec 32 := Scf.iv c0_i32 c1_i32 k2_t1
  let v298 : Index := Scalar.indexCast arg7
  let c22_93 : Index := 22#32
  ![v298.toNat, 22]
def k2_off70 (k2_t1 : Fin k2_t1_loop.trips) : Fin 2 → Nat :=
  let c0_i32 : BitVec 32 := 0#32
  let c1_i32 : BitVec 32 := 1#32
  let arg7 : BitVec 32 := Scf.iv c0_i32 c1_i32 k2_t1
  let v301 : Index := Scalar.indexCast arg7
  let c23 : Index := 23#32
  ![v301.toNat, 23]
def k2_off71 (v304 : BitVec 32) : Fin 3 → Nat :=
  let v305 : Index := Scalar.indexCast v304
  let c0_95 : Index := 0#32
  let c0_96 : Index := 0#32
  ![v305.toNat, 0, 0]

def k2_chk24 (v304 : BitVec 32) : Prop :=
  (∀ a, (k2_off71 v304) a + S1x4x128.size a ≤ S10000x4x128.size a)
theorem k2_off71_inb : ∀ (v304 : BitVec 32) (k2_hw24 : k2_chk24 v304), ∀ a, (k2_off71 v304) a + S1x4x128.size a ≤ S10000x4x128.size a := fun v304 k2_hw24 => k2_hw24

def k2_off72 (k2_t1 : Fin k2_t1_loop.trips) : Fin 2 → Nat :=
  let c0_i32 : BitVec 32 := 0#32
  let c1_i32 : BitVec 32 := 1#32
  let arg7 : BitVec 32 := Scf.iv c0_i32 c1_i32 k2_t1
  let v311 : Index := Scalar.indexCast arg7
  let c23_97 : Index := 23#32
  ![v311.toNat, 23]
def k2_off73 (k2_t1 : Fin k2_t1_loop.trips) : Fin 2 → Nat :=
  let c0_i32 : BitVec 32 := 0#32
  let c1_i32 : BitVec 32 := 1#32
  let arg7 : BitVec 32 := Scf.iv c0_i32 c1_i32 k2_t1
  let v314 : Index := Scalar.indexCast arg7
  let c24 : Index := 24#32
  ![v314.toNat, 24]
def k2_off74 (v317 : BitVec 32) : Fin 3 → Nat :=
  let v318 : Index := Scalar.indexCast v317
  let c0_99 : Index := 0#32
  let c0_100 : Index := 0#32
  ![v318.toNat, 0, 0]

def k2_chk25 (v317 : BitVec 32) : Prop :=
  (∀ a, (k2_off74 v317) a + S1x4x128.size a ≤ S10000x4x128.size a)
theorem k2_off74_inb : ∀ (v317 : BitVec 32) (k2_hw25 : k2_chk25 v317), ∀ a, (k2_off74 v317) a + S1x4x128.size a ≤ S10000x4x128.size a := fun v317 k2_hw25 => k2_hw25

def k2_off75 (k2_t1 : Fin k2_t1_loop.trips) : Fin 2 → Nat :=
  let c0_i32 : BitVec 32 := 0#32
  let c1_i32 : BitVec 32 := 1#32
  let arg7 : BitVec 32 := Scf.iv c0_i32 c1_i32 k2_t1
  let v324 : Index := Scalar.indexCast arg7
  let c24_101 : Index := 24#32
  ![v324.toNat, 24]
def k2_off76 (k2_t1 : Fin k2_t1_loop.trips) : Fin 2 → Nat :=
  let c0_i32 : BitVec 32 := 0#32
  let c1_i32 : BitVec 32 := 1#32
  let arg7 : BitVec 32 := Scf.iv c0_i32 c1_i32 k2_t1
  let v327 : Index := Scalar.indexCast arg7
  let c25 : Index := 25#32
  ![v327.toNat, 25]
def k2_off77 (v330 : BitVec 32) : Fin 3 → Nat :=
  let v331 : Index := Scalar.indexCast v330
  let c0_103 : Index := 0#32
  let c0_104 : Index := 0#32
  ![v331.toNat, 0, 0]

def k2_chk26 (v330 : BitVec 32) : Prop :=
  (∀ a, (k2_off77 v330) a + S1x4x128.size a ≤ S10000x4x128.size a)
theorem k2_off77_inb : ∀ (v330 : BitVec 32) (k2_hw26 : k2_chk26 v330), ∀ a, (k2_off77 v330) a + S1x4x128.size a ≤ S10000x4x128.size a := fun v330 k2_hw26 => k2_hw26

def k2_off78 (k2_t1 : Fin k2_t1_loop.trips) : Fin 2 → Nat :=
  let c0_i32 : BitVec 32 := 0#32
  let c1_i32 : BitVec 32 := 1#32
  let arg7 : BitVec 32 := Scf.iv c0_i32 c1_i32 k2_t1
  let v337 : Index := Scalar.indexCast arg7
  let c25_105 : Index := 25#32
  ![v337.toNat, 25]
def k2_off79 (k2_t1 : Fin k2_t1_loop.trips) : Fin 2 → Nat :=
  let c0_i32 : BitVec 32 := 0#32
  let c1_i32 : BitVec 32 := 1#32
  let arg7 : BitVec 32 := Scf.iv c0_i32 c1_i32 k2_t1
  let v340 : Index := Scalar.indexCast arg7
  let c26 : Index := 26#32
  ![v340.toNat, 26]
def k2_off80 (v343 : BitVec 32) : Fin 3 → Nat :=
  let v344 : Index := Scalar.indexCast v343
  let c0_107 : Index := 0#32
  let c0_108 : Index := 0#32
  ![v344.toNat, 0, 0]

def k2_chk27 (v343 : BitVec 32) : Prop :=
  (∀ a, (k2_off80 v343) a + S1x4x128.size a ≤ S10000x4x128.size a)
theorem k2_off80_inb : ∀ (v343 : BitVec 32) (k2_hw27 : k2_chk27 v343), ∀ a, (k2_off80 v343) a + S1x4x128.size a ≤ S10000x4x128.size a := fun v343 k2_hw27 => k2_hw27

def k2_off81 (k2_t1 : Fin k2_t1_loop.trips) : Fin 2 → Nat :=
  let c0_i32 : BitVec 32 := 0#32
  let c1_i32 : BitVec 32 := 1#32
  let arg7 : BitVec 32 := Scf.iv c0_i32 c1_i32 k2_t1
  let v350 : Index := Scalar.indexCast arg7
  let c26_109 : Index := 26#32
  ![v350.toNat, 26]
def k2_off82 (k2_t1 : Fin k2_t1_loop.trips) : Fin 2 → Nat :=
  let c0_i32 : BitVec 32 := 0#32
  let c1_i32 : BitVec 32 := 1#32
  let arg7 : BitVec 32 := Scf.iv c0_i32 c1_i32 k2_t1
  let v353 : Index := Scalar.indexCast arg7
  let c27 : Index := 27#32
  ![v353.toNat, 27]
def k2_off83 (v356 : BitVec 32) : Fin 3 → Nat :=
  let v357 : Index := Scalar.indexCast v356
  let c0_111 : Index := 0#32
  let c0_112 : Index := 0#32
  ![v357.toNat, 0, 0]

def k2_chk28 (v356 : BitVec 32) : Prop :=
  (∀ a, (k2_off83 v356) a + S1x4x128.size a ≤ S10000x4x128.size a)
theorem k2_off83_inb : ∀ (v356 : BitVec 32) (k2_hw28 : k2_chk28 v356), ∀ a, (k2_off83 v356) a + S1x4x128.size a ≤ S10000x4x128.size a := fun v356 k2_hw28 => k2_hw28

def k2_off84 (k2_t1 : Fin k2_t1_loop.trips) : Fin 2 → Nat :=
  let c0_i32 : BitVec 32 := 0#32
  let c1_i32 : BitVec 32 := 1#32
  let arg7 : BitVec 32 := Scf.iv c0_i32 c1_i32 k2_t1
  let v363 : Index := Scalar.indexCast arg7
  let c27_113 : Index := 27#32
  ![v363.toNat, 27]
def k2_off85 (k2_t1 : Fin k2_t1_loop.trips) : Fin 2 → Nat :=
  let c0_i32 : BitVec 32 := 0#32
  let c1_i32 : BitVec 32 := 1#32
  let arg7 : BitVec 32 := Scf.iv c0_i32 c1_i32 k2_t1
  let v366 : Index := Scalar.indexCast arg7
  let c28 : Index := 28#32
  ![v366.toNat, 28]
def k2_off86 (v369 : BitVec 32) : Fin 3 → Nat :=
  let v370 : Index := Scalar.indexCast v369
  let c0_115 : Index := 0#32
  let c0_116 : Index := 0#32
  ![v370.toNat, 0, 0]

def k2_chk29 (v369 : BitVec 32) : Prop :=
  (∀ a, (k2_off86 v369) a + S1x4x128.size a ≤ S10000x4x128.size a)
theorem k2_off86_inb : ∀ (v369 : BitVec 32) (k2_hw29 : k2_chk29 v369), ∀ a, (k2_off86 v369) a + S1x4x128.size a ≤ S10000x4x128.size a := fun v369 k2_hw29 => k2_hw29

def k2_off87 (k2_t1 : Fin k2_t1_loop.trips) : Fin 2 → Nat :=
  let c0_i32 : BitVec 32 := 0#32
  let c1_i32 : BitVec 32 := 1#32
  let arg7 : BitVec 32 := Scf.iv c0_i32 c1_i32 k2_t1
  let v376 : Index := Scalar.indexCast arg7
  let c28_117 : Index := 28#32
  ![v376.toNat, 28]
def k2_off88 (k2_t1 : Fin k2_t1_loop.trips) : Fin 2 → Nat :=
  let c0_i32 : BitVec 32 := 0#32
  let c1_i32 : BitVec 32 := 1#32
  let arg7 : BitVec 32 := Scf.iv c0_i32 c1_i32 k2_t1
  let v379 : Index := Scalar.indexCast arg7
  let c29 : Index := 29#32
  ![v379.toNat, 29]
def k2_off89 (v382 : BitVec 32) : Fin 3 → Nat :=
  let v383 : Index := Scalar.indexCast v382
  let c0_119 : Index := 0#32
  let c0_120 : Index := 0#32
  ![v383.toNat, 0, 0]

def k2_chk30 (v382 : BitVec 32) : Prop :=
  (∀ a, (k2_off89 v382) a + S1x4x128.size a ≤ S10000x4x128.size a)
theorem k2_off89_inb : ∀ (v382 : BitVec 32) (k2_hw30 : k2_chk30 v382), ∀ a, (k2_off89 v382) a + S1x4x128.size a ≤ S10000x4x128.size a := fun v382 k2_hw30 => k2_hw30

def k2_off90 (k2_t1 : Fin k2_t1_loop.trips) : Fin 2 → Nat :=
  let c0_i32 : BitVec 32 := 0#32
  let c1_i32 : BitVec 32 := 1#32
  let arg7 : BitVec 32 := Scf.iv c0_i32 c1_i32 k2_t1
  let v389 : Index := Scalar.indexCast arg7
  let c29_121 : Index := 29#32
  ![v389.toNat, 29]
def k2_off91 (k2_t1 : Fin k2_t1_loop.trips) : Fin 2 → Nat :=
  let c0_i32 : BitVec 32 := 0#32
  let c1_i32 : BitVec 32 := 1#32
  let arg7 : BitVec 32 := Scf.iv c0_i32 c1_i32 k2_t1
  let v392 : Index := Scalar.indexCast arg7
  let c30 : Index := 30#32
  ![v392.toNat, 30]
def k2_off92 (v395 : BitVec 32) : Fin 3 → Nat :=
  let v396 : Index := Scalar.indexCast v395
  let c0_123 : Index := 0#32
  let c0_124 : Index := 0#32
  ![v396.toNat, 0, 0]

def k2_chk31 (v395 : BitVec 32) : Prop :=
  (∀ a, (k2_off92 v395) a + S1x4x128.size a ≤ S10000x4x128.size a)
theorem k2_off92_inb : ∀ (v395 : BitVec 32) (k2_hw31 : k2_chk31 v395), ∀ a, (k2_off92 v395) a + S1x4x128.size a ≤ S10000x4x128.size a := fun v395 k2_hw31 => k2_hw31

def k2_off93 (k2_t1 : Fin k2_t1_loop.trips) : Fin 2 → Nat :=
  let c0_i32 : BitVec 32 := 0#32
  let c1_i32 : BitVec 32 := 1#32
  let arg7 : BitVec 32 := Scf.iv c0_i32 c1_i32 k2_t1
  let v402 : Index := Scalar.indexCast arg7
  let c30_125 : Index := 30#32
  ![v402.toNat, 30]
def k2_off94 (k2_t1 : Fin k2_t1_loop.trips) : Fin 2 → Nat :=
  let c0_i32 : BitVec 32 := 0#32
  let c1_i32 : BitVec 32 := 1#32
  let arg7 : BitVec 32 := Scf.iv c0_i32 c1_i32 k2_t1
  let v405 : Index := Scalar.indexCast arg7
  let c31 : Index := 31#32
  ![v405.toNat, 31]
def k2_off95 (v408 : BitVec 32) : Fin 3 → Nat :=
  let v409 : Index := Scalar.indexCast v408
  let c0_127 : Index := 0#32
  let c0_128 : Index := 0#32
  ![v409.toNat, 0, 0]

def k2_chk32 (v408 : BitVec 32) : Prop :=
  (∀ a, (k2_off95 v408) a + S1x4x128.size a ≤ S10000x4x128.size a)
theorem k2_off95_inb : ∀ (v408 : BitVec 32) (k2_hw32 : k2_chk32 v408), ∀ a, (k2_off95 v408) a + S1x4x128.size a ≤ S10000x4x128.size a := fun v408 k2_hw32 => k2_hw32

def k2_off96 (k2_t1 : Fin k2_t1_loop.trips) : Fin 2 → Nat :=
  let c0_i32 : BitVec 32 := 0#32
  let c1_i32 : BitVec 32 := 1#32
  let arg7 : BitVec 32 := Scf.iv c0_i32 c1_i32 k2_t1
  let v415 : Index := Scalar.indexCast arg7
  let c31_129 : Index := 31#32
  ![v415.toNat, 31]
def k2_off97 (k2_t1 : Fin k2_t1_loop.trips) : Fin 2 → Nat :=
  let c0_i32 : BitVec 32 := 0#32
  let c1_i32 : BitVec 32 := 1#32
  let arg7 : BitVec 32 := Scf.iv c0_i32 c1_i32 k2_t1
  let v418 : Index := Scalar.indexCast arg7
  let c32 : Index := 32#32
  ![v418.toNat, 32]
def k2_off98 (v421 : BitVec 32) : Fin 3 → Nat :=
  let v422 : Index := Scalar.indexCast v421
  let c0_131 : Index := 0#32
  let c0_132 : Index := 0#32
  ![v422.toNat, 0, 0]

def k2_chk33 (v421 : BitVec 32) : Prop :=
  (∀ a, (k2_off98 v421) a + S1x4x128.size a ≤ S10000x4x128.size a)
theorem k2_off98_inb : ∀ (v421 : BitVec 32) (k2_hw33 : k2_chk33 v421), ∀ a, (k2_off98 v421) a + S1x4x128.size a ≤ S10000x4x128.size a := fun v421 k2_hw33 => k2_hw33

def k2_off99 (k2_t1 : Fin k2_t1_loop.trips) : Fin 2 → Nat :=
  let c0_i32 : BitVec 32 := 0#32
  let c1_i32 : BitVec 32 := 1#32
  let arg7 : BitVec 32 := Scf.iv c0_i32 c1_i32 k2_t1
  let v428 : Index := Scalar.indexCast arg7
  let c32_133 : Index := 32#32
  ![v428.toNat, 32]
def k2_off100 (k2_t1 : Fin k2_t1_loop.trips) : Fin 2 → Nat :=
  let c0_i32 : BitVec 32 := 0#32
  let c1_i32 : BitVec 32 := 1#32
  let arg7 : BitVec 32 := Scf.iv c0_i32 c1_i32 k2_t1
  let v431 : Index := Scalar.indexCast arg7
  let c33 : Index := 33#32
  ![v431.toNat, 33]
def k2_off101 (v434 : BitVec 32) : Fin 3 → Nat :=
  let v435 : Index := Scalar.indexCast v434
  let c0_135 : Index := 0#32
  let c0_136 : Index := 0#32
  ![v435.toNat, 0, 0]

def k2_chk34 (v434 : BitVec 32) : Prop :=
  (∀ a, (k2_off101 v434) a + S1x4x128.size a ≤ S10000x4x128.size a)
theorem k2_off101_inb : ∀ (v434 : BitVec 32) (k2_hw34 : k2_chk34 v434), ∀ a, (k2_off101 v434) a + S1x4x128.size a ≤ S10000x4x128.size a := fun v434 k2_hw34 => k2_hw34

def k2_off102 (k2_t1 : Fin k2_t1_loop.trips) : Fin 2 → Nat :=
  let c0_i32 : BitVec 32 := 0#32
  let c1_i32 : BitVec 32 := 1#32
  let arg7 : BitVec 32 := Scf.iv c0_i32 c1_i32 k2_t1
  let v441 : Index := Scalar.indexCast arg7
  let c33_137 : Index := 33#32
  ![v441.toNat, 33]
def k2_off103 (k2_t1 : Fin k2_t1_loop.trips) : Fin 2 → Nat :=
  let c0_i32 : BitVec 32 := 0#32
  let c1_i32 : BitVec 32 := 1#32
  let arg7 : BitVec 32 := Scf.iv c0_i32 c1_i32 k2_t1
  let v444 : Index := Scalar.indexCast arg7
  let c34 : Index := 34#32
  ![v444.toNat, 34]
def k2_off104 (v447 : BitVec 32) : Fin 3 → Nat :=
  let v448 : Index := Scalar.indexCast v447
  let c0_139 : Index := 0#32
  let c0_140 : Index := 0#32
  ![v448.toNat, 0, 0]

def k2_chk35 (v447 : BitVec 32) : Prop :=
  (∀ a, (k2_off104 v447) a + S1x4x128.size a ≤ S10000x4x128.size a)
theorem k2_off104_inb : ∀ (v447 : BitVec 32) (k2_hw35 : k2_chk35 v447), ∀ a, (k2_off104 v447) a + S1x4x128.size a ≤ S10000x4x128.size a := fun v447 k2_hw35 => k2_hw35

def k2_off105 (k2_t1 : Fin k2_t1_loop.trips) : Fin 2 → Nat :=
  let c0_i32 : BitVec 32 := 0#32
  let c1_i32 : BitVec 32 := 1#32
  let arg7 : BitVec 32 := Scf.iv c0_i32 c1_i32 k2_t1
  let v454 : Index := Scalar.indexCast arg7
  let c34_141 : Index := 34#32
  ![v454.toNat, 34]
def k2_off106 (k2_t1 : Fin k2_t1_loop.trips) : Fin 2 → Nat :=
  let c0_i32 : BitVec 32 := 0#32
  let c1_i32 : BitVec 32 := 1#32
  let arg7 : BitVec 32 := Scf.iv c0_i32 c1_i32 k2_t1
  let v457 : Index := Scalar.indexCast arg7
  let c35 : Index := 35#32
  ![v457.toNat, 35]
def k2_off107 (v460 : BitVec 32) : Fin 3 → Nat :=
  let v461 : Index := Scalar.indexCast v460
  let c0_143 : Index := 0#32
  let c0_144 : Index := 0#32
  ![v461.toNat, 0, 0]

def k2_chk36 (v460 : BitVec 32) : Prop :=
  (∀ a, (k2_off107 v460) a + S1x4x128.size a ≤ S10000x4x128.size a)
theorem k2_off107_inb : ∀ (v460 : BitVec 32) (k2_hw36 : k2_chk36 v460), ∀ a, (k2_off107 v460) a + S1x4x128.size a ≤ S10000x4x128.size a := fun v460 k2_hw36 => k2_hw36

def k2_off108 (k2_t1 : Fin k2_t1_loop.trips) : Fin 2 → Nat :=
  let c0_i32 : BitVec 32 := 0#32
  let c1_i32 : BitVec 32 := 1#32
  let arg7 : BitVec 32 := Scf.iv c0_i32 c1_i32 k2_t1
  let v467 : Index := Scalar.indexCast arg7
  let c35_145 : Index := 35#32
  ![v467.toNat, 35]
def k2_off109 (k2_t1 : Fin k2_t1_loop.trips) : Fin 2 → Nat :=
  let c0_i32 : BitVec 32 := 0#32
  let c1_i32 : BitVec 32 := 1#32
  let arg7 : BitVec 32 := Scf.iv c0_i32 c1_i32 k2_t1
  let v470 : Index := Scalar.indexCast arg7
  let c36 : Index := 36#32
  ![v470.toNat, 36]
def k2_off110 (v473 : BitVec 32) : Fin 3 → Nat :=
  let v474 : Index := Scalar.indexCast v473
  let c0_147 : Index := 0#32
  let c0_148 : Index := 0#32
  ![v474.toNat, 0, 0]

def k2_chk37 (v473 : BitVec 32) : Prop :=
  (∀ a, (k2_off110 v473) a + S1x4x128.size a ≤ S10000x4x128.size a)
theorem k2_off110_inb : ∀ (v473 : BitVec 32) (k2_hw37 : k2_chk37 v473), ∀ a, (k2_off110 v473) a + S1x4x128.size a ≤ S10000x4x128.size a := fun v473 k2_hw37 => k2_hw37

def k2_off111 (k2_t1 : Fin k2_t1_loop.trips) : Fin 2 → Nat :=
  let c0_i32 : BitVec 32 := 0#32
  let c1_i32 : BitVec 32 := 1#32
  let arg7 : BitVec 32 := Scf.iv c0_i32 c1_i32 k2_t1
  let v480 : Index := Scalar.indexCast arg7
  let c36_149 : Index := 36#32
  ![v480.toNat, 36]
def k2_off112 (k2_t1 : Fin k2_t1_loop.trips) : Fin 2 → Nat :=
  let c0_i32 : BitVec 32 := 0#32
  let c1_i32 : BitVec 32 := 1#32
  let arg7 : BitVec 32 := Scf.iv c0_i32 c1_i32 k2_t1
  let v483 : Index := Scalar.indexCast arg7
  let c37 : Index := 37#32
  ![v483.toNat, 37]
def k2_off113 (v486 : BitVec 32) : Fin 3 → Nat :=
  let v487 : Index := Scalar.indexCast v486
  let c0_151 : Index := 0#32
  let c0_152 : Index := 0#32
  ![v487.toNat, 0, 0]

def k2_chk38 (v486 : BitVec 32) : Prop :=
  (∀ a, (k2_off113 v486) a + S1x4x128.size a ≤ S10000x4x128.size a)
theorem k2_off113_inb : ∀ (v486 : BitVec 32) (k2_hw38 : k2_chk38 v486), ∀ a, (k2_off113 v486) a + S1x4x128.size a ≤ S10000x4x128.size a := fun v486 k2_hw38 => k2_hw38

def k2_off114 (k2_t1 : Fin k2_t1_loop.trips) : Fin 2 → Nat :=
  let c0_i32 : BitVec 32 := 0#32
  let c1_i32 : BitVec 32 := 1#32
  let arg7 : BitVec 32 := Scf.iv c0_i32 c1_i32 k2_t1
  let v493 : Index := Scalar.indexCast arg7
  let c37_153 : Index := 37#32
  ![v493.toNat, 37]
def k2_off115 (k2_t1 : Fin k2_t1_loop.trips) : Fin 2 → Nat :=
  let c0_i32 : BitVec 32 := 0#32
  let c1_i32 : BitVec 32 := 1#32
  let arg7 : BitVec 32 := Scf.iv c0_i32 c1_i32 k2_t1
  let v496 : Index := Scalar.indexCast arg7
  let c38 : Index := 38#32
  ![v496.toNat, 38]
def k2_off116 (v499 : BitVec 32) : Fin 3 → Nat :=
  let v500 : Index := Scalar.indexCast v499
  let c0_155 : Index := 0#32
  let c0_156 : Index := 0#32
  ![v500.toNat, 0, 0]

def k2_chk39 (v499 : BitVec 32) : Prop :=
  (∀ a, (k2_off116 v499) a + S1x4x128.size a ≤ S10000x4x128.size a)
theorem k2_off116_inb : ∀ (v499 : BitVec 32) (k2_hw39 : k2_chk39 v499), ∀ a, (k2_off116 v499) a + S1x4x128.size a ≤ S10000x4x128.size a := fun v499 k2_hw39 => k2_hw39

def k2_off117 (k2_t1 : Fin k2_t1_loop.trips) : Fin 2 → Nat :=
  let c0_i32 : BitVec 32 := 0#32
  let c1_i32 : BitVec 32 := 1#32
  let arg7 : BitVec 32 := Scf.iv c0_i32 c1_i32 k2_t1
  let v506 : Index := Scalar.indexCast arg7
  let c38_157 : Index := 38#32
  ![v506.toNat, 38]
def k2_off118 (k2_t1 : Fin k2_t1_loop.trips) : Fin 2 → Nat :=
  let c0_i32 : BitVec 32 := 0#32
  let c1_i32 : BitVec 32 := 1#32
  let arg7 : BitVec 32 := Scf.iv c0_i32 c1_i32 k2_t1
  let v509 : Index := Scalar.indexCast arg7
  let c39 : Index := 39#32
  ![v509.toNat, 39]
def k2_off119 (v512 : BitVec 32) : Fin 3 → Nat :=
  let v513 : Index := Scalar.indexCast v512
  let c0_159 : Index := 0#32
  let c0_160 : Index := 0#32
  ![v513.toNat, 0, 0]

def k2_chk40 (v512 : BitVec 32) : Prop :=
  (∀ a, (k2_off119 v512) a + S1x4x128.size a ≤ S10000x4x128.size a)
theorem k2_off119_inb : ∀ (v512 : BitVec 32) (k2_hw40 : k2_chk40 v512), ∀ a, (k2_off119 v512) a + S1x4x128.size a ≤ S10000x4x128.size a := fun v512 k2_hw40 => k2_hw40

def k2_off120 (k2_t1 : Fin k2_t1_loop.trips) : Fin 2 → Nat :=
  let c0_i32 : BitVec 32 := 0#32
  let c1_i32 : BitVec 32 := 1#32
  let arg7 : BitVec 32 := Scf.iv c0_i32 c1_i32 k2_t1
  let v519 : Index := Scalar.indexCast arg7
  let c39_161 : Index := 39#32
  ![v519.toNat, 39]
def k2_off121 (k2_t1 : Fin k2_t1_loop.trips) : Fin 2 → Nat :=
  let c0_i32 : BitVec 32 := 0#32
  let c1_i32 : BitVec 32 := 1#32
  let arg7 : BitVec 32 := Scf.iv c0_i32 c1_i32 k2_t1
  let v522 : Index := Scalar.indexCast arg7
  let c40 : Index := 40#32
  ![v522.toNat, 40]
def k2_off122 (v525 : BitVec 32) : Fin 3 → Nat :=
  let v526 : Index := Scalar.indexCast v525
  let c0_163 : Index := 0#32
  let c0_164 : Index := 0#32
  ![v526.toNat, 0, 0]

def k2_chk41 (v525 : BitVec 32) : Prop :=
  (∀ a, (k2_off122 v525) a + S1x4x128.size a ≤ S10000x4x128.size a)
theorem k2_off122_inb : ∀ (v525 : BitVec 32) (k2_hw41 : k2_chk41 v525), ∀ a, (k2_off122 v525) a + S1x4x128.size a ≤ S10000x4x128.size a := fun v525 k2_hw41 => k2_hw41

def k2_off123 (k2_t1 : Fin k2_t1_loop.trips) : Fin 2 → Nat :=
  let c0_i32 : BitVec 32 := 0#32
  let c1_i32 : BitVec 32 := 1#32
  let arg7 : BitVec 32 := Scf.iv c0_i32 c1_i32 k2_t1
  let v532 : Index := Scalar.indexCast arg7
  let c40_165 : Index := 40#32
  ![v532.toNat, 40]
def k2_off124 (k2_t1 : Fin k2_t1_loop.trips) : Fin 2 → Nat :=
  let c0_i32 : BitVec 32 := 0#32
  let c1_i32 : BitVec 32 := 1#32
  let arg7 : BitVec 32 := Scf.iv c0_i32 c1_i32 k2_t1
  let v535 : Index := Scalar.indexCast arg7
  let c41 : Index := 41#32
  ![v535.toNat, 41]
def k2_off125 (v538 : BitVec 32) : Fin 3 → Nat :=
  let v539 : Index := Scalar.indexCast v538
  let c0_167 : Index := 0#32
  let c0_168 : Index := 0#32
  ![v539.toNat, 0, 0]

def k2_chk42 (v538 : BitVec 32) : Prop :=
  (∀ a, (k2_off125 v538) a + S1x4x128.size a ≤ S10000x4x128.size a)
theorem k2_off125_inb : ∀ (v538 : BitVec 32) (k2_hw42 : k2_chk42 v538), ∀ a, (k2_off125 v538) a + S1x4x128.size a ≤ S10000x4x128.size a := fun v538 k2_hw42 => k2_hw42

def k2_off126 (k2_t1 : Fin k2_t1_loop.trips) : Fin 2 → Nat :=
  let c0_i32 : BitVec 32 := 0#32
  let c1_i32 : BitVec 32 := 1#32
  let arg7 : BitVec 32 := Scf.iv c0_i32 c1_i32 k2_t1
  let v545 : Index := Scalar.indexCast arg7
  let c41_169 : Index := 41#32
  ![v545.toNat, 41]
def k2_off127 (k2_t1 : Fin k2_t1_loop.trips) : Fin 2 → Nat :=
  let c0_i32 : BitVec 32 := 0#32
  let c1_i32 : BitVec 32 := 1#32
  let arg7 : BitVec 32 := Scf.iv c0_i32 c1_i32 k2_t1
  let v548 : Index := Scalar.indexCast arg7
  let c42 : Index := 42#32
  ![v548.toNat, 42]
def k2_off128 (v551 : BitVec 32) : Fin 3 → Nat :=
  let v552 : Index := Scalar.indexCast v551
  let c0_171 : Index := 0#32
  let c0_172 : Index := 0#32
  ![v552.toNat, 0, 0]

def k2_chk43 (v551 : BitVec 32) : Prop :=
  (∀ a, (k2_off128 v551) a + S1x4x128.size a ≤ S10000x4x128.size a)
theorem k2_off128_inb : ∀ (v551 : BitVec 32) (k2_hw43 : k2_chk43 v551), ∀ a, (k2_off128 v551) a + S1x4x128.size a ≤ S10000x4x128.size a := fun v551 k2_hw43 => k2_hw43

def k2_off129 (k2_t1 : Fin k2_t1_loop.trips) : Fin 2 → Nat :=
  let c0_i32 : BitVec 32 := 0#32
  let c1_i32 : BitVec 32 := 1#32
  let arg7 : BitVec 32 := Scf.iv c0_i32 c1_i32 k2_t1
  let v558 : Index := Scalar.indexCast arg7
  let c42_173 : Index := 42#32
  ![v558.toNat, 42]
def k2_off130 (k2_t1 : Fin k2_t1_loop.trips) : Fin 2 → Nat :=
  let c0_i32 : BitVec 32 := 0#32
  let c1_i32 : BitVec 32 := 1#32
  let arg7 : BitVec 32 := Scf.iv c0_i32 c1_i32 k2_t1
  let v561 : Index := Scalar.indexCast arg7
  let c43 : Index := 43#32
  ![v561.toNat, 43]
def k2_off131 (v564 : BitVec 32) : Fin 3 → Nat :=
  let v565 : Index := Scalar.indexCast v564
  let c0_175 : Index := 0#32
  let c0_176 : Index := 0#32
  ![v565.toNat, 0, 0]

def k2_chk44 (v564 : BitVec 32) : Prop :=
  (∀ a, (k2_off131 v564) a + S1x4x128.size a ≤ S10000x4x128.size a)
theorem k2_off131_inb : ∀ (v564 : BitVec 32) (k2_hw44 : k2_chk44 v564), ∀ a, (k2_off131 v564) a + S1x4x128.size a ≤ S10000x4x128.size a := fun v564 k2_hw44 => k2_hw44

def k2_off132 (k2_t1 : Fin k2_t1_loop.trips) : Fin 2 → Nat :=
  let c0_i32 : BitVec 32 := 0#32
  let c1_i32 : BitVec 32 := 1#32
  let arg7 : BitVec 32 := Scf.iv c0_i32 c1_i32 k2_t1
  let v571 : Index := Scalar.indexCast arg7
  let c43_177 : Index := 43#32
  ![v571.toNat, 43]
def k2_off133 (k2_t1 : Fin k2_t1_loop.trips) : Fin 2 → Nat :=
  let c0_i32 : BitVec 32 := 0#32
  let c1_i32 : BitVec 32 := 1#32
  let arg7 : BitVec 32 := Scf.iv c0_i32 c1_i32 k2_t1
  let v574 : Index := Scalar.indexCast arg7
  let c44 : Index := 44#32
  ![v574.toNat, 44]
def k2_off134 (v577 : BitVec 32) : Fin 3 → Nat :=
  let v578 : Index := Scalar.indexCast v577
  let c0_179 : Index := 0#32
  let c0_180 : Index := 0#32
  ![v578.toNat, 0, 0]

def k2_chk45 (v577 : BitVec 32) : Prop :=
  (∀ a, (k2_off134 v577) a + S1x4x128.size a ≤ S10000x4x128.size a)
theorem k2_off134_inb : ∀ (v577 : BitVec 32) (k2_hw45 : k2_chk45 v577), ∀ a, (k2_off134 v577) a + S1x4x128.size a ≤ S10000x4x128.size a := fun v577 k2_hw45 => k2_hw45

def k2_off135 (k2_t1 : Fin k2_t1_loop.trips) : Fin 2 → Nat :=
  let c0_i32 : BitVec 32 := 0#32
  let c1_i32 : BitVec 32 := 1#32
  let arg7 : BitVec 32 := Scf.iv c0_i32 c1_i32 k2_t1
  let v584 : Index := Scalar.indexCast arg7
  let c44_181 : Index := 44#32
  ![v584.toNat, 44]
def k2_off136 (k2_t1 : Fin k2_t1_loop.trips) : Fin 2 → Nat :=
  let c0_i32 : BitVec 32 := 0#32
  let c1_i32 : BitVec 32 := 1#32
  let arg7 : BitVec 32 := Scf.iv c0_i32 c1_i32 k2_t1
  let v587 : Index := Scalar.indexCast arg7
  let c45 : Index := 45#32
  ![v587.toNat, 45]
def k2_off137 (v590 : BitVec 32) : Fin 3 → Nat :=
  let v591 : Index := Scalar.indexCast v590
  let c0_183 : Index := 0#32
  let c0_184 : Index := 0#32
  ![v591.toNat, 0, 0]

def k2_chk46 (v590 : BitVec 32) : Prop :=
  (∀ a, (k2_off137 v590) a + S1x4x128.size a ≤ S10000x4x128.size a)
theorem k2_off137_inb : ∀ (v590 : BitVec 32) (k2_hw46 : k2_chk46 v590), ∀ a, (k2_off137 v590) a + S1x4x128.size a ≤ S10000x4x128.size a := fun v590 k2_hw46 => k2_hw46

def k2_off138 (k2_t1 : Fin k2_t1_loop.trips) : Fin 2 → Nat :=
  let c0_i32 : BitVec 32 := 0#32
  let c1_i32 : BitVec 32 := 1#32
  let arg7 : BitVec 32 := Scf.iv c0_i32 c1_i32 k2_t1
  let v597 : Index := Scalar.indexCast arg7
  let c45_185 : Index := 45#32
  ![v597.toNat, 45]
def k2_off139 (k2_t1 : Fin k2_t1_loop.trips) : Fin 2 → Nat :=
  let c0_i32 : BitVec 32 := 0#32
  let c1_i32 : BitVec 32 := 1#32
  let arg7 : BitVec 32 := Scf.iv c0_i32 c1_i32 k2_t1
  let v600 : Index := Scalar.indexCast arg7
  let c46 : Index := 46#32
  ![v600.toNat, 46]
def k2_off140 (v603 : BitVec 32) : Fin 3 → Nat :=
  let v604 : Index := Scalar.indexCast v603
  let c0_187 : Index := 0#32
  let c0_188 : Index := 0#32
  ![v604.toNat, 0, 0]

def k2_chk47 (v603 : BitVec 32) : Prop :=
  (∀ a, (k2_off140 v603) a + S1x4x128.size a ≤ S10000x4x128.size a)
theorem k2_off140_inb : ∀ (v603 : BitVec 32) (k2_hw47 : k2_chk47 v603), ∀ a, (k2_off140 v603) a + S1x4x128.size a ≤ S10000x4x128.size a := fun v603 k2_hw47 => k2_hw47

def k2_off141 (k2_t1 : Fin k2_t1_loop.trips) : Fin 2 → Nat :=
  let c0_i32 : BitVec 32 := 0#32
  let c1_i32 : BitVec 32 := 1#32
  let arg7 : BitVec 32 := Scf.iv c0_i32 c1_i32 k2_t1
  let v610 : Index := Scalar.indexCast arg7
  let c46_189 : Index := 46#32
  ![v610.toNat, 46]
def k2_off142 (k2_t1 : Fin k2_t1_loop.trips) : Fin 2 → Nat :=
  let c0_i32 : BitVec 32 := 0#32
  let c1_i32 : BitVec 32 := 1#32
  let arg7 : BitVec 32 := Scf.iv c0_i32 c1_i32 k2_t1
  let v613 : Index := Scalar.indexCast arg7
  let c47 : Index := 47#32
  ![v613.toNat, 47]
def k2_off143 (v616 : BitVec 32) : Fin 3 → Nat :=
  let v617 : Index := Scalar.indexCast v616
  let c0_191 : Index := 0#32
  let c0_192 : Index := 0#32
  ![v617.toNat, 0, 0]

def k2_chk48 (v616 : BitVec 32) : Prop :=
  (∀ a, (k2_off143 v616) a + S1x4x128.size a ≤ S10000x4x128.size a)
theorem k2_off143_inb : ∀ (v616 : BitVec 32) (k2_hw48 : k2_chk48 v616), ∀ a, (k2_off143 v616) a + S1x4x128.size a ≤ S10000x4x128.size a := fun v616 k2_hw48 => k2_hw48

def k2_off144 (k2_t1 : Fin k2_t1_loop.trips) : Fin 2 → Nat :=
  let c0_i32 : BitVec 32 := 0#32
  let c1_i32 : BitVec 32 := 1#32
  let arg7 : BitVec 32 := Scf.iv c0_i32 c1_i32 k2_t1
  let v623 : Index := Scalar.indexCast arg7
  let c47_193 : Index := 47#32
  ![v623.toNat, 47]
def k2_off145 (k2_t1 : Fin k2_t1_loop.trips) : Fin 3 → Nat :=
  let c0_i32 : BitVec 32 := 0#32
  let c1_i32 : BitVec 32 := 1#32
  let arg7 : BitVec 32 := Scf.iv c0_i32 c1_i32 k2_t1
  let v635 : Index := Scalar.indexCast arg7
  let c0_198 : Index := 0#32
  let c0_199 : Index := 0#32
  ![v635.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .smem S64x48 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .smem S64x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .smem S64x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S10000x4x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S64x4x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S40000x768 : Shape := ⟨2, ![40000, 768]⟩
abbrev S1536x768 : Shape := ⟨2, ![1536, 768]⟩
abbrev S768 : Shape := ⟨1, ![768]⟩
abbrev S768x1 : Shape := ⟨2, ![768, 1]⟩
abbrev S1 : Shape := ⟨1, ![1]⟩
abbrev S768x512 : Shape := ⟨2, ![768, 512]⟩
abbrev S512 : Shape := ⟨1, ![512]⟩
abbrev S10000x8 : Shape := ⟨2, ![10000, 8]⟩
abbrev S16x32x48 : Shape := ⟨3, ![16, 32, 48]⟩
abbrev S_ : Shape := ⟨0, ![]⟩
abbrev S10000x8x1 : Shape := ⟨3, ![10000, 8, 1]⟩
abbrev S10000x8x768 : Shape := ⟨3, ![10000, 8, 768]⟩
abbrev S10000x8x1536 : Shape := ⟨3, ![10000, 8, 1536]⟩
abbrev S1x1x768 : Shape := ⟨3, ![1, 1, 768]⟩
abbrev S1x1x1 : Shape := ⟨3, ![1, 1, 1]⟩
abbrev S10000x1 : Shape := ⟨2, ![10000, 1]⟩
abbrev S10000x1x1 : Shape := ⟨3, ![10000, 1, 1]⟩
abbrev S10000x768 : Shape := ⟨2, ![10000, 768]⟩
abbrev S1x768 : Shape := ⟨2, ![1, 768]⟩
abbrev S10001x768 : Shape := ⟨2, ![10001, 768]⟩
abbrev S16x32x48x1 : Shape := ⟨4, ![16, 32, 48, 1]⟩
abbrev S16x32x48x768 : Shape := ⟨4, ![16, 32, 48, 768]⟩
abbrev S16x32x768 : Shape := ⟨3, ![16, 32, 768]⟩
abbrev S16x32x1 : Shape := ⟨3, ![16, 32, 1]⟩
abbrev S16x32x512 : Shape := ⟨3, ![16, 32, 512]⟩
abbrev S1x1x512 : Shape := ⟨3, ![1, 1, 512]⟩

abbrev nBuf : Space → Nat
  | .hbm => 99
  | .vmem => 0
  | .smem => 0
  | _ => 0

abbrev bufTy : (tb : Table) → Fin (tcTables nBuf tb) → BufTy
  | .hbm, ⟨0, _⟩ => ⟨S40000x768, .f32⟩
  | .hbm, ⟨1, _⟩ => ⟨S1536x768, .f32⟩
  | .hbm, ⟨2, _⟩ => ⟨S768, .f32⟩
  | .hbm, ⟨3, _⟩ => ⟨S768x1, .f32⟩
  | .hbm, ⟨4, _⟩ => ⟨S1, .f32⟩
  | .hbm, ⟨5, _⟩ => ⟨S768x512, .f32⟩
  | .hbm, ⟨6, _⟩ => ⟨S512, .f32⟩
  | .hbm, ⟨7, _⟩ => ⟨S10000x8, .f32⟩
  | .hbm, ⟨8, _⟩ => ⟨S16x32x48, .f32⟩
  | .hbm, ⟨9, _⟩ => ⟨S10000x8, .i32⟩
  | .hbm, ⟨10, _⟩ => ⟨S10000x8, .i32⟩
  | .hbm, ⟨11, _⟩ => ⟨S16x32x48, .i32⟩
  | .hbm, ⟨12, _⟩ => ⟨S_, .i32⟩
  | .hbm, ⟨13, _⟩ => ⟨S10000x8, .i32⟩
  | .hbm, ⟨14, _⟩ => ⟨S10000x8, .i1⟩
  | .hbm, ⟨15, _⟩ => ⟨S_, .i32⟩
  | .hbm, ⟨16, _⟩ => ⟨S10000x8, .i32⟩
  | .hbm, ⟨17, _⟩ => ⟨S10000x8, .i32⟩
  | .hbm, ⟨18, _⟩ => ⟨S10000x8, .i32⟩
  | .hbm, ⟨19, _⟩ => ⟨S10000x8x1, .i32⟩
  | .hbm, ⟨20, _⟩ => ⟨S10000x8x768, .f32⟩
  | .hbm, ⟨21, _⟩ => ⟨S_, .i32⟩
  | .hbm, ⟨22, _⟩ => ⟨S10000x8, .i32⟩
  | .hbm, ⟨23, _⟩ => ⟨S10000x8, .i1⟩
  | .hbm, ⟨24, _⟩ => ⟨S_, .i32⟩
  | .hbm, ⟨25, _⟩ => ⟨S10000x8, .i32⟩
  | .hbm, ⟨26, _⟩ => ⟨S10000x8, .i32⟩
  | .hbm, ⟨27, _⟩ => ⟨S10000x8, .i32⟩
  | .hbm, ⟨28, _⟩ => ⟨S10000x8x1, .i32⟩
  | .hbm, ⟨29, _⟩ => ⟨S10000x8x768, .f32⟩
  | .hbm, ⟨30, _⟩ => ⟨S10000x8x1, .f32⟩
  | .hbm, ⟨31, _⟩ => ⟨S10000x8x768, .f32⟩
  | .hbm, ⟨32, _⟩ => ⟨S10000x8x768, .f32⟩
  | .hbm, ⟨33, _⟩ => ⟨S10000x8x768, .f32⟩
  | .hbm, ⟨34, _⟩ => ⟨S10000x8x768, .f32⟩
  | .hbm, ⟨35, _⟩ => ⟨S10000x8x1536, .f32⟩
  | .hbm, ⟨36, _⟩ => ⟨S10000x8x768, .f32⟩
  | .hbm, ⟨37, _⟩ => ⟨S1x1x768, .f32⟩
  | .hbm, ⟨38, _⟩ => ⟨S10000x8x768, .f32⟩
  | .hbm, ⟨39, _⟩ => ⟨S10000x8x768, .f32⟩
  | .hbm, ⟨40, _⟩ => ⟨S_, .f32⟩
  | .hbm, ⟨41, _⟩ => ⟨S10000x8x768, .f32⟩
  | .hbm, ⟨42, _⟩ => ⟨S10000x8x768, .f32⟩
  | .hbm, ⟨43, _⟩ => ⟨S10000x8x1, .f32⟩
  | .hbm, ⟨44, _⟩ => ⟨S1x1x1, .f32⟩
  | .hbm, ⟨45, _⟩ => ⟨S10000x8x1, .f32⟩
  | .hbm, ⟨46, _⟩ => ⟨S10000x8x1, .f32⟩
  | .hbm, ⟨47, _⟩ => ⟨S_, .f32⟩
  | .hbm, ⟨48, _⟩ => ⟨S10000x8x1, .f32⟩
  | .hbm, ⟨49, _⟩ => ⟨S10000x8x1, .i1⟩
  | .hbm, ⟨50, _⟩ => ⟨S_, .f32⟩
  | .hbm, ⟨51, _⟩ => ⟨S_, .f32⟩
  | .hbm, ⟨52, _⟩ => ⟨S10000x8x1, .f32⟩
  | .hbm, ⟨53, _⟩ => ⟨S10000x8x1, .f32⟩
  | .hbm, ⟨54, _⟩ => ⟨S_, .f32⟩
  | .hbm, ⟨55, _⟩ => ⟨S10000x1, .f32⟩
  | .hbm, ⟨56, _⟩ => ⟨S10000x1x1, .f32⟩
  | .hbm, ⟨57, _⟩ => ⟨S10000x8x1, .f32⟩
  | .hbm, ⟨58, _⟩ => ⟨S10000x8x1, .f32⟩
  | .hbm, ⟨59, _⟩ => ⟨S10000x8x1, .f32⟩
  | .hbm, ⟨60, _⟩ => ⟨S_, .f32⟩
  | .hbm, ⟨61, _⟩ => ⟨S10000x1, .f32⟩
  | .hbm, ⟨62, _⟩ => ⟨S10000x1x1, .f32⟩
  | .hbm, ⟨63, _⟩ => ⟨S10000x8x1, .f32⟩
  | .hbm, ⟨64, _⟩ => ⟨S10000x8x1, .f32⟩
  | .hbm, ⟨65, _⟩ => ⟨S10000x8x768, .f32⟩
  | .hbm, ⟨66, _⟩ => ⟨S10000x8x768, .f32⟩
  | .hbm, ⟨67, _⟩ => ⟨S10000x8x768, .f32⟩
  | .hbm, ⟨68, _⟩ => ⟨S10000x8x768, .f32⟩
  | .hbm, ⟨69, _⟩ => ⟨S_, .f32⟩
  | .hbm, ⟨70, _⟩ => ⟨S10000x768, .f32⟩
  | .hbm, ⟨71, _⟩ => ⟨S_, .f32⟩
  | .hbm, ⟨72, _⟩ => ⟨S1x768, .f32⟩
  | .hbm, ⟨73, _⟩ => ⟨S10001x768, .f32⟩
  | .hbm, ⟨74, _⟩ => ⟨S_, .i32⟩
  | .hbm, ⟨75, _⟩ => ⟨S16x32x48, .i32⟩
  | .hbm, ⟨76, _⟩ => ⟨S16x32x48, .i1⟩
  | .hbm, ⟨77, _⟩ => ⟨S_, .i32⟩
  | .hbm, ⟨78, _⟩ => ⟨S16x32x48, .i32⟩
  | .hbm, ⟨79, _⟩ => ⟨S16x32x48, .i32⟩
  | .hbm, ⟨80, _⟩ => ⟨S16x32x48, .i32⟩
  | .hbm, ⟨81, _⟩ => ⟨S16x32x48x1, .i32⟩
  | .hbm, ⟨82, _⟩ => ⟨S16x32x48x768, .f32⟩
  | .hbm, ⟨83, _⟩ => ⟨S16x32x48x1, .f32⟩
  | .hbm, ⟨84, _⟩ => ⟨S16x32x48x768, .f32⟩
  | .hbm, ⟨85, _⟩ => ⟨S16x32x48x768, .f32⟩
  | .hbm, ⟨86, _⟩ => ⟨S_, .f32⟩
  | .hbm, ⟨87, _⟩ => ⟨S16x32x768, .f32⟩
  | .hbm, ⟨88, _⟩ => ⟨S_, .f32⟩
  | .hbm, ⟨89, _⟩ => ⟨S16x32x1, .f32⟩
  | .hbm, ⟨90, _⟩ => ⟨S_, .f32⟩
  | .hbm, ⟨91, _⟩ => ⟨S16x32x1, .f32⟩
  | .hbm, ⟨92, _⟩ => ⟨S16x32x1, .f32⟩
  | .hbm, ⟨93, _⟩ => ⟨S16x32x768, .f32⟩
  | .hbm, ⟨94, _⟩ => ⟨S16x32x768, .f32⟩
  | .hbm, ⟨95, _⟩ => ⟨S16x32x512, .f32⟩
  | .hbm, ⟨96, _⟩ => ⟨S1x1x512, .f32⟩
  | .hbm, ⟨97, _⟩ => ⟨S16x32x512, .f32⟩
  | .hbm, ⟨98, _⟩ => ⟨S16x32x512, .f32⟩
  | _, _ => ⟨S40000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Proof.Bits.Gather.lean ====
module

public import proofs.«01_k».proof.Proof.Gen.Kernel.Loops
public import Idealize.ShloMosaic.Lib.Bf16Pair
public import Idealize.ShloMosaic.Lib.Pointwise.Index
public import Idealize.ShloMosaic.Lib.Pipeline.Frame
public import Idealize.ShloMosaic.Lib.Pipeline.Value

@[expose] public section

set_option maxRecDepth 16384

noncomputable section

/-! # The row gather of the attention kernel

Each trip of the kernel's loop copies thirty-two rows of the packed table into the scratch; which
row goes where is read from the table of ids. Here: the contents the whole loop leaves. -/

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- Where scratch row `r` finds its word: row `200 j + n` holds ancestor `j` of code `n`. -/
def wordOf (r : ℕ) : ℕ := 8 * (r % 200) + r / 200

theorem wordOf_lt {r : ℕ} (h : r < 1600) : wordOf r < 1600 := by unfold wordOf; omega

/-- A row index below the bound from a word in range. -/
def rowOf (N : ℕ) (hN : 0 < N) (v : BitVec 32) : Fin N := ⟨min v.toNat (N - 1), by omega⟩

/-- The gathered scratch: row `r` is the table's row named by word `wordOf r`. -/
def gathered (x0 : Vec F S1x1x1600 .i32) (x5 : Vec F S40000x2x128 .i32) : Vec F S1600x2x128 .i32 := fun i =>
  x5 (ix3 (rowOf 40000 (by omega) (x0 (ix3 0 0 ⟨wordOf (i 0).val, wordOf_lt (i 0).isLt⟩))) (i 1) (i 2))

/-- Every word of the id table names a row. -/
abbrev WordsOk (arg1 : Memref sig .tc .smem S1x1x1600 .i32) (X : BufTy.Contents (Elt F) arg1.view.ty) : Prop :=
  ∀ (B : LoadRect S1x1x1600) (x : B.shape.Idx), ((arg1.view.readAt (Elt F) B X x : BitVec 32)).toNat < 40000

theorem rowFits {v : BitVec 32} (h : v.toNat < 40000) : k1_chk1 v := by
  intro a
  fin_cases a
  · show v.toNat + 1 ≤ 40000; omega
  all_goals exact Nat.le_refl _

/-- The copy of one row changes nothing. -/
theorem rowCopy (v : Vec F S1x2x128 .i32) : k1_pay2 v = v := by
  unfold k1_pay2
  dsimp only
  simp only [shapeCast_shapeCast, shapeCast_self]

/-- One piece: the row the word names, stored at scratch row `r`. -/
theorem rowPiece {arg1 : Memref sig .tc .smem S1x1x1600 .i32} {arg6 : Memref sig .tc .vmem S40000x2x128 .i32}
    (X1 : BufTy.Contents (Elt F) arg1.view.ty) (X6 : BufTy.Contents (Elt F) arg6.view.ty) (h : WordsOk arg1 X1)
    {r : ℕ} (o1 : Fin 3 → ℕ) (inb1 : ∀ a, o1 a + S1x1x1.size a ≤ S1x1x1600.size a)
    (o3 : Fin 3 → ℕ) [c1 : ClosedOff o1] [c3 : ClosedOff o3] (inb3 : ∀ a, o3 a + S1x2x128.size a ≤ S1600x2x128.size a)
    (h3 : c3.form = ![r, 0, 0]) (h1 : c1.form = ![0, 0, wordOf r])
    (n1 : 0 < S1x1x1.numel)
    (x : (Rect.unit (s := S1600x2x128) o3 S1x2x128.size inb3).shape.Idx) :
    k1_pay2 (arg6.view.readAt (Elt F) (Rect.unit (s := S40000x2x128)
        (k1_off2 (arg1.view.readAt (Elt F) (Rect.unit (s := S1x1x1600) o1 S1x1x1.size inb1).toLoadRect X1 (Shape.Idx.first n1)))
        S1x2x128.size (k1_off2_inb _ (rowFits (h _ _)))).toLoadRect X6) x
      = gathered (arg1.view.read (Elt F) X1) (arg6.view.read (Elt F) X6) ((Rect.unit (s := S1600x2x128) o3 S1x2x128.size inb3).emb x) := by
  obtain rfl := c1.eq.trans h1
  obtain rfl := c3.eq.trans h3
  rw [rowCopy]
  have hv := h (Rect.unit (s := S1x1x1600) ![0, 0, wordOf r] S1x1x1.size inb1).toLoadRect (Shape.Idx.first n1)
  refine congrArg (View.read (Elt F) arg6.view X6) (funext fun a => Fin.ext ?_)
  fin_cases a
  · have hx : (x 0).val = 0 := Nat.lt_one_iff.mp (x 0).isLt
    have e1 : (⟨wordOf ((Rect.unit (s := S1600x2x128) ![r, 0, 0] S1x2x128.size inb3).emb x 0).val,
        wordOf_lt ((Rect.unit (s := S1600x2x128) ![r, 0, 0] S1x2x128.size inb3).emb x 0).isLt⟩ : Fin 1600)
        = ⟨wordOf r, inb1 2⟩ := Fin.ext (congrArg wordOf (by show r + 1 * (x 0).val = r; omega))
    have e2 : (Rect.unit (s := S1x1x1600) ![0, 0, wordOf r] S1x1x1.size inb1).toLoadRect.idx (Shape.Idx.first n1)
        = ix3 0 0 ⟨wordOf r, inb1 2⟩ := by
      funext b; fin_cases b <;> rfl
    show (arg1.view.read (Elt F) X1 _ : BitVec 32).toNat + 1 * (x 0).val = min (arg1.view.read (Elt F) X1 _ : BitVec 32).toNat 39999
    rw [e1]
    have hv' : (arg1.view.read (Elt F) X1 _ : BitVec 32).toNat < 40000 := hv
    rw [e2] at hv' ⊢
    have key : ∀ w : BitVec 32, w.toNat < 40000 → w.toNat + 1 * (x 0).val = min w.toNat 39999 := by intro w hw; omega
    exact key _ hv'
  all_goals rfl

/-- A row of the scratch is inside it. -/
theorem rowIn (o3 : Fin 3 → ℕ) [c3 : ClosedOff o3] {r : ℕ} (h3 : c3.form = ![r, 0, 0]) (hr : r < 1600) :
    ∀ a, o3 a + S1x2x128.size a ≤ S1600x2x128.size a := by
  rw [c3.eq.trans h3]
  intro a; fin_cases a
  · exact hr
  all_goals exact Nat.le_refl _

/-- An index of row `r` lies in that row's piece. -/
theorem rowMem (o3 : Fin 3 → ℕ) [c3 : ClosedOff o3] (inb3 : ∀ a, o3 a + S1x2x128.size a ≤ S1600x2x128.size a)
    {r : ℕ} (h3 : c3.form = ![r, 0, 0]) (y : S1600x2x128.Idx) (hy : (y 0).val = r) :
    y ∈ (Rect.unit (s := S1600x2x128) o3 S1x2x128.size inb3).set := by
  obtain rfl := c3.eq.trans h3
  refine Rect.mem_set_unit.mpr ?_
  intro a; fin_cases a
  · show r ≤ (y 0).val ∧ (y 0).val < r + 1; omega
  · exact ⟨Nat.zero_le _, Nat.lt_of_lt_of_eq (y 1).isLt (Nat.zero_add _).symm⟩
  · exact ⟨Nat.zero_le _, Nat.lt_of_lt_of_eq (y 2).isLt (Nat.zero_add _).symm⟩

/-- Either an index is in a row's piece, or its row is another one. -/
theorem rowOr (o3 : Fin 3 → ℕ) [c3 : ClosedOff o3] (inb3 : ∀ a, o3 a + S1x2x128.size a ≤ S1600x2x128.size a)
    {r : ℕ} (h3 : c3.form = ![r, 0, 0]) (y : S1600x2x128.Idx) {Q : Prop} (hQ : (y 0).val ≠ r → Q) :
    y ∈ (Rect.unit (s := S1600x2x128) o3 S1x2x128.size inb3).set ∨ Q := by
  by_cases hy : (y 0).val = r
  · exact Or.inl (rowMem o3 inb3 h3 y hy)
  · exact Or.inr (hQ hy)

section
variable (𝒱 : Variants) (c : Dev nD) (bd : Option 𝒱.V) (i : grid1.Coords) (arg1 : Memref sig .tc .smem S1x1x1600 .i32) (harg1 : arg1.IsWhole) (arg2 : Memref sig .tc .vmem S1600x768 .bf16) (harg2 : arg2.IsWhole) (arg3 : Memref sig .tc .vmem S1600x768 .bf16) (harg3 : arg3.IsWhole) (arg4 : Memref sig .tc .vmem S1600x1 .f32) (harg4 : arg4.IsWhole) (arg5 : Memref sig .tc .vmem S768x8 .bf16) (harg5 : arg5.IsWhole) (arg6 : Memref sig .tc .vmem S40000x2x128 .i32) (harg6 : arg6.IsWhole) (arg7 : Memref sig .tc .vmem S200x4x128 .f32) (harg7 : arg7.IsWhole) (arg8 : Memref sig .tc .vmem S1600x2x128 .i32) (harg8 : arg8.IsWhole)
  (X1 : BufTy.Contents (Elt F) arg1.view.ty) (X6 : BufTy.Contents (Elt F) arg6.view.ty) (h : WordsOk arg1 X1)

/-- One trip's pieces. -/
abbrev tripPieces (k : Fin k1_t1_loop.trips) : List (View.Piece (Elt F) S1600x2x128 .i32) :=
  tripL_k1_t1 (F := F) 𝒱 c bd i arg1 harg1 arg2 harg2 arg3 harg3 arg4 harg4 arg5 harg5 arg6 harg6 arg7 harg7 arg8 harg8 X1 X6 k (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _))

set_option maxHeartbeats 800000 in
theorem trip_agrees (k : Fin k1_t1_loop.trips) : ∀ p ∈ tripPieces 𝒱 c bd i arg1 harg1 arg2 harg2 arg3 harg3 arg4 harg4 arg5 harg5 arg6 harg6 arg7 harg7 arg8 harg8 X1 X6 h k,
    ∀ x : p.1.shape.Idx, p.2 x = gathered (arg1.view.read (Elt F) X1) (arg6.view.read (Elt F) X6) (p.1.emb x) := by
  unfold tripPieces tripL_k1_t1 trip_k1_t1
  dsimp only
  intro p hp
  simp only [List.mem_cons, List.not_mem_nil, or_false] at hp
  rcases hp with hp | hp | hp | hp | hp | hp | hp | hp | hp | hp | hp | hp | hp | hp | hp | hp | hp | hp | hp | hp | hp | hp | hp | hp | hp | hp | hp | hp | hp | hp | hp | hp
  all_goals
    subst hp
    intro x
    refine rowPiece X1 X6 h _ ?_ _ ?_ rfl ?_ ?_ x
    · have hk : k.val < 50 := Nat.lt_of_lt_of_le k.isLt k1_t1_abs.2.1
      exact rowIn _ rfl (by omega)
    · refine congrArg (fun w => (![0, 0, w] : Fin 3 → ℕ)) ?_
      have hk : k.val < 50 := Nat.lt_of_lt_of_le k.isLt k1_t1_abs.2.1
      unfold wordOf; omega

theorem trip_covers (k : Fin k1_t1_loop.trips) (y : S1600x2x128.Idx) (hy : (y 0).val % 200 / 4 = k.val) :
    ∃ p ∈ tripPieces 𝒱 c bd i arg1 harg1 arg2 harg2 arg3 harg3 arg4 harg4 arg5 harg5 arg6 harg6 arg7 harg7 arg8 harg8 X1 X6 h k, y ∈ p.1.set := by
  unfold tripPieces tripL_k1_t1 trip_k1_t1
  dsimp only
  have hr : (y 0).val < 1600 := (y 0).isLt
  simp only [List.exists_mem_cons_iff, List.not_mem_nil]
  repeat (refine rowOr _ _ rfl y fun _ => ?_)
  omega

/-- The pieces of the first `n` trips. -/
abbrev loopPieces (n : ℕ) : List (View.Piece (Elt F) S1600x2x128 .i32) :=
  pb_k1_t1 (F := F) 𝒱 c bd i arg1 harg1 arg2 harg2 arg3 harg3 arg4 harg4 arg5 harg5 arg6 harg6 arg7 harg7 arg8 harg8 X1 X6 (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) n

theorem loop_succ (n : ℕ) (ht : n < k1_t1_loop.trips) : loopPieces 𝒱 c bd i arg1 harg1 arg2 harg2 arg3 harg3 arg4 harg4 arg5 harg5 arg6 harg6 arg7 harg7 arg8 harg8 X1 X6 h (n + 1)
    = tripPieces 𝒱 c bd i arg1 harg1 arg2 harg2 arg3 harg3 arg4 harg4 arg5 harg5 arg6 harg6 arg7 harg7 arg8 harg8 X1 X6 h ⟨n, ht⟩ ++ loopPieces 𝒱 c bd i arg1 harg1 arg2 harg2 arg3 harg3 arg4 harg4 arg5 harg5 arg6 harg6 arg7 harg7 arg8 harg8 X1 X6 h n
  := pb_k1_t1_succ (F := F) 𝒱 c bd i arg1 harg1 arg2 harg2 arg3 harg3 arg4 harg4 arg5 harg5 arg6 harg6 arg7 harg7 arg8 harg8 X1 X6 (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) ⟨n, ht⟩

theorem loop_agrees : ∀ n, n ≤ 50 → ∀ p ∈ loopPieces 𝒱 c bd i arg1 harg1 arg2 harg2 arg3 harg3 arg4 harg4 arg5 harg5 arg6 harg6 arg7 harg7 arg8 harg8 X1 X6 h n,
    ∀ x : p.1.shape.Idx, p.2 x = gathered (arg1.view.read (Elt F) X1) (arg6.view.read (Elt F) X6) (p.1.emb x)
  | 0, _ => fun _ hp => absurd hp List.not_mem_nil
  | n + 1, hn => by
    have ht : n < k1_t1_loop.trips := Nat.lt_of_lt_of_le hn (by decide)
    intro p hp
    have e := loop_succ 𝒱 c bd i arg1 harg1 arg2 harg2 arg3 harg3 arg4 harg4 arg5 harg5 arg6 harg6 arg7 harg7 arg8 harg8 X1 X6 h n ht
    rcases List.mem_append.mp (by rwa [e] at hp) with hp | hp
    · exact trip_agrees 𝒱 c bd i arg1 harg1 arg2 harg2 arg3 harg3 arg4 harg4 arg5 harg5 arg6 harg6 arg7 harg7 arg8 harg8 X1 X6 h ⟨n, ht⟩ p hp
    · exact loop_agrees n (by omega) p hp

theorem loop_covers (y : S1600x2x128.Idx) : ∀ n, n ≤ 50 → (y 0).val % 200 / 4 < n →
    ∃ p ∈ loopPieces 𝒱 c bd i arg1 harg1 arg2 harg2 arg3 harg3 arg4 harg4 arg5 harg5 arg6 harg6 arg7 harg7 arg8 harg8 X1 X6 h n, y ∈ p.1.set
  | 0, _, h0 => absurd h0 (Nat.not_lt_zero _)
  | n + 1, hn, hy => by
    have ht : n < k1_t1_loop.trips := Nat.lt_of_lt_of_le hn (by decide)
    have e := loop_succ 𝒱 c bd i arg1 harg1 arg2 harg2 arg3 harg3 arg4 harg4 arg5 harg5 arg6 harg6 arg7 harg7 arg8 harg8 X1 X6 h n ht
    rcases Nat.lt_or_eq_of_le (Nat.le_of_lt_succ hy) with hy | hy
    · obtain ⟨p, hp, hm⟩ := loop_covers y n (by omega) hy
      exact ⟨p, (by rw [e]; exact List.mem_append_right _ hp), hm⟩
    · obtain ⟨p, hp, hm⟩ := trip_covers 𝒱 c bd i arg1 harg1 arg2 harg2 arg3 harg3 arg4 harg4 arg5 harg5 arg6 harg6 arg7 harg7 arg8 harg8 X1 X6 h ⟨n, ht⟩ y hy
      exact ⟨p, (by rw [e]; exact List.mem_append_left _ hp), hm⟩

/-- The loop leaves the scratch at the gathered rows, whatever it held. -/
theorem loop_leaves (f : BufTy.Contents (Elt F) arg8.view.ty) :
    arg8.view.writes (Elt F) f (loopPieces 𝒱 c bd i arg1 harg1 arg2 harg2 arg3 harg3 arg4 harg4 arg5 harg5 arg6 harg6 arg7 harg7 arg8 harg8 X1 X6 h 50)
      = harg8.unread (gathered (arg1.view.read (Elt F) X1) (arg6.view.read (Elt F) X6)) :=
  harg8.eq_unread (funext fun y => View.read_writes_apply_of_pieces _ _ _ _ (loop_agrees 𝒱 c bd i arg1 harg1 arg2 harg2 arg3 harg3 arg4 harg4 arg5 harg5 arg6 harg6 arg7 harg7 arg8 harg8 X1 X6 h 50 (by omega)) y
    (loop_covers 𝒱 c bd i arg1 harg1 arg2 harg2 arg3 harg3 arg4 harg4 arg5 harg5 arg6 harg6 arg7 harg7 arg8 harg8 X1 X6 h y 50 (by omega) (by have : (y 0).val < 1600 := (y 0).isLt; omega)))
end

end Cert.Kernel.Proof

end
-- ==== Proof.Bits.Attend.lean ====
module

public import proofs.«01_k».proof.Proof.Bits.Gather
public import proofs.«01_k».proof.Proof.Bits.Project
public import proofs.«01_k».proof.Proof.Gen.Kernel.Launch
public import proofs.«01_k».proof.Proof.Gen.Kernel.Points
public import Idealize.ShloMosaic.Lib.Pipeline.FrameBody
public import Idealize.ShloMosaic.Lib.WholeRead

@[expose] public section

set_option maxRecDepth 16384

noncomputable section

/-! # What one block of the attention kernel leaves -/

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The attention weights of a block. -/
abbrev weights (x1 x2 : Vec F S1600x768 .bf16) (x3 : Vec F S1600x1 .f32) (x4 : Vec F S768x8 .bf16) : FVec F S200x8x8 .f32 :=
  k1_pay37 x1 x2 x4 x3

/-- The block's result: the gathered rows, weighted and added up. -/
def attended (x0 : Vec F S1x1x1600 .i32) (x1 x2 : Vec F S1600x768 .bf16) (x3 : Vec F S1600x1 .f32) (x4 : Vec F S768x8 .bf16)
    (x5 : Vec F S40000x2x128 .i32) : Vec F S200x4x128 .f32 :=
  let T := gathered x0 x5
  let w := weights x1 x2 x3 x4
  k1_pay1 (k1_pay39 x1 x2 x4 x3 (View.ld T (Rect.unit (s := S1600x2x128) ![0, 0, 0] S200x2x128.size inb_S1600x2x128_S200x2x128_0_0_0)))
    (k1_pay40 w (View.ld T (Rect.unit (s := S1600x2x128) ![200, 0, 0] S200x2x128.size inb_S1600x2x128_S200x2x128_200_0_0)))
    (k1_pay41 w (View.ld T (Rect.unit (s := S1600x2x128) ![400, 0, 0] S200x2x128.size inb_S1600x2x128_S200x2x128_400_0_0)))
    (k1_pay42 w (View.ld T (Rect.unit (s := S1600x2x128) ![600, 0, 0] S200x2x128.size inb_S1600x2x128_S200x2x128_600_0_0)))
    (k1_pay43 w (View.ld T (Rect.unit (s := S1600x2x128) ![800, 0, 0] S200x2x128.size inb_S1600x2x128_S200x2x128_800_0_0)))
    (k1_pay44 w (View.ld T (Rect.unit (s := S1600x2x128) ![1000, 0, 0] S200x2x128.size inb_S1600x2x128_S200x2x128_1000_0_0)))
    (k1_pay45 w (View.ld T (Rect.unit (s := S1600x2x128) ![1200, 0, 0] S200x2x128.size inb_S1600x2x128_S200x2x128_1200_0_0)))
    (k1_pay46 (View.ld T (Rect.unit (s := S1600x2x128) ![1400, 0, 0] S200x2x128.size inb_S1600x2x128_S200x2x128_1400_0_0))) (k1_pay47 w)

set_option maxHeartbeats 400000 in
/-- The kernel's body: the inputs as they were, the output at `attended`, the scratch at something. -/
theorem attend_body (c : Dev nD) (i : grid1.Coords) (arg1 : Memref sig .tc .smem S1x1x1600 .i32) (harg1 : arg1.IsWhole) (arg2 : Memref sig .tc .vmem S1600x768 .bf16) (harg2 : arg2.IsWhole) (arg3 : Memref sig .tc .vmem S1600x768 .bf16) (harg3 : arg3.IsWhole) (arg4 : Memref sig .tc .vmem S1600x1 .f32) (harg4 : arg4.IsWhole) (arg5 : Memref sig .tc .vmem S768x8 .bf16) (harg5 : arg5.IsWhole) (arg6 : Memref sig .tc .vmem S40000x2x128 .i32) (harg6 : arg6.IsWhole) (arg7 : Memref sig .tc .vmem S200x4x128 .f32) (harg7 : arg7.IsWhole) (arg8 : Memref sig .tc .vmem S1600x2x128 .i32) (harg8 : arg8.IsWhole)
    (x0 : Vec F S1x1x1600 .i32) (x1 : Vec F S1600x768 .bf16) (x2 : Vec F S1600x768 .bf16) (x3 : Vec F S1600x1 .f32) (x4 : Vec F S768x8 .bf16) (x5 : Vec F S40000x2x128 .i32)
    (h0 : ∀ j, (x0 j : BitVec 32).toNat < 40000) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (attended x0 x1 x2 x3 x4 x5) ∗ (∃ d, owns (c : Thread nD τ) arg8 fullShare d)) -∗ K ⟨⟩))
      ⊢ wp frame (wpE (defs₀ (F := F)) Variants.none c none) E (cc1__attn_kernel i arg1 harg1 arg2 harg2 arg3 harg3 arg4 harg4 arg5 harg5 arg6 harg6 arg7 harg7 arg8 harg8) K := by
  have h : WordsOk arg1 (harg1.unread x0) := fun B x => by rw [harg1.readAt_unread]; exact h0 _
  simp only [cc1__attn_kernel_eq_skeleton]; unfold cc1__attn_kernel_skel
  simp only [k1_part15_eq_skeleton, k1_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  let loop := loopInv_k1_t1 (F := F) Variants.none c none E i arg1 harg1 arg2 harg2 arg3 harg3 arg4 harg4 arg5 harg5 arg6 harg6 arg7 harg7 arg8 harg8 (harg1.unread x0) (harg6.unread x5) f7 (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _))
  sl_exec
  sl_step
  have hT : ∀ r : Rect S1600x2x128, arg8.view.readAt (Elt F) r (arg8.view.writes (Elt F) f7 (loopPieces Variants.none c none i arg1 harg1 arg2 harg2 arg3 harg3 arg4 harg4 arg5 harg5 arg6 harg6 arg7 harg7 arg8 harg8 (harg1.unread x0) (harg6.unread x5) h 50)) = View.ld (gathered x0 x5) r := fun r => by
    rw [loop_leaves, harg1.read_unread, harg6.read_unread]
    funext x
    exact harg8.readAt_unread _ r.toLoadRect x
  have w1 : arg2.view.readAt (Elt F) (Rect.unit (s := S1600x768) ![0, 0] S1600x768.size inb_S1600x768_S1600x768_0_0).toLoadRect (harg2.unread x1) = x1 := wholeLoad2 harg2 _ _ x1
  have w2 : arg3.view.readAt (Elt F) (Rect.unit (s := S1600x768) ![0, 0] S1600x768.size inb_S1600x768_S1600x768_0_0).toLoadRect (harg3.unread x2) = x2 := wholeLoad2 harg3 _ _ x2
  have w3 : arg4.view.readAt (Elt F) (Rect.unit (s := S1600x1) ![0, 0] S1600x1.size inb_S1600x1_S1600x1_0_0).toLoadRect (harg4.unread x3) = x3 := wholeLoad2 harg4 _ _ x3
  have w4 : arg5.view.readAt (Elt F) (Rect.unit (s := S768x8) ![0, 0] S768x8.size inb_S768x8_S768x8_0_0).toLoadRect (harg5.unread x4) = x4 := wholeLoad2 harg5 _ _ x4
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    have e8 : ∀ off hoff, arg8.view.readAt (Elt F) (Rect.unit (s := S1600x2x128) off S200x2x128.size hoff).toLoadRect (arg8.view.writes (Elt F) f7 (pb_k1_t1 Variants.none c none i arg1 harg1 arg2 harg2 arg3 harg3 arg4 harg4 arg5 harg5 arg6 harg6 arg7 harg7 arg8 harg8 (harg1.unread x0) (harg6.unread x5) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (Scf.trips k1_t1_loop.lb k1_t1_loop.ub k1_t1_loop.st))) = View.ld (gathered x0 x5) (Rect.unit (s := S1600x2x128) off S200x2x128.size hoff) := fun off hoff => hT _
    rw [View.read_writes_eq_canon arg7.view f6 _ (fun y => ⟨_, List.mem_singleton_self _, by
      rw [Rect.mem_set_unit]; intro k; fin_cases k <;> exact ⟨Nat.zero_le _, (y _).isLt⟩⟩)]
    refine (View.canon_unit_zero (S := S200x4x128) (by funext k; fin_cases k <;> rfl) _ _).trans ?_
    unfold attend_body.sl.r_9 attend_body.sl.r_8 attend_body.sl.r_7 attend_body.sl.r_6 attend_body.sl.r_5 attend_body.sl.r_4 attend_body.sl.r_3 attend_body.sl.r_2 attend_body.sl.r_1
    unfold attend_body.sl.r attend_body.sl.v30 attend_body.sl.v36 attend_body.sl.v42 attend_body.sl.v48 attend_body.sl.v54 attend_body.sl.v60 attend_body.sl.v66 attend_body.sl.v72
    simp only [e8, w1, w2, w3, w4]
    unfold attended
    rfl
  iexists _; iexists _; isplitr; swap; · iexact H7
  ipureintro; rfl

end Cert.Kernel.Proof

end
-- ==== Proof.Domain.lean ====
/-
  What the two preconditions say of an index: the words' bounds, and for the second that every float argument it names
  is a real number and the largest of every code's masks is one.
-/
module

public import proofs.«01_k».proof.Proof.Gen.Pre_in_range
public import proofs.«01_k».proof.Proof.Gen.Pre_proper
public import Idealize.ShloMosaic.Lib.ReduceAll
public import Idealize.ShloMosaic.Lib.WordCmp
public import Idealize.ShloMosaic.Lib.Affine
public import Idealize.ShloMosaic.Lib.StableHlo
public import Idealize.ShloMosaic.Lib.IdealHost

@[expose] public section

noncomputable section

namespace Cert.Domain

open Idealize.ShloMosaic

/-- The shape of one number has one index. -/
instance : Subsingleton (⟨0, ![]⟩ : Shape).Idx := ⟨fun a b => funext fun k => k.elim0⟩

/-- A word between zero and a small bound, by its natural number. -/
theorem word_lt {x : BitVec 32} {n : ℕ} (hn : n < 2 ^ 31) (e : IntOp.andi (IntOp.cmpi .sge x 0#32) (IntOp.cmpi .slt x (BitVec.ofNat 32 n)) = 1#1) : x.toNat < n := by
  rw [WordCmp.andi_sge_zero_slt_ofNat hn] at e
  by_contra h
  rw [decide_eq_false h] at e
  exact absurd e (by decide)

theorem word_le {x : BitVec 32} (e : IntOp.andi (IntOp.cmpi .sge x 0#32) (IntOp.cmpi .sle x 10000#32) = 1#1) : x.toNat ≤ 10000 := by
  obtain ⟨h0, h1⟩ := IntOp.andi_eq_one.mp e
  have a := IntOp.cmpi_sge.mp h0
  have b := IntOp.cmpi_sle.mp h1
  rw [show (0#32 : BitVec 32).toInt = 0 from by decide] at a
  rw [show (10000#32 : BitVec 32).toInt = 10000 from by decide] at b
  have := BitVec.toInt_eq_toNat_cond x
  have := x.isLt
  split at * <;> omega

theorem ofBool_true {b : Bool} (h : BitVec.ofBool b = 1#1) : b = true := by revert h; cases b <;> decide

section
variable {F : FTy → Type} [FloatOps F] [Pre_in_range.Facts]
open Cert.Pre_in_range

/-- The first precondition bounds the words. -/
theorem in_range_words (x0 : FVec F S40000x768 .f32) (x1 : FVec F S1536x768 .f32) (x2 : FVec F S768 .f32) (x3 : FVec F S768x1 .f32) (x4 : FVec F S1 .f32)
    (x5 : FVec F S768x512 .f32) (x6 : FVec F S512 .f32) (x7 : FVec F S10000x8 .f32) (x8 : FVec F S16x32x48 .f32) (x9 x10 : IVec S10000x8 32) (x11 : IVec S16x32x48 32)
    (h : Pre_in_range.fn x0 x1 x2 x3 x4 x5 x6 x7 x8 x9 x10 x11 = fun _ => 1#1) : (∀ i, (x10 i).toNat < 40000) ∧ ∀ i, (x11 i).toNat ≤ 10000 := by
  have e := congrFun h (fun k => k.elim0)
  dsimp only [fn] at e
  obtain ⟨e10, e11⟩ := IntOp.andi_eq_one.mp e
  exact ⟨fun i => word_lt (by decide) (Host.reduce_andi_all _ _ _ _ _ e10 i), fun i => word_le (Host.reduce_andi_all _ _ _ _ _ e11 i)⟩
end

section
variable [Pre_proper.Facts]
open Cert.Pre_proper

/-- An extended real whose absolute value is below the infinity is a real number. -/
theorem real_of_lt {x : EReal} (e : FloatOps.cmpf (F := Ideal) (φ := .f32) .olt (FloatOps.absf (F := Ideal) (φ := .f32) x) (FloatOps.ofBits (F := Ideal) .f32 0x7F800000#32) = 1#1) :
    ∃ r : ℝ, x = r := by
  have h : max x (-x) < Ideal.ofBits .f32 0x7F800000#32 := of_decide_eq_true (ofBool_true e)
  rw [show Ideal.ofBits .f32 0x7F800000#32 = ⊤ from by simp [Ideal.ofBits, Ideal.ieee]] at h
  induction x using EReal.rec with
  | bot => exact absurd h (by simp)
  | top => exact absurd h (by simp)
  | coe r => exact ⟨r, rfl⟩

/-- A value that compares equal to the literal one is one. -/
theorem one_of_eq {x : EReal} (e : FloatOps.cmpf (F := Ideal) (φ := .f32) .oeq x (FloatOps.ofBits (F := Ideal) .f32 0x3F800000#32) = 1#1) : x = 1 := by
  have h : x = Ideal.ofBits .f32 0x3F800000#32 := of_decide_eq_true (ofBool_true e)
  rwa [Ideal.ofBits_one_f32] at h

/-- What the second precondition says of the arguments over the extended reals. -/
structure Proper (x0 : FVec Ideal S40000x768 .f32) (x1 : FVec Ideal S1536x768 .f32) (x2 : FVec Ideal S768 .f32) (x3 : FVec Ideal S768x1 .f32) (x4 : FVec Ideal S1 .f32)
    (x5 : FVec Ideal S768x512 .f32) (x7 : FVec Ideal S10000x8 .f32) (x8 : FVec Ideal S16x32x48 .f32) (x10 : IVec S10000x8 32) (x11 : IVec S16x32x48 32) : Prop where
  anc : ∀ i, (x10 i).toNat < 40000
  ids : ∀ i, (x11 i).toNat ≤ 10000
  table : ∀ i, ∃ r : ℝ, x0 i = (r : EReal)
  w1 : ∀ i, ∃ r : ℝ, x1 i = (r : EReal)
  b1 : ∀ i, ∃ r : ℝ, x2 i = (r : EReal)
  w2 : ∀ i, ∃ r : ℝ, x3 i = (r : EReal)
  b2 : ∀ i, ∃ r : ℝ, x4 i = (r : EReal)
  wc : ∀ i, ∃ r : ℝ, x5 i = (r : EReal)
  code : ∀ i, ∃ r : ℝ, x8 i = (r : EReal)
  mask_top : ∀ i : S10000.Idx, (Host.reduce FloatOps.maximumf x7 (constant S_ .f32 0xFF800000#32) Facts.reducesTo_S10000x8_S10000_d1 Facts.h_S_ : FVec Ideal S10000 .f32) i = (1 : EReal)

theorem proper_facts (x0 : FVec Ideal S40000x768 .f32) (x1 : FVec Ideal S1536x768 .f32) (x2 : FVec Ideal S768 .f32) (x3 : FVec Ideal S768x1 .f32) (x4 : FVec Ideal S1 .f32)
    (x5 : FVec Ideal S768x512 .f32) (x6 : FVec Ideal S512 .f32) (x7 : FVec Ideal S10000x8 .f32) (x8 : FVec Ideal S16x32x48 .f32) (x9 x10 : IVec S10000x8 32) (x11 : IVec S16x32x48 32)
    (h : Pre_proper.fn (F := Ideal) x0 x1 x2 x3 x4 x5 x6 x7 x8 x9 x10 x11 = fun _ => 1#1) : Proper x0 x1 x2 x3 x4 x5 x7 x8 x10 x11 := by
  have e := congrFun h (fun k => k.elim0)
  dsimp only [fn, fn_part1, fn_part2, fn_part3] at e
  obtain ⟨e, hm⟩ := IntOp.andi_eq_one.mp e
  obtain ⟨e, hc⟩ := IntOp.andi_eq_one.mp e
  obtain ⟨e, hwc⟩ := IntOp.andi_eq_one.mp e
  obtain ⟨e, hb2⟩ := IntOp.andi_eq_one.mp e
  obtain ⟨e, hw2⟩ := IntOp.andi_eq_one.mp e
  obtain ⟨e, hb1⟩ := IntOp.andi_eq_one.mp e
  obtain ⟨e, hw1⟩ := IntOp.andi_eq_one.mp e
  obtain ⟨e, ht⟩ := IntOp.andi_eq_one.mp e
  obtain ⟨e10, e11⟩ := IntOp.andi_eq_one.mp e
  refine ⟨fun i => word_lt (by decide) (Host.reduce_andi_all _ _ _ _ _ e10 i), fun i => word_le (Host.reduce_andi_all _ _ _ _ _ e11 i),
    fun i => real_of_lt (Host.reduce_andi_all _ _ _ _ _ ht i), fun i => real_of_lt (Host.reduce_andi_all _ _ _ _ _ hw1 i),
    fun i => real_of_lt (Host.reduce_andi_all _ _ _ _ _ hb1 i), fun i => real_of_lt (Host.reduce_andi_all _ _ _ _ _ hw2 i),
    fun i => real_of_lt (Host.reduce_andi_all _ _ _ _ _ hb2 i), fun i => real_of_lt (Host.reduce_andi_all _ _ _ _ _ hwc i),
    fun i => real_of_lt (Host.reduce_andi_all _ _ _ _ _ hc i), fun i => one_of_eq (Host.reduce_andi_all _ _ _ _ _ hm i)⟩
end

end Cert.Domain

end
-- ==== Proof.Ideal.Gather.lean ====
module

public import proofs.«01_k».proof.Proof.Gen.KernelIdeal.Loops
public import Idealize.ShloMosaic.Lib.Bf16Pair
public import Idealize.ShloMosaic.Lib.Pointwise.Index
public import Idealize.ShloMosaic.Lib.Pipeline.Frame
public import Idealize.ShloMosaic.Lib.Pipeline.Value

@[expose] public section

set_option maxRecDepth 16384

noncomputable section

/-! # The row gather of the attention kernel

Each trip of the kernel's loop copies thirty-two rows of the packed table into the scratch; which
row goes where is read from the table of ids. Here: the contents the whole loop leaves. -/

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Where scratch row `r` finds its word: row `200 j + n` holds ancestor `j` of code `n`. -/
def wordOf (r : ℕ) : ℕ := 8 * (r % 200) + r / 200

theorem wordOf_lt {r : ℕ} (h : r < 1600) : wordOf r < 1600 := by unfold wordOf; omega

/-- A row index below the bound from a word in range. -/
def rowOf (N : ℕ) (hN : 0 < N) (v : BitVec 32) : Fin N := ⟨min v.toNat (N - 1), by omega⟩

/-- The gathered scratch: row `r` is the table's row named by word `wordOf r`. -/
def gathered (x0 : Vec F S1x1x1600 .i32) (x5 : Vec F S40000x2x2x128 .bf16) : Vec F S1600x2x2x128 .bf16 := fun i =>
  x5 (ix4 (rowOf 40000 (by omega) (x0 (ix3 0 0 ⟨wordOf (i 0).val, wordOf_lt (i 0).isLt⟩))) (i 1) (i 2) (i 3))

/-- Every word of the id table names a row. -/
abbrev WordsOk (arg1 : Memref sig .tc .smem S1x1x1600 .i32) (X : BufTy.Contents (Elt F) arg1.view.ty) : Prop :=
  ∀ (B : LoadRect S1x1x1600) (x : B.shape.Idx), ((arg1.view.readAt (Elt F) B X x : BitVec 32)).toNat < 40000

theorem rowFits {v : BitVec 32} (h : v.toNat < 40000) : k1_chk1 v := by
  intro a
  fin_cases a
  · show v.toNat + 1 ≤ 40000; omega
  all_goals exact Nat.le_refl _

/-- The copy of one row changes nothing: its halves are taken apart and put together again. -/
theorem rowCopy (v : Vec F S1x2x2x128 .bf16) : k1_pay2 v = v := by
  unfold k1_pay2
  dsimp only
  simp only [shapeCast_shapeCast, shapeCast_self]
  exact interleaveRows_rowsOfParity _ _

/-- One piece: the row the word names, stored at scratch row `r`. -/
theorem rowPiece {arg1 : Memref sig .tc .smem S1x1x1600 .i32} {arg6 : Memref sig .tc .vmem S40000x2x2x128 .bf16}
    (X1 : BufTy.Contents (Elt F) arg1.view.ty) (X6 : BufTy.Contents (Elt F) arg6.view.ty) (h : WordsOk arg1 X1)
    {r : ℕ} (o1 : Fin 3 → ℕ) (inb1 : ∀ a, o1 a + S1x1x1.size a ≤ S1x1x1600.size a)
    (o3 : Fin 4 → ℕ) [c1 : ClosedOff o1] [c3 : ClosedOff o3] (inb3 : ∀ a, o3 a + S1x2x2x128.size a ≤ S1600x2x2x128.size a)
    (h3 : c3.form = ![r, 0, 0, 0]) (h1 : c1.form = ![0, 0, wordOf r])
    (n1 : 0 < S1x1x1.numel)
    (x : (Rect.unit (s := S1600x2x2x128) o3 S1x2x2x128.size inb3).shape.Idx) :
    k1_pay2 (arg6.view.readAt (Elt F) (Rect.unit (s := S40000x2x2x128)
        (k1_off2 (arg1.view.readAt (Elt F) (Rect.unit (s := S1x1x1600) o1 S1x1x1.size inb1).toLoadRect X1 (Shape.Idx.first n1)))
        S1x2x2x128.size (k1_off2_inb _ (rowFits (h _ _)))).toLoadRect X6) x
      = gathered (arg1.view.read (Elt F) X1) (arg6.view.read (Elt F) X6) ((Rect.unit (s := S1600x2x2x128) o3 S1x2x2x128.size inb3).emb x) := by
  obtain rfl := c1.eq.trans h1
  obtain rfl := c3.eq.trans h3
  rw [rowCopy]
  have hv := h (Rect.unit (s := S1x1x1600) ![0, 0, wordOf r] S1x1x1.size inb1).toLoadRect (Shape.Idx.first n1)
  refine congrArg (View.read (Elt F) arg6.view X6) (funext fun a => Fin.ext ?_)
  fin_cases a
  · have hx : (x 0).val = 0 := Nat.lt_one_iff.mp (x 0).isLt
    have e1 : (⟨wordOf ((Rect.unit (s := S1600x2x2x128) ![r, 0, 0, 0] S1x2x2x128.size inb3).emb x 0).val,
        wordOf_lt ((Rect.unit (s := S1600x2x2x128) ![r, 0, 0, 0] S1x2x2x128.size inb3).emb x 0).isLt⟩ : Fin 1600)
        = ⟨wordOf r, inb1 2⟩ := Fin.ext (congrArg wordOf (by show r + 1 * (x 0).val = r; omega))
    have e2 : (Rect.unit (s := S1x1x1600) ![0, 0, wordOf r] S1x1x1.size inb1).toLoadRect.idx (Shape.Idx.first n1)
        = ix3 0 0 ⟨wordOf r, inb1 2⟩ := by
      funext b; fin_cases b <;> rfl
    show (arg1.view.read (Elt F) X1 _ : BitVec 32).toNat + 1 * (x 0).val = min (arg1.view.read (Elt F) X1 _ : BitVec 32).toNat 39999
    rw [e1]
    have hv' : (arg1.view.read (Elt F) X1 _ : BitVec 32).toNat < 40000 := hv
    rw [e2] at hv' ⊢
    have key : ∀ w : BitVec 32, w.toNat < 40000 → w.toNat + 1 * (x 0).val = min w.toNat 39999 := by intro w hw; omega
    exact key _ hv'
  all_goals rfl

/-- A row of the scratch is inside it. -/
theorem rowIn (o3 : Fin 4 → ℕ) [c3 : ClosedOff o3] {r : ℕ} (h3 : c3.form = ![r, 0, 0, 0]) (hr : r < 1600) :
    ∀ a, o3 a + S1x2x2x128.size a ≤ S1600x2x2x128.size a := by
  rw [c3.eq.trans h3]
  intro a; fin_cases a
  · exact hr
  all_goals exact Nat.le_refl _

/-- An index of row `r` lies in that row's piece. -/
theorem rowMem (o3 : Fin 4 → ℕ) [c3 : ClosedOff o3] (inb3 : ∀ a, o3 a + S1x2x2x128.size a ≤ S1600x2x2x128.size a)
    {r : ℕ} (h3 : c3.form = ![r, 0, 0, 0]) (y : S1600x2x2x128.Idx) (hy : (y 0).val = r) :
    y ∈ (Rect.unit (s := S1600x2x2x128) o3 S1x2x2x128.size inb3).set := by
  obtain rfl := c3.eq.trans h3
  refine Rect.mem_set_unit.mpr ?_
  intro a; fin_cases a
  · show r ≤ (y 0).val ∧ (y 0).val < r + 1; omega
  · exact ⟨Nat.zero_le _, Nat.lt_of_lt_of_eq (y 1).isLt (Nat.zero_add _).symm⟩
  · exact ⟨Nat.zero_le _, Nat.lt_of_lt_of_eq (y 2).isLt (Nat.zero_add _).symm⟩
  · exact ⟨Nat.zero_le _, Nat.lt_of_lt_of_eq (y 3).isLt (Nat.zero_add _).symm⟩

/-- Either an index is in a row's piece, or its row is another one. -/
theorem rowOr (o3 : Fin 4 → ℕ) [c3 : ClosedOff o3] (inb3 : ∀ a, o3 a + S1x2x2x128.size a ≤ S1600x2x2x128.size a)
    {r : ℕ} (h3 : c3.form = ![r, 0, 0, 0]) (y : S1600x2x2x128.Idx) {Q : Prop} (hQ : (y 0).val ≠ r → Q) :
    y ∈ (Rect.unit (s := S1600x2x2x128) o3 S1x2x2x128.size inb3).set ∨ Q := by
  by_cases hy : (y 0).val = r
  · exact Or.inl (rowMem o3 inb3 h3 y hy)
  · exact Or.inr (hQ hy)

section
variable (𝒱 : Variants) (c : Dev nD) (bd : Option 𝒱.V) (i : grid1.Coords) (arg1 : Memref sig .tc .smem S1x1x1600 .i32) (harg1 : arg1.IsWhole) (arg2 : Memref sig .tc .vmem S1600x768 .bf16) (harg2 : arg2.IsWhole) (arg3 : Memref sig .tc .vmem S1600x768 .bf16) (harg3 : arg3.IsWhole) (arg4 : Memref sig .tc .vmem S1600x1 .f32) (harg4 : arg4.IsWhole) (arg5 : Memref sig .tc .vmem S768x8 .bf16) (harg5 : arg5.IsWhole) (arg6 : Memref sig .tc .vmem S40000x2x2x128 .bf16) (harg6 : arg6.IsWhole) (arg7 : Memref sig .tc .vmem S200x4x128 .f32) (harg7 : arg7.IsWhole) (arg8 : Memref sig .tc .vmem S1600x2x2x128 .bf16) (harg8 : arg8.IsWhole)
  (X1 : BufTy.Contents (Elt F) arg1.view.ty) (X6 : BufTy.Contents (Elt F) arg6.view.ty) (h : WordsOk arg1 X1)

/-- One trip's pieces. -/
abbrev tripPieces (k : Fin k1_t1_loop.trips) : List (View.Piece (Elt F) S1600x2x2x128 .bf16) :=
  tripL_k1_t1 (F := F) 𝒱 c bd i arg1 harg1 arg2 harg2 arg3 harg3 arg4 harg4 arg5 harg5 arg6 harg6 arg7 harg7 arg8 harg8 X1 X6 k (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _)) (rowFits (h _ _))

theorem trip_agrees (k : Fin k1_t1_loop.trips) : ∀ p ∈ tripPieces 𝒱 c bd i arg1 harg1 arg2 harg2 arg3 harg3 arg4 harg4 arg5 harg5 arg6 harg6 arg7 harg7 arg8 harg8 X1 X6 h k,
    ∀ x : p.1.shape.Idx, p.2 x = gathered (arg1.view.read (Elt F) X1) (arg6.view.read (Elt F) X6) (p.1.emb x) := by
  unfold tripPieces tripL_k1_t1 trip_k1_t1
  dsimp only
  intro p hp
  simp only [List.mem_cons, List.not_mem_nil, or_false] at hp
  rcases hp with hp | hp | hp | hp | hp | hp | hp | hp | hp | hp | hp | hp | hp | hp | hp | hp | hp | hp | hp | hp | hp | hp | hp | hp | hp | hp | hp | hp | hp | hp | hp | hp
  all_goals
    subst hp
    intro x
    refine rowPiece X1 X6 h _ ?_ _ ?_ rfl ?_ ?_ x
    · have hk : k.val < 50 := Nat.lt_of_lt_of_le k.isLt k1_t1_abs.2.1
      exact rowIn _ rfl (by omega)
    · refine congrArg (fun w => (![0, 0, w] : Fin 3 → ℕ)) ?_
      have hk : k.val < 50 := Nat.lt_of_lt_of_le k.isLt k1_t1_abs.2.1
      unfold wordOf; omega

theorem trip_covers (k : Fin k1_t1_loop.trips) (y : S1600x2x2x128.Idx) (hy : (y 0).val % 200 / 4 = k.val) :
    ∃ p ∈ tripPieces 𝒱 c bd i arg1 harg1 arg2 harg2 arg3 harg3 arg4 harg4 arg5 harg5 arg6 harg6 arg7 harg7 arg8 harg8 X1 X6 h k, y ∈ p.1.set := by
  unfold tripPieces tripL_k1_t1 trip_k1_t1
  dsimp only
  have hr : (y 0).val < 1600 := (y 0).isLt
  simp only [List.exists_mem_cons_iff, List.not_mem_nil]
  repeat (refine rowOr _ _ rfl y fun _ => ?_)
  omega

/-- The pieces of the first `n` trips. -/
abbrev loopPieces (n : ℕ) : List (View.Piece (Elt F) S1600x2x2x128 .bf16) :=
  pb_k1_t1 (F := F) 𝒱 c bd i arg1 harg1 arg2 harg2 arg3 harg3 arg4 harg4 arg5 harg5 arg6 harg6 arg7 harg7 arg8 harg8 X1 X6 (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) n

theorem loop_succ (n : ℕ) (ht : n < k1_t1_loop.trips) : loopPieces 𝒱 c bd i arg1 harg1 arg2 harg2 arg3 harg3 arg4 harg4 arg5 harg5 arg6 harg6 arg7 harg7 arg8 harg8 X1 X6 h (n + 1)
    = tripPieces 𝒱 c bd i arg1 harg1 arg2 harg2 arg3 harg3 arg4 harg4 arg5 harg5 arg6 harg6 arg7 harg7 arg8 harg8 X1 X6 h ⟨n, ht⟩ ++ loopPieces 𝒱 c bd i arg1 harg1 arg2 harg2 arg3 harg3 arg4 harg4 arg5 harg5 arg6 harg6 arg7 harg7 arg8 harg8 X1 X6 h n
  := pb_k1_t1_succ (F := F) 𝒱 c bd i arg1 harg1 arg2 harg2 arg3 harg3 arg4 harg4 arg5 harg5 arg6 harg6 arg7 harg7 arg8 harg8 X1 X6 (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) ⟨n, ht⟩

theorem loop_agrees : ∀ n, n ≤ 50 → ∀ p ∈ loopPieces 𝒱 c bd i arg1 harg1 arg2 harg2 arg3 harg3 arg4 harg4 arg5 harg5 arg6 harg6 arg7 harg7 arg8 harg8 X1 X6 h n,
    ∀ x : p.1.shape.Idx, p.2 x = gathered (arg1.view.read (Elt F) X1) (arg6.view.read (Elt F) X6) (p.1.emb x)
  | 0, _ => fun _ hp => absurd hp List.not_mem_nil
  | n + 1, hn => by
    have ht : n < k1_t1_loop.trips := Nat.lt_of_lt_of_le hn (by decide)
    intro p hp
    have e := loop_succ 𝒱 c bd i arg1 harg1 arg2 harg2 arg3 harg3 arg4 harg4 arg5 harg5 arg6 harg6 arg7 harg7 arg8 harg8 X1 X6 h n ht
    rcases List.mem_append.mp (by rwa [e] at hp) with hp | hp
    · exact trip_agrees 𝒱 c bd i arg1 harg1 arg2 harg2 arg3 harg3 arg4 harg4 arg5 harg5 arg6 harg6 arg7 harg7 arg8 harg8 X1 X6 h ⟨n, ht⟩ p hp
    · exact loop_agrees n (by omega) p hp

theorem loop_covers (y : S1600x2x2x128.Idx) : ∀ n, n ≤ 50 → (y 0).val % 200 / 4 < n →
    ∃ p ∈ loopPieces 𝒱 c bd i arg1 harg1 arg2 harg2 arg3 harg3 arg4 harg4 arg5 harg5 arg6 harg6 arg7 harg7 arg8 harg8 X1 X6 h n, y ∈ p.1.set
  | 0, _, h0 => absurd h0 (Nat.not_lt_zero _)
  | n + 1, hn, hy => by
    have ht : n < k1_t1_loop.trips := Nat.lt_of_lt_of_le hn (by decide)
    have e := loop_succ 𝒱 c bd i arg1 harg1 arg2 harg2 arg3 harg3 arg4 harg4 arg5 harg5 arg6 harg6 arg7 harg7 arg8 harg8 X1 X6 h n ht
    rcases Nat.lt_or_eq_of_le (Nat.le_of_lt_succ hy) with hy | hy
    · obtain ⟨p, hp, hm⟩ := loop_covers y n (by omega) hy
      exact ⟨p, (by rw [e]; exact List.mem_append_right _ hp), hm⟩
    · obtain ⟨p, hp, hm⟩ := trip_covers 𝒱 c bd i arg1 harg1 arg2 harg2 arg3 harg3 arg4 harg4 arg5 harg5 arg6 harg6 arg7 harg7 arg8 harg8 X1 X6 h ⟨n, ht⟩ y hy
      exact ⟨p, (by rw [e]; exact List.mem_append_left _ hp), hm⟩

/-- The loop leaves the scratch at the gathered rows, whatever it held. -/
theorem loop_leaves (f : BufTy.Contents (Elt F) arg8.view.ty) :
    arg8.view.writes (Elt F) f (loopPieces 𝒱 c bd i arg1 harg1 arg2 harg2 arg3 harg3 arg4 harg4 arg5 harg5 arg6 harg6 arg7 harg7 arg8 harg8 X1 X6 h 50)
      = harg8.unread (gathered (arg1.view.read (Elt F) X1) (arg6.view.read (Elt F) X6)) :=
  harg8.eq_unread (funext fun y => View.read_writes_apply_of_pieces _ _ _ _ (loop_agrees 𝒱 c bd i arg1 harg1 arg2 harg2 arg3 harg3 arg4 harg4 arg5 harg5 arg6 harg6 arg7 harg7 arg8 harg8 X1 X6 h 50 (by omega)) y
    (loop_covers 𝒱 c bd i arg1 harg1 arg2 harg2 arg3 harg3 arg4 harg4 arg5 harg5 arg6 harg6 arg7 harg7 arg8 harg8 X1 X6 h y 50 (by omega) (by have : (y 0).val < 1600 := (y 0).isLt; omega)))
end

end Cert.KernelIdeal.Proof

end
-- ==== Proof.Ideal.Project.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.WholeRead
public import Idealize.ShloMosaic.Lib.Pipeline.Value

@[expose] public section

set_option maxRecDepth 16384

noncomputable section

/-! # What one block of the projection kernel leaves -/

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A load of a whole matrix buffer reads its contents. -/
theorem wholeLoad2 {κ : Kind} {sp : Space} {N M : ℕ} {e : EltTy} {m : Memref sig κ sp ⟨2, ![N, M]⟩ e} (h : m.IsWhole) (off : Fin 2 → ℕ)
    (hoff : ∀ a, off a + (![N, M] : Fin 2 → ℕ) a ≤ (![N, M] : Fin 2 → ℕ) a) (X : (⟨2, ![N, M]⟩ : Shape).Idx → Elt F e) :
    m.view.readAt (Elt F) (Rect.unit (s := ⟨2, ![N, M]⟩) off ![N, M] hoff).toLoadRect (h.unread X) = X := by
  funext x
  refine (h.readAt_unread X _ x).trans (congrArg X ?_)
  funext a
  refine Fin.ext ?_
  have := hoff a
  show off a + 1 * (x a).val = (x a).val
  omega

/-- A store over a whole buffer leaves what was stored. -/
theorem wholeStore {κ : Kind} {sp : Space} {s : Shape} {e : EltTy} (v : View sig κ sp s e) (f : v.ty.Contents (Elt F)) (w : s.Idx → Elt F e)
    (off : Fin s.rank → ℕ) (ho : off = fun _ => 0) (inb : ∀ a, off a + s.size a ≤ s.size a) :
    v.read (Elt F) (v.writes (Elt F) f [(⟨Rect.unit off s.size inb, w⟩ : View.Piece (Elt F) s e)]) = w := by
  subst ho
  rw [View.read_writes_eq_canon v f _ (fun y => ⟨_, List.mem_singleton_self _, by
    rw [Rect.mem_set_unit]; exact fun k => ⟨Nat.zero_le _, Nat.lt_of_lt_of_eq (y k).isLt (Nat.zero_add _).symm⟩⟩)]
  exact View.canon_unit_zero (S := s) rfl inb w

/-- The kernel's body: the inputs as they were, the outputs at the three payloads. -/
theorem project_body (c : Dev nD) (i : grid0.Coords) (arg1 : Memref sig .tc .vmem S1000x768 .f32) (harg1 : arg1.IsWhole) (arg2 : Memref sig .tc .vmem S768x2048 .bf16) (harg2 : arg2.IsWhole) (arg3 : Memref sig .tc .vmem S1x2048 .f32) (harg3 : arg3.IsWhole) (arg4 : Memref sig .tc .vmem S1000x768 .bf16) (harg4 : arg4.IsWhole) (arg5 : Memref sig .tc .vmem S1000x768 .bf16) (harg5 : arg5.IsWhole) (arg6 : Memref sig .tc .vmem S1000x2x2x128 .bf16) (harg6 : arg6.IsWhole)
    (x0 : Vec F S1000x768 .f32) (x1 : Vec F S768x2048 .bf16) (x2 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x1 x2) ∗ owns (c : Thread nD τ) arg5 fullShare (k0_pay3 x0 x1 x2) ∗ owns (c : Thread nD τ) arg6 fullShare (k0_pay4 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec
  sl_step
  have w0 : arg1.view.readAt (Elt F) (Rect.unit (s := S1000x768) ![0, 0] S1000x768.size inb_S1000x768_S1000x768_0_0).toLoadRect (harg1.unread x0) = x0 := wholeLoad2 harg1 _ _ x0
  have w1 : arg2.view.readAt (Elt F) (Rect.unit (s := S768x2048) ![0, 0] S768x2048.size inb_S768x2048_S768x2048_0_0).toLoadRect (harg2.unread x1) = x1 := wholeLoad2 harg2 _ _ x1
  have w2 : arg3.view.readAt (Elt F) (Rect.unit (s := S1x2048) ![0, 0] S1x2048.size inb_S1x2048_S1x2048_0_0).toLoadRect (harg3.unread x2) = x2 := wholeLoad2 harg3 _ _ x2
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine (wholeStore arg4.view f3 _ ![0, 0] (by funext a; fin_cases a <;> rfl) _).trans ?_
    sl_unfold_run_names
    rw [w0, w1, w2]
  isplitl [H4]
  · iexists _; isplitr; swap; · iexact H4
    ipureintro
    refine (wholeStore arg5.view f4 _ ![0, 0] (by funext a; fin_cases a <;> rfl) _).trans ?_
    sl_unfold_run_names
    rw [w0, w1, w2]
  iexists _; isplitr; swap; · iexact H5
  ipureintro
  refine (wholeStore arg6.view f5 _ ![0, 0, 0, 0] (by funext a; fin_cases a <;> rfl) _).trans ?_
  sl_unfold_run_names
  rw [w0, w1, w2]

end Cert.KernelIdeal.Proof

end
-- ==== Proof.Ideal.Attend.lean ====
module

public import proofs.«01_k».proof.Proof.Ideal.Gather
public import proofs.«01_k».proof.Proof.Ideal.Project
public import proofs.«01_k».proof.Proof.Gen.KernelIdeal.Launch
public import proofs.«01_k».proof.Proof.Gen.KernelIdeal.Points
public import Idealize.ShloMosaic.Lib.Pipeline.FrameBody
public import Idealize.ShloMosaic.Lib.WholeRead

@[expose] public section

set_option maxRecDepth 16384

noncomputable section

/-! # What one block of the attention kernel leaves -/

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The attention weights of a block. -/
abbrev weights (x1 x2 : Vec F S1600x768 .bf16) (x3 : Vec F S1600x1 .f32) (x4 : Vec F S768x8 .bf16) : FVec F S200x8x8 .f32 :=
  k1_pay54 x1 x2 x4 x3

/-- The block's result: the gathered rows, weighted and added up. -/
def attended (x0 : Vec F S1x1x1600 .i32) (x1 x2 : Vec F S1600x768 .bf16) (x3 : Vec F S1600x1 .f32) (x4 : Vec F S768x8 .bf16)
    (x5 : Vec F S40000x2x2x128 .bf16) : Vec F S200x4x128 .f32 :=
  let T := gathered x0 x5
  let w := weights x1 x2 x3 x4
  k1_pay1 w
    (k1_pay57 (k1_pay55 (View.ld T (Rect.unit (s := S1600x2x2x128) ![0, 0, 0, 0] S200x2x2x128.size inb_S1600x2x2x128_S200x2x2x128_0_0_0_0))) (k1_pay56 x1 x2 x4 x3))
    (k1_pay58 w (View.ld T (Rect.unit (s := S1600x2x2x128) ![200, 0, 0, 0] S200x2x2x128.size inb_S1600x2x2x128_S200x2x2x128_200_0_0_0)))
    (k1_pay59 w (View.ld T (Rect.unit (s := S1600x2x2x128) ![400, 0, 0, 0] S200x2x2x128.size inb_S1600x2x2x128_S200x2x2x128_400_0_0_0)))
    (k1_pay60 w (View.ld T (Rect.unit (s := S1600x2x2x128) ![600, 0, 0, 0] S200x2x2x128.size inb_S1600x2x2x128_S200x2x2x128_600_0_0_0)))
    (k1_pay61 w (View.ld T (Rect.unit (s := S1600x2x2x128) ![800, 0, 0, 0] S200x2x2x128.size inb_S1600x2x2x128_S200x2x2x128_800_0_0_0)))
    (k1_pay62 w (View.ld T (Rect.unit (s := S1600x2x2x128) ![1000, 0, 0, 0] S200x2x2x128.size inb_S1600x2x2x128_S200x2x2x128_1000_0_0_0)))
    (View.ld T (Rect.unit (s := S1600x2x2x128) ![1200, 0, 0, 0] S200x2x2x128.size inb_S1600x2x2x128_S200x2x2x128_1200_0_0_0))
    (View.ld T (Rect.unit (s := S1600x2x2x128) ![1400, 0, 0, 0] S200x2x2x128.size inb_S1600x2x2x128_S200x2x2x128_1400_0_0_0))

set_option maxHeartbeats 400000 in
/-- The kernel's body: the inputs as they were, the output at `attended`, the scratch at something. -/
theorem attend_body (c : Dev nD) (i : grid1.Coords) (arg1 : Memref sig .tc .smem S1x1x1600 .i32) (harg1 : arg1.IsWhole) (arg2 : Memref sig .tc .vmem S1600x768 .bf16) (harg2 : arg2.IsWhole) (arg3 : Memref sig .tc .vmem S1600x768 .bf16) (harg3 : arg3.IsWhole) (arg4 : Memref sig .tc .vmem S1600x1 .f32) (harg4 : arg4.IsWhole) (arg5 : Memref sig .tc .vmem S768x8 .bf16) (harg5 : arg5.IsWhole) (arg6 : Memref sig .tc .vmem S40000x2x2x128 .bf16) (harg6 : arg6.IsWhole) (arg7 : Memref sig .tc .vmem S200x4x128 .f32) (harg7 : arg7.IsWhole) (arg8 : Memref sig .tc .vmem S1600x2x2x128 .bf16) (harg8 : arg8.IsWhole)
    (x0 : Vec F S1x1x1600 .i32) (x1 : Vec F S1600x768 .bf16) (x2 : Vec F S1600x768 .bf16) (x3 : Vec F S1600x1 .f32) (x4 : Vec F S768x8 .bf16) (x5 : Vec F S40000x2x2x128 .bf16)
    (h0 : ∀ j, (x0 j : BitVec 32).toNat < 40000) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (attended x0 x1 x2 x3 x4 x5) ∗ (∃ d, owns (c : Thread nD τ) arg8 fullShare d)) -∗ K ⟨⟩))
      ⊢ wp frame (wpE (defs₀ (F := F)) Variants.none c none) E (cc1__attn_kernel i arg1 harg1 arg2 harg2 arg3 harg3 arg4 harg4 arg5 harg5 arg6 harg6 arg7 harg7 arg8 harg8) K := by
  have h : WordsOk arg1 (harg1.unread x0) := fun B x => by rw [harg1.readAt_unread]; exact h0 _
  simp only [cc1__attn_kernel_eq_skeleton]; unfold cc1__attn_kernel_skel
  simp only [k1_part20_eq_skeleton, k1_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  let loop := loopInv_k1_t1 (F := F) Variants.none c none E i arg1 harg1 arg2 harg2 arg3 harg3 arg4 harg4 arg5 harg5 arg6 harg6 arg7 harg7 arg8 harg8 (harg1.unread x0) (harg6.unread x5) f7 (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _))
  sl_exec
  sl_step
  have hT : ∀ r : Rect S1600x2x2x128, arg8.view.readAt (Elt F) r (arg8.view.writes (Elt F) f7 (loopPieces Variants.none c none i arg1 harg1 arg2 harg2 arg3 harg3 arg4 harg4 arg5 harg5 arg6 harg6 arg7 harg7 arg8 harg8 (harg1.unread x0) (harg6.unread x5) h 50)) = View.ld (gathered x0 x5) r := fun r => by
    rw [loop_leaves, harg1.read_unread, harg6.read_unread]
    funext x
    exact harg8.readAt_unread _ r.toLoadRect x
  have w1 : arg2.view.readAt (Elt F) (Rect.unit (s := S1600x768) ![0, 0] S1600x768.size inb_S1600x768_S1600x768_0_0).toLoadRect (harg2.unread x1) = x1 := wholeLoad2 harg2 _ _ x1
  have w2 : arg3.view.readAt (Elt F) (Rect.unit (s := S1600x768) ![0, 0] S1600x768.size inb_S1600x768_S1600x768_0_0).toLoadRect (harg3.unread x2) = x2 := wholeLoad2 harg3 _ _ x2
  have w3 : arg4.view.readAt (Elt F) (Rect.unit (s := S1600x1) ![0, 0] S1600x1.size inb_S1600x1_S1600x1_0_0).toLoadRect (harg4.unread x3) = x3 := wholeLoad2 harg4 _ _ x3
  have w4 : arg5.view.readAt (Elt F) (Rect.unit (s := S768x8) ![0, 0] S768x8.size inb_S768x8_S768x8_0_0).toLoadRect (harg5.unread x4) = x4 := wholeLoad2 harg5 _ _ x4
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    have e8 : ∀ off hoff, arg8.view.readAt (Elt F) (Rect.unit (s := S1600x2x2x128) off S200x2x2x128.size hoff).toLoadRect (arg8.view.writes (Elt F) f7 (pb_k1_t1 Variants.none c none i arg1 harg1 arg2 harg2 arg3 harg3 arg4 harg4 arg5 harg5 arg6 harg6 arg7 harg7 arg8 harg8 (harg1.unread x0) (harg6.unread x5) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (fun _ _ => rowFits (h _ _)) (Scf.trips k1_t1_loop.lb k1_t1_loop.ub k1_t1_loop.st))) = View.ld (gathered x0 x5) (Rect.unit (s := S1600x2x2x128) off S200x2x2x128.size hoff) := fun off hoff => hT _
    rw [View.read_writes_eq_canon arg7.view f6 _ (fun y => ⟨_, List.mem_singleton_self _, by
      rw [Rect.mem_set_unit]; intro k; fin_cases k <;> exact ⟨Nat.zero_le _, (y _).isLt⟩⟩)]
    refine (View.canon_unit_zero (S := S200x4x128) (by funext k; fin_cases k <;> rfl) _ _).trans ?_
    unfold attend_body.sl.r_8 attend_body.sl.r_7 attend_body.sl.r_6 attend_body.sl.r_5 attend_body.sl.r_4 attend_body.sl.r_3 attend_body.sl.r_2 attend_body.sl.r_1
    unfold attend_body.sl.r attend_body.sl.v30_raw attend_body.sl.v36_raw attend_body.sl.v42_raw attend_body.sl.v48_raw attend_body.sl.v54_raw attend_body.sl.v60_raw attend_body.sl.v66_raw attend_body.sl.v72_raw
    simp only [e8, w1, w2, w3, w4]
    unfold attended
    rfl
  iexists _; iexists _; isplitr; swap; · iexact H7
  ipureintro; rfl

end Cert.KernelIdeal.Proof

end
-- ==== Proof.Ideal.Pool.lean ====
module

public import proofs.«01_k».proof.Proof.Ideal.Gather
public import proofs.«01_k».proof.Proof.Gen.KernelIdeal.Launch
public import proofs.«01_k».proof.Proof.Gen.KernelIdeal.Points
public import Idealize.ShloMosaic.Lib.Pipeline.FrameBody
public import Idealize.ShloMosaic.Lib.WholeRead

@[expose] public section

set_option maxRecDepth 16384

noncomputable section

/-! # What one block of the pooling kernel leaves -/

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One slot's term: its weight times its row. -/
def slotTerm (w : Elt F .f32) (row : Vec F S1x4x128 .f32) : FVec F S4x128 .f32 :=
  mulf (broadcast S4x128 w) (shapeCast S4x128 row shapeCasts_S1x4x128_S4x128)

/-- The terms of the first `n` slots, added up in order. -/
def slotSum (ws : ℕ → Elt F .f32) (rows : ℕ → Vec F S1x4x128 .f32) : ℕ → FVec F S4x128 .f32
  | 0 => broadcast S4x128 (Scalar.ofBits .f32 0x00000000#32)
  | n + 1 => addf (slotSum ws rows n) (slotTerm (ws n) (rows n))

/-- The first `n` mask words, added up in order. -/
def maskSum (cs : ℕ → Elt F .f32) : ℕ → F .f32
  | 0 => Scalar.ofBits .f32 0x00000000#32
  | n + 1 => Scalar.addf (maskSum cs n) (cs n)

/-- One visit's row of the result. -/
def visitRow (ws : ℕ → Elt F .f32) (rows : ℕ → Vec F S1x4x128 .f32) (cs : ℕ → Elt F .f32) (b : Vec F S4x128 .f32) : FVec F S1x4x128 .f32 :=
  k2_pay1 (slotSum ws rows 47) (maskSum cs 47) (ws 47) (rows 47) (cs 47) b

/-- Slot `m` of visit `k` in a table. -/
def slotOf {e : EltTy} (x : Vec F S64x48 e) (k : Fin 64) (m : ℕ) : Elt F e := x (ix2 k ⟨min m 47, by omega⟩)

/-- Row `n` of the code table. -/
def codeRow (x : Vec F S10000x4x128 .f32) (n : ℕ) : Vec F S1x4x128 .f32 := fun i => x (ix3 ⟨min n 9999, by omega⟩ (i 1) (i 2))

/-- The block's result. -/
def pooled (x0 : Vec F S64x48 .i32) (x1 x2 : Vec F S64x48 .f32) (x3 : Vec F S10000x4x128 .f32) (x4 : Vec F S4x128 .f32) : Vec F S64x4x128 .f32 :=
  fun i => visitRow (slotOf x1 (i 0)) (fun m => codeRow x3 (slotOf x0 (i 0) m : BitVec 32).toNat) (slotOf x2 (i 0)) x4 (ix3 0 (i 1) (i 2))

/-- The words of the table name rows of the code table. -/
def SlotsOk (arg1 : Memref sig .tc .smem S64x48 .i32) (X : BufTy.Contents (Elt F) arg1.view.ty) : Prop :=
  ∀ (B : LoadRect S64x48) (x : B.shape.Idx), ((arg1.view.readAt (Elt F) B X x : BitVec 32)).toNat < 10000

/-- Such a word meets the check the kernel makes before it loads the row. -/
theorem poolFits {v : BitVec 32} {P : Prop} (h : v.toNat < 10000) (e : k2_chk1 v = P) : P := by
  rw [← e]
  intro a
  fin_cases a
  · show v.toNat + 1 ≤ 10000; omega
  all_goals exact Nat.le_refl _

/-- A load of one word of a table, by the closed form of its offsets. -/
theorem slotRead {e : EltTy} {arg : Memref sig .tc .smem S64x48 e} (X : BufTy.Contents (Elt F) arg.view.ty)
    (o : Fin 2 → ℕ) [co : ClosedOff o] (inb : ∀ a, o a + S1x1.size a ≤ S64x48.size a) (n1 : 0 < S1x1.numel)
    {k : Fin 64} {m : ℕ} (ho : co.form = ![k.val, m]) :
    arg.view.readAt (Elt F) (Rect.unit (s := S64x48) o S1x1.size inb).toLoadRect X (Shape.Idx.first n1)
      = slotOf (arg.view.read (Elt F) X) k m := by
  obtain rfl := co.eq.trans ho
  have h1 : m + 1 ≤ 48 := inb 1
  refine congrArg (arg.view.read (Elt F) X) (funext fun a => Fin.ext ?_)
  fin_cases a
  · rfl
  · show m = min m 47; omega

/-- A load of one row of the code table. -/
theorem rowRead {arg : Memref sig .tc .vmem S10000x4x128 .f32} (X : BufTy.Contents (Elt F) arg.view.ty)
    (o : Fin 3 → ℕ) (inb : ∀ a, o a + S1x4x128.size a ≤ S10000x4x128.size a) {v w : BitVec 32} (ho : o 0 = v.toNat) (hv : v = w) :
    arg.view.readAt (Elt F) (Rect.unit (s := S10000x4x128) o S1x4x128.size inb).toLoadRect X
      = codeRow (arg.view.read (Elt F) X) w.toNat := by
  subst hv
  rw [← ho]
  funext i
  refine congrArg (arg.view.read (Elt F) X) (funext fun a => Fin.ext ?_)
  have h0 : o 0 + 1 ≤ 10000 := inb 0
  have h1 : o 1 + 4 ≤ 4 := inb 1
  have h2 : o 2 + 128 ≤ 128 := inb 2
  have hx : (i 0).val = 0 := Nat.lt_one_iff.mp (i 0).isLt
  fin_cases a
  · show o 0 + 1 * (i 0).val = min (o 0) 9999; omega
  · show o 1 + 1 * (i 1).val = (i 1).val; omega
  · show o 2 + 1 * (i 2).val = (i 2).val; omega

/-- One more slot. -/
theorem slotStep {A : FVec F S4x128 .f32} {ws : ℕ → Elt F .f32} {rows : ℕ → Vec F S1x4x128 .f32} {n : ℕ} {w : Elt F .f32} {r : Vec F S1x4x128 .f32}
    (hA : A = slotSum ws rows n) (hw : w = ws n) (hr : r = rows n) :
    addf A (mulf (broadcast S4x128 w) (shapeCast S4x128 r shapeCasts_S1x4x128_S4x128)) = slotSum ws rows (n + 1) := by
  subst hA hw hr; rfl

/-- One more mask word. -/
theorem maskStep {A : F .f32} {cs : ℕ → Elt F .f32} {n : ℕ} {w : Elt F .f32} (hA : A = maskSum cs n) (hw : w = cs n) :
    Scalar.addf A w = maskSum cs (n + 1) := by
  subst hA hw; rfl

/-- The row a trip stores. -/
theorem visitEq {A : FVec F S4x128 .f32} {C : F .f32} {ws : ℕ → Elt F .f32} {rows : ℕ → Vec F S1x4x128 .f32} {cs : ℕ → Elt F .f32}
    {w : Elt F .f32} {r : Vec F S1x4x128 .f32} {v : Elt F .f32} {b b' : Vec F S4x128 .f32}
    (hA : A = slotSum ws rows 47) (hC : C = maskSum cs 47) (hw : w = ws 47) (hr : r = rows 47) (hv : v = cs 47) (hb : b = b') :
    k2_pay1 A C w r v b = visitRow ws rows cs b' := by
  subst hA hC hw hr hv hb; rfl

/-- A load of the whole bias row. -/
theorem biasRead {arg : Memref sig .tc .vmem S4x128 .f32} (X : BufTy.Contents (Elt F) arg.view.ty)
    (inb : ∀ a, (![0, 0] : Fin 2 → ℕ) a + S4x128.size a ≤ S4x128.size a) :
    arg.view.readAt (Elt F) (Rect.unit (s := S4x128) ![0, 0] S4x128.size inb).toLoadRect X = arg.view.read (Elt F) X := by
  funext i
  refine congrArg (arg.view.read (Elt F) X) (funext fun a => Fin.ext ?_)
  fin_cases a
  · show 0 + 1 * (i 0).val = (i 0).val; omega
  · show 0 + 1 * (i 1).val = (i 1).val; omega

/-- Where a row of the result block lies. -/
theorem pooled_row (x0 : Vec F S64x48 .i32) (x1 x2 : Vec F S64x48 .f32) (x3 : Vec F S10000x4x128 .f32) (x4 : Vec F S4x128 .f32)
    (o : Fin 3 → ℕ) [co : ClosedOff o] (inb : ∀ a, o a + S1x4x128.size a ≤ S64x4x128.size a) {k : Fin 64} (ho : co.form = ![k.val, 0, 0])
    (x : (Rect.unit (s := S64x4x128) o S1x4x128.size inb).shape.Idx) :
    pooled x0 x1 x2 x3 x4 ((Rect.unit (s := S64x4x128) o S1x4x128.size inb).emb x)
      = visitRow (slotOf x1 k) (fun m => codeRow x3 (slotOf x0 k m : BitVec 32).toNat) (slotOf x2 k) x4 x := by
  obtain rfl := co.eq.trans ho
  have hx : (x 0).val = 0 := Nat.lt_one_iff.mp (x 0).isLt
  have e0 : (Rect.unit (s := S64x4x128) ![k.val, 0, 0] S1x4x128.size inb).emb x 0 = k :=
    Fin.ext (show k.val + 1 * (x 0).val = k.val by omega)
  have ex : (ix3 0 ((Rect.unit (s := S64x4x128) ![k.val, 0, 0] S1x4x128.size inb).emb x 1) ((Rect.unit (s := S64x4x128) ![k.val, 0, 0] S1x4x128.size inb).emb x 2) : S1x4x128.Idx) = x := by
    funext a; refine Fin.ext ?_
    fin_cases a
    · exact hx.symm
    · show 0 + 1 * (x 1).val = (x 1).val; omega
    · show 0 + 1 * (x 2).val = (x 2).val; omega
  unfold pooled
  rw [e0]
  exact congrArg _ ex

section
variable (𝒱 : Variants) (c : Dev nD) (bd : Option 𝒱.V) (i : grid2.Coords) (arg1 : Memref sig .tc .smem S64x48 .i32) (harg1 : arg1.IsWhole) (arg2 : Memref sig .tc .smem S64x48 .f32) (harg2 : arg2.IsWhole) (arg3 : Memref sig .tc .smem S64x48 .f32) (harg3 : arg3.IsWhole) (arg4 : Memref sig .tc .vmem S10000x4x128 .f32) (harg4 : arg4.IsWhole) (arg5 : Memref sig .tc .vmem S4x128 .f32) (harg5 : arg5.IsWhole) (arg6 : Memref sig .tc .vmem S64x4x128 .f32) (harg6 : arg6.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (h : SlotsOk arg1 X1)

/-- One trip's pieces. -/
abbrev visitPieces (k : Fin k2_t1_loop.trips) : List (View.Piece (Elt F) S64x4x128 .f32) :=
  tripL_k2_t1 (F := F) 𝒱 c bd i arg1 harg1 arg2 harg2 arg3 harg3 arg4 harg4 arg5 harg5 arg6 harg6 X1 X2 X3 X4 X5 k (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl) (poolFits (h _ _) rfl)

theorem visit_agrees (k : Fin k2_t1_loop.trips) : ∀ p ∈ visitPieces 𝒱 c bd i arg1 harg1 arg2 harg2 arg3 harg3 arg4 harg4 arg5 harg5 arg6 harg6 X1 X2 X3 X4 X5 h k,
    ∀ x : p.1.shape.Idx, p.2 x = pooled (arg1.view.read (Elt F) X1) (arg2.view.read (Elt F) X2) (arg3.view.read (Elt F) X3) (arg4.view.read (Elt F) X4) (arg5.view.read (Elt F) X5) (p.1.emb x) := by
  unfold visitPieces tripL_k2_t1 trip_k2_t1
  dsimp only
  intro p hp
  obtain rfl := List.mem_singleton.mp hp
  clear hp
  intro x
  have hk : k.val < 64 := Nat.lt_of_lt_of_le k.isLt k2_t1_abs.2.1
  refine Eq.trans ?_ (pooled_row _ _ _ _ _ (k2_off145 k) (k2_off145_inb k) (k := ⟨k.val, hk⟩) rfl x).symm
  refine congrFun ?_ x
  dsimp only
  refine visitEq ?_ ?_ (slotRead _ _ _ _ rfl) (rowRead _ _ _ rfl (slotRead _ _ _ _ rfl)) (slotRead _ _ _ _ rfl) (biasRead _ _)
  · iterate 47 refine slotStep ?_ (slotRead _ _ _ _ rfl) (rowRead _ _ _ rfl (slotRead _ _ _ _ rfl))
    rfl
  · iterate 47 refine maskStep ?_ (slotRead _ _ _ _ rfl)
    rfl
/-- An index of row `k` lies in the piece of that trip. -/
theorem visit_covers (k : Fin k2_t1_loop.trips) (y : S64x4x128.Idx) (hy : (y 0).val = k.val) :
    ∃ p ∈ visitPieces 𝒱 c bd i arg1 harg1 arg2 harg2 arg3 harg3 arg4 harg4 arg5 harg5 arg6 harg6 X1 X2 X3 X4 X5 h k, y ∈ p.1.set := by
  unfold visitPieces tripL_k2_t1 trip_k2_t1
  refine ⟨_, List.mem_singleton_self _, ?_⟩
  have e : k2_off145 k = ![k.val, 0, 0] := ClosedOff.eq (off := k2_off145 k)
  refine (Rect.mem_set_unit (inb := k2_off145_inb k)).mpr ?_
  rw [e]
  intro a; fin_cases a
  · show k.val ≤ (y 0).val ∧ (y 0).val < k.val + 1; omega
  · exact ⟨Nat.zero_le _, Nat.lt_of_lt_of_eq (y 1).isLt (Nat.zero_add _).symm⟩
  · exact ⟨Nat.zero_le _, Nat.lt_of_lt_of_eq (y 2).isLt (Nat.zero_add _).symm⟩

/-- The pieces of the first `n` trips. -/
abbrev blockPieces (n : ℕ) : List (View.Piece (Elt F) S64x4x128 .f32) :=
  pb_k2_t1 (F := F) 𝒱 c bd i arg1 harg1 arg2 harg2 arg3 harg3 arg4 harg4 arg5 harg5 arg6 harg6 X1 X2 X3 X4 X5 (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) n

theorem block_succ (n : ℕ) (ht : n < k2_t1_loop.trips) : blockPieces 𝒱 c bd i arg1 harg1 arg2 harg2 arg3 harg3 arg4 harg4 arg5 harg5 arg6 harg6 X1 X2 X3 X4 X5 h (n + 1)
    = visitPieces 𝒱 c bd i arg1 harg1 arg2 harg2 arg3 harg3 arg4 harg4 arg5 harg5 arg6 harg6 X1 X2 X3 X4 X5 h ⟨n, ht⟩ ++ blockPieces 𝒱 c bd i arg1 harg1 arg2 harg2 arg3 harg3 arg4 harg4 arg5 harg5 arg6 harg6 X1 X2 X3 X4 X5 h n :=
  pb_k2_t1_succ (F := F) 𝒱 c bd i arg1 harg1 arg2 harg2 arg3 harg3 arg4 harg4 arg5 harg5 arg6 harg6 X1 X2 X3 X4 X5 (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) ⟨n, ht⟩

theorem block_agrees : ∀ n, n ≤ 64 → ∀ p ∈ blockPieces 𝒱 c bd i arg1 harg1 arg2 harg2 arg3 harg3 arg4 harg4 arg5 harg5 arg6 harg6 X1 X2 X3 X4 X5 h n,
    ∀ x : p.1.shape.Idx, p.2 x = pooled (arg1.view.read (Elt F) X1) (arg2.view.read (Elt F) X2) (arg3.view.read (Elt F) X3) (arg4.view.read (Elt F) X4) (arg5.view.read (Elt F) X5) (p.1.emb x)
  | 0, _ => fun _ hp => absurd hp List.not_mem_nil
  | n + 1, hn => by
    have ht : n < k2_t1_loop.trips := Nat.lt_of_lt_of_le hn (by decide)
    intro p hp
    have e := block_succ 𝒱 c bd i arg1 harg1 arg2 harg2 arg3 harg3 arg4 harg4 arg5 harg5 arg6 harg6 X1 X2 X3 X4 X5 h n ht
    rcases List.mem_append.mp (by rwa [e] at hp) with hp | hp
    · exact visit_agrees 𝒱 c bd i arg1 harg1 arg2 harg2 arg3 harg3 arg4 harg4 arg5 harg5 arg6 harg6 X1 X2 X3 X4 X5 h ⟨n, ht⟩ p hp
    · exact block_agrees n (by omega) p hp

theorem block_covers (y : S64x4x128.Idx) : ∀ n, n ≤ 64 → (y 0).val < n → ∃ p ∈ blockPieces 𝒱 c bd i arg1 harg1 arg2 harg2 arg3 harg3 arg4 harg4 arg5 harg5 arg6 harg6 X1 X2 X3 X4 X5 h n, y ∈ p.1.set
  | 0, _, h0 => absurd h0 (Nat.not_lt_zero _)
  | n + 1, hn, hy => by
    have ht : n < k2_t1_loop.trips := Nat.lt_of_lt_of_le hn (by decide)
    have e := block_succ 𝒱 c bd i arg1 harg1 arg2 harg2 arg3 harg3 arg4 harg4 arg5 harg5 arg6 harg6 X1 X2 X3 X4 X5 h n ht
    rcases Nat.lt_or_eq_of_le (Nat.le_of_lt_succ hy) with hy | hy
    · obtain ⟨p, hp, hm⟩ := block_covers y n (by omega) hy
      exact ⟨p, (by rw [e]; exact List.mem_append_right _ hp), hm⟩
    · obtain ⟨p, hp, hm⟩ := visit_covers 𝒱 c bd i arg1 harg1 arg2 harg2 arg3 harg3 arg4 harg4 arg5 harg5 arg6 harg6 X1 X2 X3 X4 X5 h ⟨n, ht⟩ y hy
      exact ⟨p, (by rw [e]; exact List.mem_append_left _ hp), hm⟩

/-- The loop leaves the block at `pooled`, whatever it held. -/
theorem block_leaves (f : BufTy.Contents (Elt F) arg6.view.ty) :
    arg6.view.read (Elt F) (arg6.view.writes (Elt F) f (blockPieces 𝒱 c bd i arg1 harg1 arg2 harg2 arg3 harg3 arg4 harg4 arg5 harg5 arg6 harg6 X1 X2 X3 X4 X5 h 64)) = pooled (arg1.view.read (Elt F) X1) (arg2.view.read (Elt F) X2) (arg3.view.read (Elt F) X3) (arg4.view.read (Elt F) X4) (arg5.view.read (Elt F) X5) :=
  funext fun y => View.read_writes_apply_of_pieces _ _ _ _ (block_agrees 𝒱 c bd i arg1 harg1 arg2 harg2 arg3 harg3 arg4 harg4 arg5 harg5 arg6 harg6 X1 X2 X3 X4 X5 h 64 (by omega)) y
    (block_covers 𝒱 c bd i arg1 harg1 arg2 harg2 arg3 harg3 arg4 harg4 arg5 harg5 arg6 harg6 X1 X2 X3 X4 X5 h y 64 (by omega) (y 0).isLt)
end

set_option maxHeartbeats 400000 in
/-- The kernel's body: the inputs as they were, the output at `pooled`. -/
theorem pool_body (c : Dev nD) (i : grid2.Coords) (arg1 : Memref sig .tc .smem S64x48 .i32) (harg1 : arg1.IsWhole) (arg2 : Memref sig .tc .smem S64x48 .f32) (harg2 : arg2.IsWhole) (arg3 : Memref sig .tc .smem S64x48 .f32) (harg3 : arg3.IsWhole) (arg4 : Memref sig .tc .vmem S10000x4x128 .f32) (harg4 : arg4.IsWhole) (arg5 : Memref sig .tc .vmem S4x128 .f32) (harg5 : arg5.IsWhole) (arg6 : Memref sig .tc .vmem S64x4x128 .f32) (harg6 : arg6.IsWhole)
    (x0 : Vec F S64x48 .i32) (x1 x2 : Vec F S64x48 .f32) (x3 : Vec F S10000x4x128 .f32) (x4 : Vec F S4x128 .f32)
    (h0 : ∀ j, (x0 j : BitVec 32).toNat < 10000) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (pooled x0 x1 x2 x3 x4)) -∗ K ⟨⟩))
      ⊢ wp frame (wpE (defs₀ (F := F)) Variants.none c none) E (cc2__pool_kernel i arg1 harg1 arg2 harg2 arg3 harg3 arg4 harg4 arg5 harg5 arg6 harg6) K := by
  have h : SlotsOk arg1 (harg1.unread x0) := fun B x => by rw [harg1.readAt_unread]; exact h0 _
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  let loop := loopInv_k2_t1 (F := F) Variants.none c none E i arg1 harg1 arg2 harg2 arg3 harg3 arg4 harg4 arg5 harg5 arg6 harg6 (harg1.unread x0) (harg2.unread x1) (harg3.unread x2) (harg4.unread x3) (harg5.unread x4) f5 (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl) (fun _ _ => poolFits (h _ _) rfl)
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  refine (block_leaves Variants.none c none i arg1 harg1 arg2 harg2 arg3 harg3 arg4 harg4 arg5 harg5 arg6 harg6 (harg1.unread x0) (harg2.unread x1) (harg3.unread x2) (harg4.unread x3) (harg5.unread x4) h f5).trans ?_
  rw [hf0, hf1, hf2, hf3, hf4]

end Cert.KernelIdeal.Proof

end
-- ==== Proof.Ideal.Blocks.lean ====
module

public import proofs.«01_k».proof.Proof.Ideal.Attend
public import proofs.«01_k».proof.Proof.Ideal.Pool
public import Idealize.ShloMosaic.Lib.Pipeline.RegionsLoop
public import Idealize.ShloMosaic.Lib.Pipeline.FrameSuffix

@[expose] public section

set_option maxRecDepth 16384

noncomputable section

/-! # What each region's body does to its windows, at every grid point -/

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The projections -/

/-- Window `w`'s block at point `t`, cut from its array. -/
def inBlock0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the region finds them; each output block at what the body leaves. -/
def dat0 (c : Dev nD) : Dat τ (Elt F) Unit ℕ (UR sig nD τ) ℕ cfg0 c where
  A w := V c (Pipeline.arrRef spec0 w)
  after w t := match w with
    | ⟨0, _⟩ => inBlock0 V c 0 t
    | ⟨1, _⟩ => inBlock0 V c 1 t
    | ⟨2, _⟩ => inBlock0 V c 2 t
    | ⟨3, _⟩ => k0_pay2 (inBlock0 V c 0 t) (inBlock0 V c 1 t) (inBlock0 V c 2 t)
    | ⟨4, _⟩ => k0_pay3 (inBlock0 V c 0 t) (inBlock0 V c 1 t) (inBlock0 V c 2 t)
    | ⟨5, _⟩ => k0_pay4 (inBlock0 V c 0 t) (inBlock0 V c 1 t) (inBlock0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = inBlock0 V c 0 t := by dsimp only [dat0]
theorem before0_0 (c : Dev nD) (t : Fin cfg0.N) (d) : (dat0 V c).before 0 t d = inBlock0 V c 0 t :=
  ((dat0 V c).before_in_eq_fetched 0 rfl (fun _ => rfl) (fun _ _ _ => rfl) (fun t => by rw [after0_0]; unfold Dat.blockOf inBlock0; rw [dat0_A]; try rfl) t d).trans
    (by unfold Dat.fetched Dat.blockOf inBlock0; rw [dat0_A]; try rfl)
theorem after0_1 (c : Dev nD) (t : Fin cfg0.N) : (dat0 V c).after 1 t = inBlock0 V c 1 t := by dsimp only [dat0]
theorem before0_1 (c : Dev nD) (t : Fin cfg0.N) (d) : (dat0 V c).before 1 t d = inBlock0 V c 1 t :=
  ((dat0 V c).before_in_eq_fetched 1 rfl (fun _ => rfl) (fun _ _ _ => rfl) (fun t => by rw [after0_1]; unfold Dat.blockOf inBlock0; rw [dat0_A]; try rfl) t d).trans
    (by unfold Dat.fetched Dat.blockOf inBlock0; rw [dat0_A]; try rfl)
theorem after0_2 (c : Dev nD) (t : Fin cfg0.N) : (dat0 V c).after 2 t = inBlock0 V c 2 t := by dsimp only [dat0]
theorem before0_2 (c : Dev nD) (t : Fin cfg0.N) (d) : (dat0 V c).before 2 t d = inBlock0 V c 2 t :=
  ((dat0 V c).before_in_eq_fetched 2 rfl (fun _ => rfl) (fun _ _ _ => rfl) (fun t => by rw [after0_2]; unfold Dat.blockOf inBlock0; rw [dat0_A]; try rfl) t d).trans
    (by unfold Dat.fetched Dat.blockOf inBlock0; rw [dat0_A]; try rfl)
theorem after0_3 (c : Dev nD) (t : Fin cfg0.N) : (dat0 V c).after 3 t = k0_pay2 (inBlock0 V c 0 t) (inBlock0 V c 1 t) (inBlock0 V c 2 t) := by dsimp only [dat0]
theorem after0_4 (c : Dev nD) (t : Fin cfg0.N) : (dat0 V c).after 4 t = k0_pay3 (inBlock0 V c 0 t) (inBlock0 V c 1 t) (inBlock0 V c 2 t) := by dsimp only [dat0]
theorem after0_5 (c : Dev nD) (t : Fin cfg0.N) : (dat0 V c).after 5 t = k0_pay4 (inBlock0 V c 0 t) (inBlock0 V c 1 t) (inBlock0 V c 2 t) := by dsimp only [dat0]

/-- What the body is called with at point `t`, window by window, -/
def bodyPre0 (c : Dev nD) (t : Fin cfg0.N) : sProp 𝕄 :=
  iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)))
/-- and what it gives back. -/
def bodyPost0 (c : Dev nD) (t : Fin cfg0.N) : sProp 𝕄 :=
  iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t))

/-- The body at any point. -/
theorem body_sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (project_body c (grid0.coords t) _ _ _ _ _ _ _ _ _ _ _ _ (inBlock0 V c 0 t) (inBlock0 V c 1 t) (inBlock0 V c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem bodyRow0 (t : Fin cfg0.N) :
    defs₀ (F := F) .tc cfg0.body (cfg0.bodyArgs t (cfg0.slots t)) = bodyAt0 t := by
  unfold defs₀; rw [Defs.onTc_tc]

/-- The body obligation at every point. -/
theorem body_ok0 (c : Dev nD) : BodyObligation (dat0 (F := F) V c) (defs₀ (F := F)) Variants.none () Set.univ := fun t => by
  rw [bigSep_W0, bigSep_W0, bodyRow0]
  exact triple_restated (body_sound0 V c t) rfl .rfl fun _ => .rfl

/-! ## The attention -/

/-- Window `w`'s block at point `t`, cut from its array. -/
def inBlock1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The arrays as the region finds them; each output block at what the body leaves. -/
def dat1 (c : Dev nD) : Dat τ (Elt F) Unit ℕ (UR sig nD τ) ℕ cfg1 c where
  A w := V c (Pipeline.arrRef spec1 w)
  after w t := match w with
    | ⟨0, _⟩ => inBlock1 V c 0 t
    | ⟨1, _⟩ => inBlock1 V c 1 t
    | ⟨2, _⟩ => inBlock1 V c 2 t
    | ⟨3, _⟩ => inBlock1 V c 3 t
    | ⟨4, _⟩ => inBlock1 V c 4 t
    | ⟨5, _⟩ => inBlock1 V c 5 t
    | ⟨6, _⟩ => attended (inBlock1 V c 0 t) (inBlock1 V c 1 t) (inBlock1 V c 2 t) (inBlock1 V c 3 t) (inBlock1 V c 4 t) (inBlock1 V c 5 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = inBlock1 V c 0 t := by dsimp only [dat1]
theorem before1_0 (c : Dev nD) (t : Fin cfg1.N) (d) : (dat1 V c).before 0 t d = inBlock1 V c 0 t :=
  ((dat1 V c).before_in_eq_fetched 0 rfl (fun _ => rfl) (fun _ _ _ => rfl) (fun t => by rw [after1_0]; unfold Dat.blockOf inBlock1; rw [dat1_A]; try rfl) t d).trans
    (by unfold Dat.fetched Dat.blockOf inBlock1; rw [dat1_A]; try rfl)
theorem after1_1 (c : Dev nD) (t : Fin cfg1.N) : (dat1 V c).after 1 t = inBlock1 V c 1 t := by dsimp only [dat1]
theorem before1_1 (c : Dev nD) (t : Fin cfg1.N) (d) : (dat1 V c).before 1 t d = inBlock1 V c 1 t :=
  ((dat1 V c).before_in_eq_fetched 1 rfl (fun _ => rfl) (fun _ _ _ => rfl) (fun t => by rw [after1_1]; unfold Dat.blockOf inBlock1; rw [dat1_A]; try rfl) t d).trans
    (by unfold Dat.fetched Dat.blockOf inBlock1; rw [dat1_A]; try rfl)
theorem after1_2 (c : Dev nD) (t : Fin cfg1.N) : (dat1 V c).after 2 t = inBlock1 V c 2 t := by dsimp only [dat1]
theorem before1_2 (c : Dev nD) (t : Fin cfg1.N) (d) : (dat1 V c).before 2 t d = inBlock1 V c 2 t :=
  ((dat1 V c).before_in_eq_fetched 2 rfl (fun _ => rfl) (fun _ _ _ => rfl) (fun t => by rw [after1_2]; unfold Dat.blockOf inBlock1; rw [dat1_A]; try rfl) t d).trans
    (by unfold Dat.fetched Dat.blockOf inBlock1; rw [dat1_A]; try rfl)
theorem after1_3 (c : Dev nD) (t : Fin cfg1.N) : (dat1 V c).after 3 t = inBlock1 V c 3 t := by dsimp only [dat1]
theorem before1_3 (c : Dev nD) (t : Fin cfg1.N) (d) : (dat1 V c).before 3 t d = inBlock1 V c 3 t :=
  ((dat1 V c).before_in_eq_fetched 3 rfl (fun _ => rfl) (fun _ _ _ => rfl) (fun t => by rw [after1_3]; unfold Dat.blockOf inBlock1; rw [dat1_A]; try rfl) t d).trans
    (by unfold Dat.fetched Dat.blockOf inBlock1; rw [dat1_A]; try rfl)
theorem after1_4 (c : Dev nD) (t : Fin cfg1.N) : (dat1 V c).after 4 t = inBlock1 V c 4 t := by dsimp only [dat1]
theorem before1_4 (c : Dev nD) (t : Fin cfg1.N) (d) : (dat1 V c).before 4 t d = inBlock1 V c 4 t :=
  ((dat1 V c).before_in_eq_fetched 4 rfl (fun _ => rfl) (fun _ _ _ => rfl) (fun t => by rw [after1_4]; unfold Dat.blockOf inBlock1; rw [dat1_A]; try rfl) t d).trans
    (by unfold Dat.fetched Dat.blockOf inBlock1; rw [dat1_A]; try rfl)
theorem after1_5 (c : Dev nD) (t : Fin cfg1.N) : (dat1 V c).after 5 t = inBlock1 V c 5 t := by dsimp only [dat1]
theorem before1_5 (c : Dev nD) (t : Fin cfg1.N) (d) : (dat1 V c).before 5 t d = inBlock1 V c 5 t :=
  ((dat1 V c).before_in_eq_fetched 5 rfl (fun _ => rfl) (fun _ _ _ => rfl) (fun t => by rw [after1_5]; unfold Dat.blockOf inBlock1; rw [dat1_A]; try rfl) t d).trans
    (by unfold Dat.fetched Dat.blockOf inBlock1; rw [dat1_A]; try rfl)
theorem after1_6 (c : Dev nD) (t : Fin cfg1.N) : (dat1 V c).after 6 t = attended (inBlock1 V c 0 t) (inBlock1 V c 1 t) (inBlock1 V c 2 t) (inBlock1 V c 3 t) (inBlock1 V c 4 t) (inBlock1 V c 5 t) := by dsimp only [dat1]

/-- What the body is called with at point `t`, window by window, -/
def bodyPre1 (c : Dev nD) (t : Fin cfg1.N) : sProp 𝕄 :=
  iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d)) ∗ (∃ d, owns (c : Thread nD τ) (st1_4 t) fullShare ((dat1 V c).before 4 t d)) ∗ (∃ d, owns (c : Thread nD τ) (st1_5 t) fullShare ((dat1 V c).before 5 t d)) ∗ (∃ d, owns (c : Thread nD τ) (st1_6 t) fullShare ((dat1 V c).before 6 t d)))
/-- and what it gives back. -/
def bodyPost1 (c : Dev nD) (t : Fin cfg1.N) : sProp 𝕄 :=
  iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t) ∗ owns (c : Thread nD τ) (st1_4 t) fullShare ((dat1 V c).after 4 t) ∗ owns (c : Thread nD τ) (st1_5 t) fullShare ((dat1 V c).after 5 t) ∗ owns (c : Thread nD τ) (st1_6 t) fullShare ((dat1 V c).after 6 t))

/-- The region's invariant, with the gather buffer held as a whole memref at some contents. -/
theorem scratchOwned (c : Dev nD) :
    (Pipeline.ΦA spec1 c : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) (Memref.whole cc1_scratch0 : Memref sig .tc .vmem S1600x2x2x128 .bf16) fullShare d) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r)) := by
  unfold Pipeline.ΦA; rw [scopedRest1_eq]; simp only [owns_whole]; try rfl

/-- The body at any point. -/
theorem body_sound1 (c : Dev nD) (t : Fin cfg1.N) (h0 : ∀ t j, (inBlock1 V c 0 t j : BitVec 32).toNat < 40000) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, scratchOwned]
  iintro ⟨⟨⟨R0, R1, R2, R3, R4, R5, R6, R7, R8, R9, HS, R11, R12, R13, R14, R15, R16, R17, R18, R19, R20⟩, Hg⟩, Ho, ⟨%d0, H0⟩, ⟨%d1, H1⟩, ⟨%d2, H2⟩, ⟨%d3, H3⟩, ⟨%d4, H4⟩, ⟨%d5, H5⟩, ⟨%d6, H6⟩⟩
  iapply (attend_body c (grid1.coords t) _ _ _ _ _ _ _ _ _ _ _ _ _ _ _ _ (inBlock1 V c 0 t) (inBlock1 V c 1 t) (inBlock1 V c 2 t) (inBlock1 V c 3 t) (inBlock1 V c 4 t) (inBlock1 V c 5 t) (h0 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [R0 R1 R2 R3 R4 R5 R6 R7 R8 R9 HS R11 R12 R13 R14 R15 R16 R17 R18 R19 R20 Hg]
  · isplitl [R0 R1 R2 R3 R4 R5 R6 R7 R8 R9 HS R11 R12 R13 R14 R15 R16 R17 R18 R19 R20]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS]; · iexact HS
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      iexact R20
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem bodyRow1 (t : Fin cfg1.N) :
    defs₀ (F := F) .tc cfg1.body (cfg1.bodyArgs t (cfg1.slots t)) = bodyAt1 t := by
  unfold defs₀; rw [Defs.onTc_tc]

/-- The body obligation at every point. -/
theorem body_ok1 (c : Dev nD) (h0 : ∀ t j, (inBlock1 V c 0 t j : BitVec 32).toNat < 40000) : BodyObligation (dat1 (F := F) V c) (defs₀ (F := F)) Variants.none () Set.univ := fun t => by
  rw [bigSep_W1, bigSep_W1, bodyRow1]
  exact triple_restated (body_sound1 V c t h0) rfl .rfl fun _ => .rfl

/-! ## The pooling -/

/-- Window `w`'s block at point `t`, cut from its array. -/
def inBlock2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The arrays as the region finds them; each output block at what the body leaves. -/
def dat2 (c : Dev nD) : Dat τ (Elt F) Unit ℕ (UR sig nD τ) ℕ cfg2 c where
  A w := V c (Pipeline.arrRef spec2 w)
  after w t := match w with
    | ⟨0, _⟩ => inBlock2 V c 0 t
    | ⟨1, _⟩ => inBlock2 V c 1 t
    | ⟨2, _⟩ => inBlock2 V c 2 t
    | ⟨3, _⟩ => inBlock2 V c 3 t
    | ⟨4, _⟩ => inBlock2 V c 4 t
    | ⟨5, _⟩ => pooled (inBlock2 V c 0 t) (inBlock2 V c 1 t) (inBlock2 V c 2 t) (inBlock2 V c 3 t) (inBlock2 V c 4 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem after2_0 (c : Dev nD) (t : Fin cfg2.N) : (dat2 V c).after 0 t = inBlock2 V c 0 t := by dsimp only [dat2]
theorem before2_0 (c : Dev nD) (t : Fin cfg2.N) (d) : (dat2 V c).before 0 t d = inBlock2 V c 0 t :=
  ((dat2 V c).before_in_eq_fetched 0 rfl (fun _ => rfl) (fun _ _ _ => rfl) (fun t => by rw [after2_0]; unfold Dat.blockOf inBlock2; rw [dat2_A]; try rfl) t d).trans
    (by unfold Dat.fetched Dat.blockOf inBlock2; rw [dat2_A]; try rfl)
theorem after2_1 (c : Dev nD) (t : Fin cfg2.N) : (dat2 V c).after 1 t = inBlock2 V c 1 t := by dsimp only [dat2]
theorem before2_1 (c : Dev nD) (t : Fin cfg2.N) (d) : (dat2 V c).before 1 t d = inBlock2 V c 1 t :=
  ((dat2 V c).before_in_eq_fetched 1 rfl (fun _ => rfl) (fun _ _ _ => rfl) (fun t => by rw [after2_1]; unfold Dat.blockOf inBlock2; rw [dat2_A]; try rfl) t d).trans
    (by unfold Dat.fetched Dat.blockOf inBlock2; rw [dat2_A]; try rfl)
theorem after2_2 (c : Dev nD) (t : Fin cfg2.N) : (dat2 V c).after 2 t = inBlock2 V c 2 t := by dsimp only [dat2]
theorem before2_2 (c : Dev nD) (t : Fin cfg2.N) (d) : (dat2 V c).before 2 t d = inBlock2 V c 2 t :=
  ((dat2 V c).before_in_eq_fetched 2 rfl (fun _ => rfl) (fun _ _ _ => rfl) (fun t => by rw [after2_2]; unfold Dat.blockOf inBlock2; rw [dat2_A]; try rfl) t d).trans
    (by unfold Dat.fetched Dat.blockOf inBlock2; rw [dat2_A]; try rfl)
theorem after2_3 (c : Dev nD) (t : Fin cfg2.N) : (dat2 V c).after 3 t = inBlock2 V c 3 t := by dsimp only [dat2]
theorem before2_3 (c : Dev nD) (t : Fin cfg2.N) (d) : (dat2 V c).before 3 t d = inBlock2 V c 3 t :=
  ((dat2 V c).before_in_eq_fetched 3 rfl (fun _ => rfl) (fun _ _ _ => rfl) (fun t => by rw [after2_3]; unfold Dat.blockOf inBlock2; rw [dat2_A]; try rfl) t d).trans
    (by unfold Dat.fetched Dat.blockOf inBlock2; rw [dat2_A]; try rfl)
theorem after2_4 (c : Dev nD) (t : Fin cfg2.N) : (dat2 V c).after 4 t = inBlock2 V c 4 t := by dsimp only [dat2]
theorem before2_4 (c : Dev nD) (t : Fin cfg2.N) (d) : (dat2 V c).before 4 t d = inBlock2 V c 4 t :=
  ((dat2 V c).before_in_eq_fetched 4 rfl (fun _ => rfl) (fun _ _ _ => rfl) (fun t => by rw [after2_4]; unfold Dat.blockOf inBlock2; rw [dat2_A]; try rfl) t d).trans
    (by unfold Dat.fetched Dat.blockOf inBlock2; rw [dat2_A]; try rfl)
theorem after2_5 (c : Dev nD) (t : Fin cfg2.N) : (dat2 V c).after 5 t = pooled (inBlock2 V c 0 t) (inBlock2 V c 1 t) (inBlock2 V c 2 t) (inBlock2 V c 3 t) (inBlock2 V c 4 t) := by dsimp only [dat2]

/-- What the body is called with at point `t`, window by window, -/
def bodyPre2 (c : Dev nD) (t : Fin cfg2.N) : sProp 𝕄 :=
  iprop((dat2 V c).Φ t.castSucc ∗ (dat2 V c).owesAt () t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)) ∗ (∃ d, owns (c : Thread nD τ) (st2_4 t) fullShare ((dat2 V c).before 4 t d)) ∗ (∃ d, owns (c : Thread nD τ) (st2_5 t) fullShare ((dat2 V c).before 5 t d)))
/-- and what it gives back. -/
def bodyPost2 (c : Dev nD) (t : Fin cfg2.N) : sProp 𝕄 :=
  iprop((dat2 V c).Φ t.succ ∗ (dat2 V c).owesAt () t.succ ∗ owns (c : Thread nD τ) (st2_0 t) fullShare ((dat2 V c).after 0 t) ∗ owns (c : Thread nD τ) (st2_1 t) fullShare ((dat2 V c).after 1 t) ∗ owns (c : Thread nD τ) (st2_2 t) fullShare ((dat2 V c).after 2 t) ∗ owns (c : Thread nD τ) (st2_3 t) fullShare ((dat2 V c).after 3 t) ∗ owns (c : Thread nD τ) (st2_4 t) fullShare ((dat2 V c).after 4 t) ∗ owns (c : Thread nD τ) (st2_5 t) fullShare ((dat2 V c).after 5 t))

/-- The body at any point. -/
theorem body_sound2 (c : Dev nD) (t : Fin cfg2.N) (h0 : ∀ t j, (inBlock2 V c 0 t j : BitVec 32).toNat < 10000) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (pool_body c (grid2.coords t) _ _ _ _ _ _ _ _ _ _ _ _ (inBlock2 V c 0 t) (inBlock2 V c 1 t) (inBlock2 V c 2 t) (inBlock2 V c 3 t) (inBlock2 V c 4 t) (h0 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem bodyRow2 (t : Fin cfg2.N) :
    defs₀ (F := F) .tc cfg2.body (cfg2.bodyArgs t (cfg2.slots t)) = bodyAt2 t := by
  unfold defs₀; rw [Defs.onTc_tc]

/-- The body obligation at every point. -/
theorem body_ok2 (c : Dev nD) (h0 : ∀ t j, (inBlock2 V c 0 t j : BitVec 32).toNat < 10000) : BodyObligation (dat2 (F := F) V c) (defs₀ (F := F)) Variants.none () Set.univ := fun t => by
  rw [bigSep_W2, bigSep_W2, bodyRow2]
  exact triple_restated (body_sound2 V c t h0) rfl .rfl fun _ => .rfl

end Cert.KernelIdeal.Proof

end
-- ==== Proof.Ideal.Launch.lean ====
module

public import proofs.«01_k».proof.Proof.Ideal.Blocks
public import proofs.«01_k».proof.Proof.Gen.KernelIdeal.Regions

@[expose] public section

set_option maxRecDepth 16384

noncomputable section

/-! # The whole program: what every buffer holds between its parts, and its run -/

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) := fun c b => W c b

/-- The buffers at each boundary: after the host operations before the projections, after the projections, and so on. -/
abbrev mem1 : Dev nD → Valuation τ sig (Elt F) := fun c => StableHlo.after hostOps0 (V0 m c)
def mem2 (c : Dev nD) : Valuation τ sig (Elt F) :=
  Pipeline.withArrays spec0 c (mem1 m c) fun w => (dat0 (atRefs (mem1 m)) c).arrAt w cfg0.N
abbrev mem3 : Dev nD → Valuation τ sig (Elt F) := fun c => StableHlo.after hostOps1 (mem2 m c)
def mem4 (c : Dev nD) : Valuation τ sig (Elt F) :=
  Pipeline.withArrays spec1 c (mem3 m c) fun w => (dat1 (atRefs (mem3 m)) c).arrAt w cfg1.N
abbrev mem5 : Dev nD → Valuation τ sig (Elt F) := fun c => StableHlo.after hostOps2 (mem4 m c)
def mem6 (c : Dev nD) : Valuation τ sig (Elt F) :=
  Pipeline.withArrays spec2 c (mem5 m c) fun w => (dat2 (atRefs (mem5 m)) c).arrAt w cfg2.N
abbrev mem7 : Dev nD → Valuation τ sig (Elt F) := fun c => StableHlo.after hostOps3 (mem6 m c)

/-! ## What each part leaves alone -/

theorem mem1_of (c : Dev nD) (r : Ref sig .tc) (h : r ∉ hostOps0_W) : mem1 m c (Proc.devRef .tc r) = m ((c : Thread nD τ).loc r) :=
  StableHlo.after_of_writes_sub hostOps0 _ hostOps0_writes h
theorem mem3_of (c : Dev nD) (r : Ref sig .tc) (h : r ∉ hostOps1_W) : mem3 m c (Proc.devRef .tc r) = mem2 m c (Proc.devRef .tc r) :=
  StableHlo.after_of_writes_sub hostOps1 _ hostOps1_writes h
theorem mem5_of (c : Dev nD) (r : Ref sig .tc) (h : r ∉ hostOps2_W) : mem5 m c (Proc.devRef .tc r) = mem4 m c (Proc.devRef .tc r) :=
  StableHlo.after_of_writes_sub hostOps2 _ hostOps2_writes h
theorem mem7_of (c : Dev nD) (r : Ref sig .tc) (h : r ∉ hostOps3_W) : mem7 m c (Proc.devRef .tc r) = mem6 m c (Proc.devRef .tc r) :=
  StableHlo.after_of_writes_sub hostOps3 _ hostOps3_writes h

theorem mem2_arr (c : Dev nD) (w : Fin cfg0.W) :
    mem2 m c (Proc.devRef .tc (Pipeline.arrRef spec0 w)) = (dat0 (atRefs (mem1 m)) c).arrAt w cfg0.N := by
  unfold mem2; exact Pipeline.withArrays_arr spec0 launch0.win.arr_inj c _ _ w
theorem mem2_off (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb
/-- A reference that is no output array of the region keeps its contents. -/
theorem mem2_of (c : Dev nD) (r : Ref sig .tc) (h : ∀ w : Fin cfg0.W, Pipeline.arrRef spec0 w = r → (cfg0.win w).isOut = false) :
    mem2 m c (Proc.devRef .tc r) = mem1 m c (Proc.devRef .tc r) := by
  by_cases hw : ∃ w : Fin cfg0.W, Pipeline.arrRef spec0 w = r
  · obtain ⟨w, rfl⟩ := hw
    exact (mem2_arr m c w).trans (((dat0 (atRefs (mem1 m)) c).arrAt_in w (h w rfl) _).trans (dat0_A (atRefs (mem1 m)) c w))
  · exact mem2_off m c r fun w e => hw ⟨w, e⟩

theorem mem4_arr (c : Dev nD) (w : Fin cfg1.W) :
    mem4 m c (Proc.devRef .tc (Pipeline.arrRef spec1 w)) = (dat1 (atRefs (mem3 m)) c).arrAt w cfg1.N := by
  unfold mem4; exact Pipeline.withArrays_arr spec1 launch1.win.arr_inj c _ _ w
theorem mem4_off (c : Dev nD) (b : Ref sig .tc) (hb : ∀ w, Pipeline.arrRef spec1 w ≠ b) :
    mem4 m c (Proc.devRef .tc b) = mem3 m c (Proc.devRef .tc b) := by
  unfold mem4; exact Pipeline.withArrays_of_ne spec1 c _ _ b hb
/-- A reference that is no output array of the region keeps its contents. -/
theorem mem4_of (c : Dev nD) (r : Ref sig .tc) (h : ∀ w : Fin cfg1.W, Pipeline.arrRef spec1 w = r → (cfg1.win w).isOut = false) :
    mem4 m c (Proc.devRef .tc r) = mem3 m c (Proc.devRef .tc r) := by
  by_cases hw : ∃ w : Fin cfg1.W, Pipeline.arrRef spec1 w = r
  · obtain ⟨w, rfl⟩ := hw
    exact (mem4_arr m c w).trans (((dat1 (atRefs (mem3 m)) c).arrAt_in w (h w rfl) _).trans (dat1_A (atRefs (mem3 m)) c w))
  · exact mem4_off m c r fun w e => hw ⟨w, e⟩

theorem mem6_arr (c : Dev nD) (w : Fin cfg2.W) :
    mem6 m c (Proc.devRef .tc (Pipeline.arrRef spec2 w)) = (dat2 (atRefs (mem5 m)) c).arrAt w cfg2.N := by
  unfold mem6; exact Pipeline.withArrays_arr spec2 launch2.win.arr_inj c _ _ w
theorem mem6_off (c : Dev nD) (b : Ref sig .tc) (hb : ∀ w, Pipeline.arrRef spec2 w ≠ b) :
    mem6 m c (Proc.devRef .tc b) = mem5 m c (Proc.devRef .tc b) := by
  unfold mem6; exact Pipeline.withArrays_of_ne spec2 c _ _ b hb
/-- A reference that is no output array of the region keeps its contents. -/
theorem mem6_of (c : Dev nD) (r : Ref sig .tc) (h : ∀ w : Fin cfg2.W, Pipeline.arrRef spec2 w = r → (cfg2.win w).isOut = false) :
    mem6 m c (Proc.devRef .tc r) = mem5 m c (Proc.devRef .tc r) := by
  by_cases hw : ∃ w : Fin cfg2.W, Pipeline.arrRef spec2 w = r
  · obtain ⟨w, rfl⟩ := hw
    exact (mem6_arr m c w).trans (((dat2 (atRefs (mem5 m)) c).arrAt_in w (h w rfl) _).trans (dat2_A (atRefs (mem5 m)) c w))
  · exact mem6_off m c r fun w e => hw ⟨w, e⟩

/-- The arguments. -/
abbrev argRefs : List (Ref sig .tc) := [main_arg0, main_arg1, main_arg2, main_arg3, main_arg4, main_arg5, main_arg6, main_arg7, main_arg8, main_arg9, main_arg10, main_arg11]

theorem args0 : ∀ a ∈ argRefs, a ∉ hostOps0_W := ListAll.forall_mem_of_all_decide (by decide +kernel)
theorem args1 : ∀ a ∈ argRefs, a ∉ hostOps1_W := ListAll.forall_mem_of_all_decide (by decide +kernel)
theorem args2 : ∀ a ∈ argRefs, a ∉ hostOps2_W := ListAll.forall_mem_of_all_decide (by decide +kernel)
theorem args3 : ∀ a ∈ argRefs, a ∉ hostOps3_W := ListAll.forall_mem_of_all_decide (by decide +kernel)
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)

/-- An argument is as launched after the projections' part, after the attention's, and at the end. -/
theorem mem2_arg (c : Dev nD) (a : Ref sig .tc) (h : a ∈ argRefs) : mem2 m c (Proc.devRef .tc a) = m ((c : Thread nD τ).loc a) :=
  (mem2_of m c a (argsIn0 a h)).trans (mem1_of m c a (args0 a h))
theorem mem4_arg (c : Dev nD) (a : Ref sig .tc) (h : a ∈ argRefs) : mem4 m c (Proc.devRef .tc a) = m ((c : Thread nD τ).loc a) :=
  ((mem4_of m c a (argsIn1 a h)).trans (mem3_of m c a (args1 a h))).trans (mem2_arg m c a h)
theorem mem7_arg (c : Dev nD) (a : Ref sig .tc) (h : a ∈ argRefs) : mem7 m c (Proc.devRef .tc a) = m ((c : Thread nD τ).loc a) :=
  ((mem7_of m c a (args3 a h)).trans ((mem6_of m c a (argsIn2 a h)).trans (mem5_of m c a (args2 a h)))).trans (mem4_arg m c a h)

/-! ## The regions as segments of the run -/

/-- Every region's data, at the contents it is entered with. -/
def datas : (p : Fin 3) → (c : Dev nD) → Dat τ (Elt F) Unit ℕ (UR sig nD τ) ℕ (Pipeline.pin (pcfgs (F := F)) adm p) c
  | ⟨0, _⟩ => fun c => dat0 (atRefs (mem1 m)) c
  | ⟨1, _⟩ => fun c => dat1 (atRefs (mem3 m)) c
  | ⟨2, _⟩ => fun c => dat2 (atRefs (mem5 m)) c

abbrev noVars : Variants := Variants.none
abbrev noLev : GSem nD τ sig → Finset Unit := fun _ => ∅
abbrev noLevel : GSem nD τ sig → Unit → ℕ := fun _ _ => 0
/-- What rides beside the buffers: the generator register, and nothing owed. -/
abbrev beside (c : Dev nD) : sProp 𝕄 := iprop((∃ r, prngReg c r) ∗ ∃ W, owes (c : Thread nD τ) (0 : CellTallies nD τ sig Unit) W)

set_option backward.isDefEq.respectTransparency.types false in
/-- A region as a segment: entered from the buffers at `W`, left with them at `W'`. -/
def regionSeg (p : Fin 3) (hl : Pipeline.LaunchFacts (nD := nD) (τ := τ) cfgs p)
    (D : (p : Fin 3) → (c : Dev nD) → Dat τ (Elt F) Unit ℕ (UR sig nD τ) ℕ (Pipeline.pin (pcfgs (F := F)) adm p) c)
    (W W' : Dev nD → Valuation τ sig (Elt F))
    (hbody : ∀ c, BodyObligation (D p c) (defs₀ (F := F)) Variants.none () Set.univ)
    (hΦ : ∀ c t, (D p c).Φ t = Pipeline.ΦA (cfgs p).spec c) (hq : ∀ c w, (D p c).q w = fullShare) (ho : ∀ c t, (D p c).owed t = 0)
    (hr : ∀ c t, (D p c).recorded t = Set.univ)
    (hA : ∀ c w, (D p c).A w = atRefs W c (Pipeline.arrRef (cfgs p).spec w))
    (hF : ∀ c w, (D p c).arrAt w (cfgs p).N = atRefs W' c (Pipeline.arrRef (cfgs p).spec w))
    (hrest : ∀ c b, b ∉ Finset.univ.image (Pipeline.arrRef (cfgs p).spec) → atRefs W' c b = atRefs W c b) :
    Pipeline.RegionSeg (pcfgs (F := F)) adm D () defs₀ noVars noLev noLevel p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ noLev noLevel p ho
  pre c := iprop(StableHlo.held (c : Thread nD τ) (Pipeline.ucRefs τ sig) (W c) ∗ beside c)
  post c := iprop(StableHlo.held (c : Thread nD τ) (Pipeline.ucRefs τ sig) (W' c) ∗ beside c)
  X c := iprop(∃ r, prngReg c r)
  Y c := iprop(∃ r, prngReg c r)
  Z c := Pipeline.unscopedRest (Ix := Unit) (Name := ℕ) (U := UR sig nD τ) (Lvl := ℕ) (cfgs p).spec c (atRefs W c)
  hentry c := by
    rw [Pipeline.ownSems0_none]
    have hsplit := Pipeline.arrays_of_unscopedBufs (p := p) (pcfgs (F := F)) adm D hl.win hl.arr_whole c
      ((D p c).share_full (hq c)) (atRefs W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (by rw [hr c]; trivial)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c D ((D p c).share_full (hq c))
      (atRefs W c) (atRefs W' c) ((D p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

/-- Every ancestor index the attention reads is a row of the table, and every code the pooling reads a row of its. -/
def WordsFit : Prop :=
  (∀ c t j, (inBlock1 (atRefs (mem3 m)) c 0 t j : BitVec 32).toNat < 40000) ∧ ∀ c t j, (inBlock2 (atRefs (mem5 m)) c 0 t j : BitVec 32).toNat < 10000

def projSeg : Pipeline.RegionSeg (pcfgs (F := F)) adm (datas m) () defs₀ noVars noLev noLevel 0 :=
  regionSeg 0 launch0 (datas m) (mem1 m) (mem2 m) (body_ok0 (atRefs (mem1 m))) (fun _ _ => rfl) (fun _ _ => rfl) (fun _ _ => rfl) (fun _ _ => rfl)
    (dat0_A (atRefs (mem1 m))) (fun c w => (mem2_arr m c w).symm)
    (fun c b hb => mem2_off m c b fun w e => hb (Finset.mem_image.mpr ⟨w, Finset.mem_univ _, e⟩))
def attendSeg (h : WordsFit m) : Pipeline.RegionSeg (pcfgs (F := F)) adm (datas m) () defs₀ noVars noLev noLevel 1 :=
  regionSeg 1 launch1 (datas m) (mem3 m) (mem4 m) (fun c => body_ok1 (atRefs (mem3 m)) c (h.1 c)) (fun _ _ => rfl) (fun _ _ => rfl) (fun _ _ => rfl) (fun _ _ => rfl)
    (dat1_A (atRefs (mem3 m))) (fun c w => (mem4_arr m c w).symm)
    (fun c b hb => mem4_off m c b fun w e => hb (Finset.mem_image.mpr ⟨w, Finset.mem_univ _, e⟩))
def poolSeg (h : WordsFit m) : Pipeline.RegionSeg (pcfgs (F := F)) adm (datas m) () defs₀ noVars noLev noLevel 2 :=
  regionSeg 2 launch2 (datas m) (mem5 m) (mem6 m) (fun c => body_ok2 (atRefs (mem5 m)) c (h.2 c)) (fun _ _ => rfl) (fun _ _ => rfl) (fun _ _ => rfl) (fun _ _ => rfl)
    (dat2_A (atRefs (mem5 m))) (fun c w => (mem6_arr m c w).symm)
    (fun c b hb => mem6_off m c b fun w e => hb (Finset.mem_image.mpr ⟨w, Finset.mem_univ _, e⟩))

/-- A run of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVars noLev noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- The program's seven parts in order. -/
abbrev parts (h : WordsFit m) : List (Pipeline.Seg (pcfgs (F := F)) adm (datas m) () defs₀ noVars noLev noLevel) :=
  [ .host (hostSeg hostOps0 hostOps0_sub hostOps0_fresh (V0 m)),
    .region (projSeg m),
    .host (hostSeg hostOps1 hostOps1_sub hostOps1_fresh (mem2 m)),
    .region (attendSeg m h),
    .host (hostSeg hostOps2 hostOps2_sub hostOps2_fresh (mem4 m)),
    .region (poolSeg m h),
    .host (hostSeg hostOps3 hostOps3_sub hostOps3_fresh (mem6 m)) ]

theorem main_parts (h : WordsFit m) (c : Dev nD) : main (F := F) c = Pipeline.Seg.run (parts m h) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The program runs to its end and leaves every unscoped buffer at `mem7`, every counter at zero. -/
theorem run_mem (ρ : Dev nD → PrngReg) (h : WordsFit m) :
    θ_run defs (onTc (τ := τ) (main (F := F))) ⟨m, fun _ => 0, ρ⟩ (fun r =>
      (∀ c : Dev nD, ∀ b ∈ Pipeline.ucRefs τ sig, r.2.mem (((c : Thread nD τ)).1, b) = mem7 m c b) ∧ r.2.sem = fun _ => 0) :=
  Pipeline.θ_run_regions_kit_sems (pcfgs (F := F)) adm (datas m) () cellOf_inj emb₁ defs₀ noVars noLev noLevel m ρ main (parts m h)
    (fun c Q => by rw [main_parts m h c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c))
    (Tₙ := fun c => iprop(StableHlo.held (c : Thread nD τ) (Pipeline.ucRefs τ sig) (mem7 m c) ∗ ∃ r, prngReg c r))
    (hch := ⟨fun _ => .rfl, fun _ => .rfl, fun _ => .rfl, fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach noLev noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem7 m c b)
    (hfin := fun c s' => by
      iintro ⟨⟨Hh, -⟩, HSI⟩
      unfold StableHlo.held
      imodintro
      iapply (pointsTo_read_all (Pipeline.ucRefs τ sig) (fun b => (((c : Thread nD τ)).1, b)) (mem7 m c) s')
      isplitl [Hh] <;> iassumption)
    (hQ := fun s h hz => ⟨h, funext fun g => hz g (.inr (regions_no_unscoped g.2))⟩)

end Cert.KernelIdeal.Proof

end
-- ==== Proof.Ideal.Words.lean ====
/-
  The words the two row-reading kernels are given, as the host operations leave them, and their bounds; then the frame:
  the program runs and leaves its arguments as they were.
-/
module

public import proofs.«01_k».proof.Proof.Ideal.Launch
public import proofs.«01_k».proof.Proof.Domain
public import Idealize.ShloMosaic.Lib.StableHlo.Run

@[expose] public section

noncomputable section

namespace Cert.KernelIdeal.Proof

open Cert.KernelIdeal Cert.KernelIdeal.Gen
open Idealize.ShloMosaic Idealize.ShloMosaic.TcCoe Idealize.ShloMosaic.StableHlo
open Idealize.SL.Sem

variable {F : FTy → Type} [FloatOps F] [Named F]
variable (m : (ℓ : Loc nD τ sig) → Buf (Elt F) ℓ)

/-- The ancestor words, one row of them per block of codes. -/
theorem words_at (c : Dev nD) :
    mem3 m c (Proc.devRef .tc main_v18) = shapeCast S50x1x1600 (shapeCast S80000 (m ((c : Thread nD τ).loc main_arg10) : Vec F S10000x8 .i32) shapeCasts_S10000x8_S80000) shapeCasts_S80000_S50x1x1600 := by
  refine Eq.trans ?_ (congrArg (fun x : Vec F S10000x8 .i32 => shapeCast S50x1x1600 (shapeCast S80000 x shapeCasts_S10000x8_S80000) shapeCasts_S80000_S50x1x1600) (mem2_arg m c main_arg10 (by decide)))
  unfold mem3
  generalize mem2 m c = W
  after_results
  rfl

/-- The rows the pooling reads: one less than the code, and row zero for the empty slot. -/
theorem slots_at (c : Dev nD) :
    mem5 m c (Proc.devRef .tc main_v34)
      = maxsi (subi (shapeCast S512x48 (m ((c : Thread nD τ).loc main_arg11) : Vec F S16x32x48 .i32) shapeCasts_S16x32x48_S512x48) (broadcastInDim S512x48 ![] bcast_S_S512x48 (constantI S_ 32 1#32)))
          (broadcastInDim S512x48 ![] bcast_S_S512x48 (constantI S_ 32 0#32)) := by
  refine Eq.trans ?_ (congrArg (fun x : Vec F S16x32x48 .i32 => (maxsi (subi (shapeCast S512x48 x shapeCasts_S16x32x48_S512x48) (broadcastInDim S512x48 ![] bcast_S_S512x48 (constantI S_ 32 1#32)))
          (broadcastInDim S512x48 ![] bcast_S_S512x48 (constantI S_ 32 0#32)) : IVec S512x48 32)) (mem4_arg m c main_arg11 (by decide)))
  unfold mem5
  generalize mem4 m c = W
  after_results
  rfl

/-- One less, but never below zero. -/
theorem pred_lt {x : BitVec 32} (h : x.toNat ≤ 10000) : (IntOp.maxsi (IntOp.subi x 1#32) 0#32).toNat < 10000 := by
  unfold IntOp.maxsi IntOp.subi
  split
  · rename_i e
    have a := BitVec.slt_iff_toInt_lt.mp e
    rw [show (0#32 : BitVec 32).toInt = 0 from by decide, BitVec.toInt_eq_toNat_cond] at a
    rw [BitVec.toNat_sub] at *
    simp only [BitVec.toNat_ofNat] at *
    split at a <;> omega
  · decide

/-- The bounds on the two integer arguments bound every word the kernels read a row by. -/
theorem wordsFit (h : ∀ c : Dev nD, (∀ i, (m ((c : Thread nD τ).loc main_arg10) i : BitVec 32).toNat < 40000) ∧ ∀ i, (m ((c : Thread nD τ).loc main_arg11) i : BitVec 32).toNat ≤ 10000) : WordsFit m := by
  constructor
  · intro c t j
    show (mem3 m c (Proc.devRef .tc main_v18) _ : BitVec 32).toNat < _
    rw [words_at]
    exact (h c).1 _
  · intro c t j
    show (mem5 m c (Proc.devRef .tc main_v34) _ : BitVec 32).toNat < _
    rw [slots_at]
    exact pred_lt ((h c).2 _)

/-- The program runs, keeps its arguments, and leaves every counter at zero. -/
theorem frame_of (ρ : Dev nD → PrngReg) (h : WordsFit m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r e => ⟨fun c =>
    have keep (a : Ref sig .tc) (ha : a ∈ argRefs) (hu : ¬ (Proc.devRef .tc a : DevRef τ sig).isScoped) : r.2.mem ((c.tc : Thread nD τ).loc a) = m ((c.tc : Thread nD τ).loc a) :=
      (e.1 c _ (mem_uc a hu)).trans (mem7_arg m c a ha)
    ⟨keep main_arg0 (by decide) (by decide), keep main_arg1 (by decide) (by decide), keep main_arg2 (by decide) (by decide), keep main_arg3 (by decide) (by decide), keep main_arg4 (by decide) (by decide), keep main_arg5 (by decide) (by decide), keep main_arg6 (by decide) (by decide), keep main_arg7 (by decide) (by decide), keep main_arg8 (by decide) (by decide), keep main_arg9 (by decide) (by decide), keep main_arg10 (by decide) (by decide), keep main_arg11 (by decide) (by decide)⟩, e.2⟩) (run_mem m ρ h)

end Cert.KernelIdeal.Proof

end
-- ==== Proof.Frames.lean ====
/-
  Every claim but the value: the three programs run and keep their arguments, and each rewriting rule keeps its promise.
-/
module

public import proofs.«01_k».proof.Defs
public import proofs.«01_k».proof.Proof.Bits.Words
public import proofs.«01_k».proof.Proof.Ideal.Words
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Bf16Pair
public import Idealize.ShloMosaic.Lib.Bf16PairInverse
public import Idealize.ShloMosaic.Init

@[expose] public section

noncomputable section

namespace Cert.Proof

open Idealize.ShloMosaic Idealize.SL.Sem Cert.Domain

/-- The kernel over machine words. -/
theorem kernel_frame : Cert.quiescent_Kernel :=
  fun m g h => Cert.Kernel.Proof.frame_of m g (Cert.Kernel.Proof.wordsFit m fun c => in_range_words _ _ _ _ _ _ _ _ _ _ _ _ (h c))

/-- The kernel over the extended reals. -/
theorem ideal_frame : Cert.quiescent_KernelIdeal :=
  fun m g h => Cert.KernelIdeal.Proof.frame_of m g (Cert.KernelIdeal.Proof.wordsFit m fun c => in_range_words _ _ _ _ _ _ _ _ _ _ _ _ (h c))

/-- The words of an argument list the second precondition holds of are in range too. -/
theorem proper_fit (m : (ℓ : Loc Cert.KernelIdeal.nD Cert.KernelIdeal.τ Cert.KernelIdeal.sig) → Buf (Elt Ideal) ℓ) (h : Cert.Pre_KernelIdeal_proper m) : Cert.KernelIdeal.Proof.WordsFit m :=
  Cert.KernelIdeal.Proof.wordsFit m fun c => ⟨(proper_facts _ _ _ _ _ _ _ _ _ _ _ _ (h c)).anc, (proper_facts _ _ _ _ _ _ _ _ _ _ _ _ (h c)).ids⟩

/-- The kernel over the extended reals, where the value claim reads it. -/
theorem ideal_frame_proper : Cert.quiescent_KernelIdeal_pre_proper :=
  fun m g h => Cert.KernelIdeal.Proof.frame_of m g (proper_fit m h)

/-- The reference from any memory: no operation of it writes an argument, and it has no counter. -/
theorem reference_frame : Cert.quiescent_ReferenceIdeal := fun m g _ =>
  (θ_run (Cert.ReferenceIdeal.defs (F := Ideal)) _ _).mono (fun r h => ⟨fun c => (h c).2, Idealize.ShloMosaic.sem_eq_zero_of_no_sems (by decide) r.2⟩) (Cert.ReferenceIdeal.Value.run m g)

/-- The same where the value claim reads it. -/
theorem reference_frame_proper : Cert.quiescent_ReferenceIdeal_pre_proper := fun m g _ => reference_frame m g trivial

/-- Each rewriting rule at each place it was used. -/
theorem rules_keep : Cert.preserves_Kernel_KernelIdeal :=
  ⟨IdealRules.bf16_pair.bufferStatement _ _, IdealRules.bf16_pair.bufferStatement _ _, IdealRules.bf16_pair.packStatement _,
    IdealRules.bf16_pair.statement _ _, IdealRules.bf16_pair.bufferStatement _ _,
    IdealRules.named_const.statement Cert.KernelIdeal.κ "mask" .f32 _ _ rfl,
    IdealRules.bf16_pair.statement _ _, IdealRules.bf16_pair.statement _ _, IdealRules.bf16_pair.statement _ _⟩

end Cert.Proof

end
-- ==== Proof.Value.Softmax.lean ====
/-
  The softmax of eight extended reals: a shift changes nothing, and where each is a real number or minus infinity, one of
  them a real number, the weights are real numbers, zero at minus infinity.
-/
module

public import Idealize.ShloMosaic.Lib.IdealHost

@[expose] public section

noncomputable section

namespace Cert.Value

open Idealize.ShloMosaic

/-- The largest of eight. -/
def top (l : Fin 8 → EReal) : EReal := Finset.fold max ⊥ l Finset.univ

/-- Each exponential, less the largest, over their sum. -/
def softmax (l : Fin 8 → EReal) (a : Fin 8) : EReal := Ideal.div (Ideal.exp (l a - top l)) (∑ b, Ideal.exp (l b - top l))

theorem top_eq_sup (l : Fin 8 → EReal) : top l = Finset.univ.sup l := rfl

/-- A real number, or minus infinity. -/
def Finite (x : EReal) : Prop := x = ⊥ ∨ ∃ r : ℝ, x = r

theorem Finite.ne_top {x : EReal} (h : Finite x) : x ≠ ⊤ := by
  rcases h with rfl | ⟨r, rfl⟩ <;> simp

/-- The largest of eight such, one of them a real number, is a real number. -/
theorem top_real {l : Fin 8 → EReal} (h : ∀ a, Finite (l a)) {z : Fin 8} (h0 : l z ≠ ⊥) : ∃ r : ℝ, top l = r := by
  obtain ⟨a, -, e⟩ := Finset.exists_mem_eq_sup Finset.univ Finset.univ_nonempty l
  have g : l z ≤ Finset.univ.sup l := Finset.le_sup (Finset.mem_univ z)
  rcases h a with b | ⟨r, b⟩
  · rw [e, b] at g
    exact absurd (le_bot_iff.mp g) h0
  · exact ⟨r, by rw [top_eq_sup, e, b]⟩

/-- Adding one real number to all adds it to the largest. -/
theorem top_shift (l : Fin 8 → EReal) (s : ℝ) : top (fun a => l a + s) = top l + s := by
  refine le_antisymm (Finset.sup_le fun a _ => add_le_add_left (Finset.le_sup (Finset.mem_univ a)) _) ?_
  obtain ⟨a, -, e⟩ := Finset.exists_mem_eq_sup Finset.univ Finset.univ_nonempty l
  rw [top_eq_sup, e]
  exact Finset.le_sup (f := fun a => l a + (s : EReal)) (Finset.mem_univ a)

/-- The shift cancels. -/
theorem sub_shift {x : EReal} (h : Finite x) (r s : ℝ) : (x + s) - ((r : EReal) + s) = x - r := by
  rcases h with rfl | ⟨q, rfl⟩
  · simp [← EReal.coe_add]
  · rw [← EReal.coe_add, ← EReal.coe_add, ← EReal.coe_sub, ← EReal.coe_sub]
    congr 1
    ring

theorem softmax_shift {l : Fin 8 → EReal} (h : ∀ a, Finite (l a)) {z : Fin 8} (h0 : l z ≠ ⊥) (s : ℝ) : softmax (fun a => l a + s) = softmax l := by
  obtain ⟨r, e⟩ := top_real h h0
  funext a
  unfold softmax
  rw [top_shift, e]
  simp only [sub_shift (h _)]

/-- An exponential of the difference is a real number, positive except at minus infinity, where it is zero. -/
theorem exp_sub {x : EReal} (h : Finite x) (r : ℝ) : ∃ q : ℝ, Ideal.exp (x - r) = q ∧ 0 ≤ q ∧ (x = ⊥ → q = 0) ∧ (x ≠ ⊥ → 0 < q) := by
  rcases h with rfl | ⟨p, rfl⟩
  · exact ⟨0, by rw [EReal.bot_sub]; rfl, le_rfl, fun _ => rfl, fun e => absurd rfl e⟩
  · refine ⟨Real.exp (p - r), ?_, (Real.exp_pos _).le, fun e => absurd e (EReal.coe_ne_bot p), fun _ => Real.exp_pos _⟩
    rw [← EReal.coe_sub]
    rfl

/-- A sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The weights are real numbers, zero where the logit is minus infinity. -/
theorem softmax_real {l : Fin 8 → EReal} (h : ∀ a, Finite (l a)) {z : Fin 8} (h0 : l z ≠ ⊥) :
    ∃ p : Fin 8 → ℝ, ∀ a, softmax l a = p a ∧ (l a = ⊥ → p a = 0) := by
  obtain ⟨r, e⟩ := top_real h h0
  choose q hq hn ht hp using fun a => exp_sub (h a) r
  have pos : 0 < ∑ b, q b := Finset.sum_pos' (fun b _ => hn b) ⟨z, Finset.mem_univ _, hp z h0⟩
  refine ⟨fun a => q a / ∑ b, q b, fun a => ⟨?_, fun hb => ?_⟩⟩
  · unfold softmax
    simp only [e, hq]
    rw [← coe_sum, div_real pos.ne']
  · simp only [ht a hb, zero_div]

end Cert.Value

end
-- ==== Proof.Value.Payloads.lean ====
/-
  What the three kernel bodies compute, over the extended reals, read at one index.
-/
module

public import proofs.«01_k».proof.Proof.Ideal.Project
public import proofs.«01_k».proof.Proof.Ideal.Attend
public import proofs.«01_k».proof.Proof.Ideal.Pool
public import Idealize.ShloMosaic.Lib.Pointwise
public import Idealize.ShloMosaic.Lib.IdealHost
public import proofs.«01_k».proof.Proof.Value.Softmax

@[expose] public section

set_option maxRecDepth 16384

noncomputable section

namespace Cert.KernelIdeal.Proof

open Cert.KernelIdeal Cert.KernelIdeal.Gen
open Idealize.ShloMosaic
open Cert.Value (softmax)

section Project
variable (x : Vec Ideal S1000x768 .f32) (w : Vec Ideal S768x2048 .bf16) (b : Vec Ideal S1x2048 .f32)

/-- The block's product with the joined weights, and the joined bias. -/
theorem product_apply (r : Fin 1000) (d : Fin 2048) :
    k0_pay1 x w b (ix2 r d) = (∑ k : Fin 768, (x (ix2 r k) : EReal) * (w (ix2 k d) : EReal)) + (b (ix2 0 d) : EReal) := by
  pointwise [k0_pay1]

theorem leafPart_apply (r : Fin 1000) (d : Fin 768) : k0_pay2 x w b (ix2 r d) = k0_pay1 x w b (ix2 r ⟨d.val, by omega⟩) := by
  pointwise [k0_pay2, k0_pay1]

theorem ancPart_apply (r : Fin 1000) (d : Fin 768) : k0_pay3 x w b (ix2 r d) = k0_pay1 x w b (ix2 r ⟨768 + d.val, by omega⟩) := by
  pointwise [k0_pay3, k0_pay1]

/-- The packed part: word row `q`, its low half at `p = 0` and its high half at `p = 1`. -/
theorem packedPart_apply (r : Fin 1000) (q p : Fin 2) (l : Fin 128) :
    k0_pay4 x w b (ix4 r q p l) = k0_pay1 x w b (ix2 r ⟨1536 + 256 * q.val + 128 * p.val + l.val, by omega⟩) := by
  unfold k0_pay4
  generalize k0_pay1 x w b = P
  pointwise
  split <;> split <;> exact congrArg P (congrArg (ix2 r) (Fin.ext (by dsimp only; omega)))
end Project

section Attend

/-- The word that stands for an ancestor left out. -/
theorem mask_named : (Named.named (F := Ideal) (φ := .f32) κ "mask" 0xF149F2CA#32 : EReal) = ⊥ :=
  IdealRules.named_const.ideal_named_scalar (φ := .f32) κ "mask" 0xF149F2CA#32 ⊥ rfl

theorem floor_word : Ideal.ofBits .f32 0xFF800000#32 = ⊥ := by simp [Ideal.ofBits, Ideal.ieee]

/-- A logit of a block: one row of the hidden layer against one column of the weight, and the mask's term. -/
def blockLogit (x1 x2 : Vec Ideal S1600x768 .bf16) (x3 : Vec Ideal S1600x1 .f32) (x4 : Vec Ideal S768x8 .bf16) (n : Fin 200) (h a : Fin 8) : EReal :=
  (∑ k : Fin 768, max ((x1 (ix2 ⟨n.val * 8 + a.val, by omega⟩ k) : EReal) + (x2 (ix2 ⟨n.val * 8 + a.val, by omega⟩ k) : EReal)) 0 * (x4 (ix2 k h) : EReal))
    + (1 - (x3 (ix2 ⟨n.val * 8 + a.val, by omega⟩ 0) : EReal)) * ⊥

/-- The weights of a block are the softmax of its logits over the ancestors. -/
theorem weights_apply (x1 x2 : Vec Ideal S1600x768 .bf16) (x3 : Vec Ideal S1600x1 .f32) (x4 : Vec Ideal S768x8 .bf16) (n : Fin 200) (a h : Fin 8) :
    weights x1 x2 x3 x4 (ix3 n a h) = softmax (blockLogit x1 x2 x3 x4 n h) a := by
  unfold weights
  pointwise [k1_pay54]
  rw [mask_named, floor_word]
  rfl

/-- The rows of a table of pairs, its two halves put one after the other. -/
theorem pairRow_apply (X : Vec Ideal S200x2x2x128 .bf16) (n : Fin 200) (p : Fin 4) (l : Fin 128) :
    k1_pay55 X (ix3 n p l) = X (ix4 n ⟨p.val / 2, by omega⟩ ⟨p.val % 2, by omega⟩ l) := by
  pointwise [k1_pay55]
  split
  · exact congrArg (fun q => X (ix4 n _ q l)) (Fin.ext (by show 0 = p.val % 2; omega))
  · exact congrArg (fun q => X (ix4 n _ q l)) (Fin.ext (by show 1 = p.val % 2; omega))

/-- The rows of one ancestor's place, as the gather left them. -/
theorem gatheredPart_apply (x0 : Vec Ideal S1x1x1600 .i32) (x5 : Vec Ideal S40000x2x2x128 .bf16) (o : Fin 4 → ℕ) (a : Fin 8) (ho : o = ![200 * a.val, 0, 0, 0])
    (inb : ∀ k, o k + S200x2x2x128.size k ≤ S1600x2x2x128.size k) (n : Fin 200) (q p : Fin 2) (l : Fin 128) :
    View.ld (gathered x0 x5) (Rect.unit (s := S1600x2x2x128) o S200x2x2x128.size inb) (ix4 n q p l)
      = x5 (ix4 (rowOf 40000 (by omega) (x0 (ix3 0 0 ⟨8 * n.val + a.val, by omega⟩))) q p l) := by
  subst ho
  have e : View.ld (gathered x0 x5) (Rect.unit (s := S1600x2x2x128) ![200 * a.val, 0, 0, 0] S200x2x2x128.size inb) (ix4 n q p l)
      = gathered x0 x5 (ix4 ⟨200 * a.val + n.val, by omega⟩ q p l) := by
    pointwise
  rw [e]
  refine congrArg (fun w => x5 (ix4 (rowOf 40000 (by omega) (x0 (ix3 0 0 w))) q p l)) (Fin.ext ?_)
  show 8 * ((200 * a.val + n.val) % 200) + (200 * a.val + n.val) / 200 = 8 * n.val + a.val
  omega

/-- The block's result: the ancestors' rows under the softmax. -/
theorem attended_apply (x0 : Vec Ideal S1x1x1600 .i32) (x1 x2 : Vec Ideal S1600x768 .bf16) (x3 : Vec Ideal S1600x1 .f32) (x4 : Vec Ideal S768x8 .bf16)
    (x5 : Vec Ideal S40000x2x2x128 .bf16) (n : Fin 200) (p : Fin 4) (l : Fin 128) :
    attended x0 x1 x2 x3 x4 x5 (ix3 n p l)
      = ∑ a : Fin 8, (x5 (ix4 (rowOf 40000 (by omega) (x0 (ix3 0 0 ⟨8 * n.val + a.val, by omega⟩))) ⟨p.val / 2, by omega⟩ ⟨p.val % 2, by omega⟩ l) : EReal) * softmax (blockLogit x1 x2 x3 x4 n 0) a := by
  have g (a : Fin 8) (o : Fin 4 → ℕ) (ho : o = ![200 * a.val, 0, 0, 0]) (inb : ∀ k, o k + S200x2x2x128.size k ≤ S1600x2x2x128.size k) :
      k1_pay55 (View.ld (gathered x0 x5) (Rect.unit (s := S1600x2x2x128) o S200x2x2x128.size inb)) (ix3 n p l)
        = x5 (ix4 (rowOf 40000 (by omega) (x0 (ix3 0 0 ⟨8 * n.val + a.val, by omega⟩))) ⟨p.val / 2, by omega⟩ ⟨p.val % 2, by omega⟩ l) := by
    rw [pairRow_apply, gatheredPart_apply x0 x5 o a ho]
  have u (a : Fin 8) (ha : S200x8x8.Slices ![0, a.val, 0] S200x1x1) :
      broadcastTo S200x4x128 (extractStridedSlice S200x1x1 ![0, a.val, 0] (weights x1 x2 x3 x4) ha) broadcasts_S200x1x1_S200x4x128 (ix3 n p l) = softmax (blockLogit x1 x2 x3 x4 n 0) a := by
    rw [← weights_apply]
    pointwise
  rw [Fin.sum_univ_eight]
  rw [← g 0 _ rfl inb_S1600x2x2x128_S200x2x2x128_0_0_0_0, ← g 1 _ rfl inb_S1600x2x2x128_S200x2x2x128_200_0_0_0, ← g 2 _ rfl inb_S1600x2x2x128_S200x2x2x128_400_0_0_0,
    ← g 3 _ rfl inb_S1600x2x2x128_S200x2x2x128_600_0_0_0, ← g 4 _ rfl inb_S1600x2x2x128_S200x2x2x128_800_0_0_0, ← g 5 _ rfl inb_S1600x2x2x128_S200x2x2x128_1000_0_0_0,
    ← g 6 _ rfl inb_S1600x2x2x128_S200x2x2x128_1200_0_0_0, ← g 7 _ rfl inb_S1600x2x2x128_S200x2x2x128_1400_0_0_0]
  rw [← u 0 slices_S200x8x8_o0_0_0_S200x1x1, ← u 1 slices_S200x8x8_o0_1_0_S200x1x1, ← u 2 slices_S200x8x8_o0_2_0_S200x1x1, ← u 3 slices_S200x8x8_o0_3_0_S200x1x1,
    ← u 4 slices_S200x8x8_o0_4_0_S200x1x1, ← u 5 slices_S200x8x8_o0_5_0_S200x1x1, ← u 6 slices_S200x8x8_o0_6_0_S200x1x1, ← u 7 slices_S200x8x8_o0_7_0_S200x1x1]
  rfl
end Attend

section Pool
variable (x0 : Vec Ideal S64x48 .i32) (x1 x2 : Vec Ideal S64x48 .f32) (x3 : Vec Ideal S10000x4x128 .f32) (x4 : Vec Ideal S4x128 .f32)

theorem slotSum_apply (ws : ℕ → EReal) (rows : ℕ → Vec Ideal S1x4x128 .f32) (p : Fin 4) (l : Fin 128) (n : ℕ) :
    slotSum (F := Ideal) ws rows n (ix2 p l) = ∑ m ∈ Finset.range n, ws m * (rows m (ix3 0 p l) : EReal) := by
  induction n with
  | zero =>
    pointwise [slotSum]
    rfl
  | succ n ih =>
    rw [Finset.sum_range_succ, ← ih]
    pointwise [slotSum, slotTerm]

theorem maskSum_apply (cs : ℕ → EReal) (n : ℕ) : maskSum (F := Ideal) cs n = ∑ m ∈ Finset.range n, cs m := by
  induction n with
  | zero => exact Ideal.ofBits_zero_f32
  | succ n ih =>
    rw [Finset.sum_range_succ, ← ih]
    rfl

/-- One number of a visit's row: the slots' rows under their weights, over the count that is at least one, and the bias. -/
theorem pooled_apply (v : Fin 64) (p : Fin 4) (l : Fin 128) :
    pooled x0 x1 x2 x3 x4 (ix3 v p l)
      = (∑ m : Fin 48, (x1 (ix2 v m) : EReal) * (x3 (ix3 ⟨min (x0 (ix2 v m) : BitVec 32).toNat 9999, by omega⟩ p l) : EReal))
          * Ideal.div 1 (max (∑ m : Fin 48, (x2 (ix2 v m) : EReal)) 1) + (x4 (ix2 p l) : EReal) := by
  unfold pooled visitRow
  pointwise [k2_pay1]
  rw [slotSum_apply, maskSum_apply, ← Finset.sum_range_succ (fun m => (slotOf x2 v m : EReal)) 47,
    ← Finset.sum_range_succ (fun m => (slotOf x1 v m : EReal) * (codeRow x3 (BitVec.toNat (slotOf x0 v m)) (ix3 0 p l) : EReal)) 47,
    Finset.sum_range, Finset.sum_range]
  have e {e : EltTy} (x : Vec Ideal S64x48 e) (m : Fin 48) : slotOf x v m.val = x (ix2 v m) :=
    congrArg x (congrArg (ix2 v) (Fin.ext (by dsimp only; omega)))
  simp only [e]
  rfl
end Pool

end Cert.KernelIdeal.Proof

end
-- ==== Proof.Value.Tables.lean ====
/-
  The three tables the first region leaves, index by index, over the arrays it was given.
-/
module

public import proofs.«01_k».proof.Proof.Value.Payloads
public import proofs.«01_k».proof.Proof.Ideal.Launch
public import Idealize.ShloMosaic.Lib.Pipeline.ValueKit

@[expose] public section

set_option maxRecDepth 16384

noncomputable section

namespace Cert.KernelIdeal.Proof

open Cert.KernelIdeal Cert.KernelIdeal.Gen
open Idealize.ShloMosaic Idealize.ShloMosaic.TcCoe Idealize.SL.Sem
open Cert.Value (softmax)

variable (m : (ℓ : Loc nD τ sig) → Buf (Elt Ideal) ℓ)

/-- One number of the product with the three weights side by side, and their biases. -/
def productAt (X : Vec Ideal S40000x768 .f32) (W : Vec Ideal S768x2048 .bf16) (B : Vec Ideal S1x2048 .f32) (r : Fin 40000) (d : Fin 2048) : EReal :=
  (∑ k : Fin 768, (X (ix2 r k) : EReal) * (W (ix2 k d) : EReal)) + (B (ix2 0 d) : EReal)

/-- The leaves' columns, -/
def leafTable (X : Vec Ideal S40000x768 .f32) (W : Vec Ideal S768x2048 .bf16) (B : Vec Ideal S1x2048 .f32) : Vec Ideal S40000x768 .bf16 := fun i =>
  productAt X W B (i 0) ⟨(i 1).val, (i 1).isLt.trans (by decide)⟩

/-- the ancestors', -/
def ancTable (X : Vec Ideal S40000x768 .f32) (W : Vec Ideal S768x2048 .bf16) (B : Vec Ideal S1x2048 .f32) : Vec Ideal S40000x768 .bf16 := fun i =>
  productAt X W B (i 0) ⟨768 + (i 1).val, by have : (i 1).val < 768 := (i 1).isLt; omega⟩

/-- and the classifier's, in pairs of words. -/
def classTable (X : Vec Ideal S40000x768 .f32) (W : Vec Ideal S768x2048 .bf16) (B : Vec Ideal S1x2048 .f32) : Vec Ideal S40000x2x2x128 .bf16 := fun i =>
  productAt X W B (i 0) ⟨1536 + 256 * (i 1).val + 128 * (i 2).val + (i 3).val, by
    have : (i 1).val < 2 := (i 1).isLt
    have : (i 2).val < 2 := (i 2).isLt
    have : (i 3).val < 128 := (i 3).isLt
    omega⟩

theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0, 0, 0] :=
  (by decide +kernel : ∀ t : Fin grid0.N, _)

theorem arr0_3 (c : Dev nD) (V : (c : Dev nD) → (b : Ref sig .tc) → Buf (Elt Ideal) ((c : Thread nD τ).loc b)) :
    (dat0 V c).arrAt 3 cfg0.N = leafTable (V c main_arg0) (V c main_v3) (V c main_v7) := by
  refine (dat0 V c).arrAt_eq_of_covers 3 _ (by decide +kernel) fun t hf y => ?_
  blk_simp
  rw [after0_3]
  idx_vars y
  refine (leafPart_apply _ _ _ _ _).trans ((product_apply _ _ _ _ _).trans ?_)
  unfold leafTable productAt
  blk_point [inBlock0, idx0 t]

theorem arr0_4 (c : Dev nD) (V : (c : Dev nD) → (b : Ref sig .tc) → Buf (Elt Ideal) ((c : Thread nD τ).loc b)) :
    (dat0 V c).arrAt 4 cfg0.N = ancTable (V c main_arg0) (V c main_v3) (V c main_v7) := by
  refine (dat0 V c).arrAt_eq_of_covers 4 _ (by decide +kernel) fun t hf y => ?_
  blk_simp
  rw [after0_4]
  idx_vars y
  refine (ancPart_apply _ _ _ _ _).trans ((product_apply _ _ _ _ _).trans ?_)
  unfold ancTable productAt
  blk_point [inBlock0, idx0 t]

theorem arr0_5 (c : Dev nD) (V : (c : Dev nD) → (b : Ref sig .tc) → Buf (Elt Ideal) ((c : Thread nD τ).loc b)) :
    (dat0 V c).arrAt 5 cfg0.N = classTable (V c main_arg0) (V c main_v3) (V c main_v7) := by
  refine (dat0 V c).arrAt_eq_of_covers 5 _ (by decide +kernel) fun t hf y => ?_
  blk_simp
  rw [after0_5]
  idx_vars y
  refine (packedPart_apply _ _ _ _ _ _ _).trans ((product_apply _ _ _ _ _).trans ?_)
  unfold classTable productAt
  blk_point [inBlock0, idx0 t]

end Cert.KernelIdeal.Proof

end
-- ==== Proof.Value.Codes.lean ====
/-
  The codes' rows the second region leaves, index by index, over the arrays it was given.
-/
module

public import proofs.«01_k».proof.Proof.Value.Payloads
public import proofs.«01_k».proof.Proof.Ideal.Launch
public import Idealize.ShloMosaic.Lib.Pipeline.ValueKit

@[expose] public section

set_option maxRecDepth 16384

noncomputable section

namespace Cert.KernelIdeal.Proof

open Cert.KernelIdeal Cert.KernelIdeal.Gen
open Idealize.ShloMosaic Idealize.ShloMosaic.TcCoe Idealize.SL.Sem
open Cert.Value (softmax)

variable (m : (ℓ : Loc nD τ sig) → Buf (Elt Ideal) ℓ)

/-- The logit of one code's ancestor. -/
def rowLogit (L A : Vec Ideal S80000x768 .bf16) (M : Vec Ideal S80000x1 .f32) (U : Vec Ideal S768x8 .bf16) (n : Fin 10000) (a : Fin 8) : EReal :=
  (∑ k : Fin 768, max ((L (ix2 ⟨n.val * 8 + a.val, by omega⟩ k) : EReal) + (A (ix2 ⟨n.val * 8 + a.val, by omega⟩ k) : EReal)) 0 * (U (ix2 k 0) : EReal))
    + (1 - (M (ix2 ⟨n.val * 8 + a.val, by omega⟩ 0) : EReal)) * ⊥

/-- One number of a code's row. -/
def codeAt (Wd : Vec Ideal S50x1x1600 .i32) (L A : Vec Ideal S80000x768 .bf16) (M : Vec Ideal S80000x1 .f32) (U : Vec Ideal S768x8 .bf16)
    (T : Vec Ideal S40000x2x2x128 .bf16) (n : Fin 10000) (p : Fin 4) (l : Fin 128) : EReal :=
  ∑ a : Fin 8, (T (ix4 (rowOf 40000 (by omega) (Wd (ix3 ⟨n.val / 200, by omega⟩ 0 ⟨8 * (n.val % 200) + a.val, by omega⟩))) ⟨p.val / 2, by omega⟩ ⟨p.val % 2, by omega⟩ l) : EReal)
    * softmax (rowLogit L A M U n) a

def codeTable (Wd : Vec Ideal S50x1x1600 .i32) (L A : Vec Ideal S80000x768 .bf16) (M : Vec Ideal S80000x1 .f32) (U : Vec Ideal S768x8 .bf16)
    (T : Vec Ideal S40000x2x2x128 .bf16) : Vec Ideal S10000x4x128 .f32 := fun i => codeAt Wd L A M U T (i 0) (i 1) (i 2)

theorem idx1 : ∀ t : Fin cfg1.N, win1_0.index t = ![t.val, 0, 0] ∧ win1_1.index t = ![t.val, 0] ∧ win1_2.index t = ![t.val, 0]
    ∧ win1_3.index t = ![t.val, 0] ∧ win1_4.index t = ![0, 0] ∧ win1_5.index t = ![0, 0, 0, 0] ∧ win1_6.index t = ![t.val, 0, 0] :=
  (by decide +kernel : ∀ t : Fin grid1.N, _)

section
variable (c : Dev nD) (V : (c : Dev nD) → (b : Ref sig .tc) → Buf (Elt Ideal) ((c : Thread nD τ).loc b)) (t : Fin cfg1.N)

theorem point1_lt : t.val < 50 := (by decide : grid1.N = 50) ▸ t.isLt

theorem words_block (w : Fin 1600) : (inBlock1 V c 0 t : Vec Ideal S1x1x1600 .i32) (ix3 0 0 w) = (V c main_v18 : Vec Ideal S50x1x1600 .i32) (ix3 ⟨t.val, point1_lt t⟩ 0 w) := by
  blk_ext [inBlock1, idx1 t]

theorem leaves_block (r : Fin 1600) (k : Fin 768) : (inBlock1 V c 1 t : Vec Ideal S1600x768 .bf16) (ix2 r k)
    = (V c main_v16 : Vec Ideal S80000x768 .bf16) (ix2 ⟨1600 * t.val + r.val, by have := point1_lt t; omega⟩ k) := by
  blk_ext [inBlock1, idx1 t]

theorem ancs_block (r : Fin 1600) (k : Fin 768) : (inBlock1 V c 2 t : Vec Ideal S1600x768 .bf16) (ix2 r k)
    = (V c main_v28 : Vec Ideal S80000x768 .bf16) (ix2 ⟨1600 * t.val + r.val, by have := point1_lt t; omega⟩ k) := by
  blk_ext [inBlock1, idx1 t]

theorem masks_block (r : Fin 1600) : (inBlock1 V c 3 t : Vec Ideal S1600x1 .f32) (ix2 r 0)
    = (V c main_v19 : Vec Ideal S80000x1 .f32) (ix2 ⟨1600 * t.val + r.val, by have := point1_lt t; omega⟩ 0) := by
  blk_ext [inBlock1, idx1 t]

theorem column_block : (inBlock1 V c 4 t : Vec Ideal S768x8 .bf16) = V c main_v21 := by
  funext i
  blk_ext [inBlock1, idx1 t]

theorem class_block : (inBlock1 V c 5 t : Vec Ideal S40000x2x2x128 .bf16) = V c main_v8_2 := by
  funext i
  blk_ext [inBlock1, idx1 t]

/-- A block's logits are the codes'. -/
theorem logits_block (n : Fin 200) : blockLogit (inBlock1 V c 1 t) (inBlock1 V c 2 t) (inBlock1 V c 3 t) (inBlock1 V c 4 t) n 0
    = rowLogit (V c main_v16) (V c main_v28) (V c main_v19) (V c main_v21) ⟨200 * t.val + n.val, by have := point1_lt t; omega⟩ := by
  funext a
  have e : (⟨1600 * t.val + (n.val * 8 + a.val), by have := point1_lt t; omega⟩ : Fin 80000) = ⟨(200 * t.val + n.val) * 8 + a.val, by have := point1_lt t; omega⟩ := Fin.ext (by dsimp only; omega)
  unfold blockLogit rowLogit
  simp only [leaves_block, ancs_block, masks_block, column_block, e]

/-- A block's rows are the codes'. -/
theorem attended_block (n : Fin 200) (p : Fin 4) (l : Fin 128) :
    attended (inBlock1 V c 0 t) (inBlock1 V c 1 t) (inBlock1 V c 2 t) (inBlock1 V c 3 t) (inBlock1 V c 4 t) (inBlock1 V c 5 t) (ix3 n p l)
      = codeAt (V c main_v18) (V c main_v16) (V c main_v28) (V c main_v19) (V c main_v21) (V c main_v8_2) ⟨200 * t.val + n.val, by have := point1_lt t; omega⟩ p l := by
  refine (attended_apply _ _ _ _ _ _ _ _ _).trans (Finset.sum_congr rfl fun a _ => ?_)
  have e : (ix3 (⟨(200 * t.val + n.val) / 200, by have := point1_lt t; omega⟩ : Fin 50) (0 : Fin 1) (⟨8 * ((200 * t.val + n.val) % 200) + a.val, by omega⟩ : Fin 1600) : S50x1x1600.Idx)
      = ix3 ⟨t.val, point1_lt t⟩ 0 ⟨8 * n.val + a.val, by omega⟩ :=
    congrArg₂ (fun x y => ix3 x 0 y) (Fin.ext (by dsimp only; omega)) (Fin.ext (by dsimp only; omega))
  rw [logits_block, class_block]
  dsimp only
  rw [e, ← words_block c V t]

end

theorem arr1_6 (c : Dev nD) (V : (c : Dev nD) → (b : Ref sig .tc) → Buf (Elt Ideal) ((c : Thread nD τ).loc b)) :
    (dat1 V c).arrAt 6 cfg1.N = codeTable (V c main_v18) (V c main_v16) (V c main_v28) (V c main_v19) (V c main_v21) (V c main_v8_2) := by
  refine (dat1 V c).arrAt_eq_of_covers 6 _ (by decide +kernel) fun t hf y => ?_
  blk_simp
  rw [after1_6]
  idx_vars y
  refine (attended_block _ _ _ _ _ _).trans ?_
  refine congrArg (codeTable _ _ _ _ _ _) (a₁ := ix3 _ _ _) ?_
  blk_ext [idx1 t]

end Cert.KernelIdeal.Proof

end
-- ==== Proof.Value.Visits.lean ====
/-
  The visits' rows the third region leaves, index by index, over the arrays it was given.
-/
module

public import proofs.«01_k».proof.Proof.Value.Payloads
public import proofs.«01_k».proof.Proof.Ideal.Launch
public import Idealize.ShloMosaic.Lib.Pipeline.ValueKit

@[expose] public section

set_option maxRecDepth 16384

noncomputable section

namespace Cert.KernelIdeal.Proof

open Cert.KernelIdeal Cert.KernelIdeal.Gen
open Idealize.ShloMosaic Idealize.ShloMosaic.TcCoe Idealize.SL.Sem
open Cert.Value (softmax)

variable (m : (ℓ : Loc nD τ sig) → Buf (Elt Ideal) ℓ)

/-- One number of a visit's row. -/
def visitAt (Sl : Vec Ideal S512x48 .i32) (Wt Ms : Vec Ideal S512x48 .f32) (D : Vec Ideal S10000x4x128 .f32) (B : Vec Ideal S4x128 .f32)
    (v : Fin 512) (p : Fin 4) (l : Fin 128) : EReal :=
  (∑ m : Fin 48, (Wt (ix2 v m) : EReal) * (D (ix3 ⟨min (Sl (ix2 v m) : BitVec 32).toNat 9999, by omega⟩ p l) : EReal))
    * Ideal.div 1 (max (∑ m : Fin 48, (Ms (ix2 v m) : EReal)) 1) + (B (ix2 p l) : EReal)

def visitTable (Sl : Vec Ideal S512x48 .i32) (Wt Ms : Vec Ideal S512x48 .f32) (D : Vec Ideal S10000x4x128 .f32) (B : Vec Ideal S4x128 .f32) : Vec Ideal S512x4x128 .f32 := fun i =>
  visitAt Sl Wt Ms D B (i 0) (i 1) (i 2)

theorem idx2 : ∀ t : Fin cfg2.N, win2_0.index t = ![t.val, 0] ∧ win2_1.index t = ![t.val, 0] ∧ win2_2.index t = ![t.val, 0]
    ∧ win2_3.index t = ![0, 0, 0] ∧ win2_4.index t = ![0, 0] ∧ win2_5.index t = ![t.val, 0, 0] :=
  (by decide +kernel : ∀ t : Fin grid2.N, _)

section
variable (c : Dev nD) (V : (c : Dev nD) → (b : Ref sig .tc) → Buf (Elt Ideal) ((c : Thread nD τ).loc b)) (t : Fin cfg2.N)

theorem point2_lt : t.val < 8 := (by decide : grid2.N = 8) ▸ t.isLt

theorem slots_block (v : Fin 64) (s : Fin 48) : (inBlock2 V c 0 t : Vec Ideal S64x48 .i32) (ix2 v s)
    = (V c main_v34 : Vec Ideal S512x48 .i32) (ix2 ⟨64 * t.val + v.val, by have := point2_lt t; omega⟩ s) := by
  blk_ext [inBlock2, idx2 t]

theorem shares_block (v : Fin 64) (s : Fin 48) : (inBlock2 V c 1 t : Vec Ideal S64x48 .f32) (ix2 v s)
    = (V c main_v39 : Vec Ideal S512x48 .f32) (ix2 ⟨64 * t.val + v.val, by have := point2_lt t; omega⟩ s) := by
  blk_ext [inBlock2, idx2 t]

theorem counts_block (v : Fin 64) (s : Fin 48) : (inBlock2 V c 2 t : Vec Ideal S64x48 .f32) (ix2 v s)
    = (V c main_v35 : Vec Ideal S512x48 .f32) (ix2 ⟨64 * t.val + v.val, by have := point2_lt t; omega⟩ s) := by
  blk_ext [inBlock2, idx2 t]

theorem codes_block : (inBlock2 V c 3 t : Vec Ideal S10000x4x128 .f32) = V c main_v29 := by
  funext i
  blk_ext [inBlock2, idx2 t]

theorem bias_block : (inBlock2 V c 4 t : Vec Ideal S4x128 .f32) = V c main_v40 := by
  funext i
  blk_ext [inBlock2, idx2 t]

/-- A block's rows are the visits'. -/
theorem pooled_block (v : Fin 64) (p : Fin 4) (l : Fin 128) :
    pooled (inBlock2 V c 0 t) (inBlock2 V c 1 t) (inBlock2 V c 2 t) (inBlock2 V c 3 t) (inBlock2 V c 4 t) (ix3 v p l)
      = visitAt (V c main_v34) (V c main_v39) (V c main_v35) (V c main_v29) (V c main_v40) ⟨64 * t.val + v.val, by have := point2_lt t; omega⟩ p l := by
  refine (pooled_apply _ _ _ _ _ _ _ _).trans ?_
  unfold visitAt
  simp only [slots_block, shares_block, counts_block, codes_block, bias_block]

end

theorem arr2_5 (c : Dev nD) (V : (c : Dev nD) → (b : Ref sig .tc) → Buf (Elt Ideal) ((c : Thread nD τ).loc b)) :
    (dat2 V c).arrAt 5 cfg2.N = visitTable (V c main_v34) (V c main_v39) (V c main_v35) (V c main_v29) (V c main_v40) := by
  refine (dat2 V c).arrAt_eq_of_covers 5 _ (by decide +kernel) fun t hf y => ?_
  blk_simp
  rw [after2_5]
  idx_vars y
  refine (pooled_block _ _ _ _ _ _).trans ?_
  refine congrArg (visitTable _ _ _ _ _) (a₁ := ix3 _ _ _) ?_
  blk_ext [idx2 t]

end Cert.KernelIdeal.Proof

end
-- ==== Proof.Value.Rows.lean ====
/-
  Reading the rows of a table at an array of row numbers, for the three such reads of the two programs.
-/
module

public import proofs.«01_k».proof.KernelIdeal
public import proofs.«01_k».proof.ReferenceIdeal
public import Idealize.ShloMosaic.Lib.Pointwise

@[expose] public section

set_option maxRecDepth 16384

noncomputable section

namespace Cert.Value

open Idealize.ShloMosaic

section
variable {α : Type} {N C w : ℕ} {si t : Shape} (d : GatherDims ⟨2, ![N, C]⟩ si t) (x : (⟨2, ![N, C]⟩ : Shape).Idx → α) (idx : IVec si w) (j : t.Idx)

/-- Such a read, once its two coordinates are known. -/
theorem gather_row (r : Fin N) (k : Fin C) (e0 : d.start j idx 0 + d.batchCoord j 0 + d.offCoord j 0 = r.val)
    (e1 : d.start j idx 1 + d.batchCoord j 1 + d.offCoord j 1 = k.val) : Host.gather d x idx j = x (ix2 r k) := by
  unfold Host.gather
  refine congrArg x (funext fun a => Fin.ext ?_)
  match a with
  | ⟨0, _⟩ => exact e0
  | ⟨1, _⟩ => exact e1

/-- Along the rows the coordinate is the row number, clamped. -/
theorem row_coord (hc : d.collapsedSliceDims = [0]) (hb : d.operandBatchingDims = []) (hm : (0 : Fin 2) ∈ d.startIndexMap) (hs : d.sliceSizes 0 = 1) (i : si.Idx)
    (e : d.siIdx j ⟨List.idxOf (0 : Fin 2) d.startIndexMap, List.idxOf_lt_length_iff.2 hm⟩ = i) :
    d.start j idx 0 + d.batchCoord j 0 + d.offCoord j 0 = min (idx i).toInt.toNat (N - 1) := by
  rw [GatherDims.batchCoord_eq_zero _ _ _ (by rw [hb]; exact List.not_mem_nil),
    GatherDims.offCoord_eq_zero _ _ _ (fun h => ((GatherDims.mem_sKept _ _).mp h).1 (by rw [hc]; exact List.mem_singleton.mpr rfl))]
  unfold GatherDims.start
  rw [dif_pos hm, e, hs]
  rfl

/-- Along the columns it is the result's own. -/
theorem col_coord (hb : d.operandBatchingDims = []) (hm : (1 : Fin 2) ∉ d.startIndexMap) (k : ℕ) (e : d.offCoord j 1 = k) :
    d.start j idx 1 + d.batchCoord j 1 + d.offCoord j 1 = k := by
  rw [GatherDims.batchCoord_eq_zero _ _ _ (by rw [hb]; exact List.not_mem_nil), e]
  unfold GatherDims.start
  rw [dif_neg hm, Nat.add_zero, Nat.zero_add]

end

theorem leaf_gather {α : Type} (x : KernelIdeal.S40000x768.Idx → α) (idx : IVec KernelIdeal.S80000x1 32) (i : Fin 80000) (k : Fin 768) [KernelIdeal.Facts] :
    Host.gather KernelIdeal.gather_S40000x768_S80000x1_S80000x768_1_0_n_n_0_1_1768 x idx (ix2 i k) = x (ix2 ⟨min (idx (ix2 i 0)).toInt.toNat 39999, by omega⟩ k) := by
  refine gather_row _ x idx (ix2 i k) _ _ (row_coord _ idx _ rfl rfl (List.mem_singleton.mpr rfl) rfl (ix2 i 0) (funext fun b => Fin.ext ?_)) (col_coord _ idx _ rfl (fun h => absurd (List.mem_singleton.mp h) (by decide)) _ rfl)
  match b with
  | ⟨0, _⟩ => rfl
  | ⟨1, _⟩ => rfl

theorem tree_gather {α : Type} (x : ReferenceIdeal.S40000x768.Idx → α) (idx : IVec ReferenceIdeal.S10000x8x1 32) (n : Fin 10000) (a : Fin 8) (k : Fin 768) [ReferenceIdeal.Facts] :
    Host.gather ReferenceIdeal.gather_S40000x768_S10000x8x1_S10000x8x768_2_0_n_n_0_2_1768 x idx (ix3 n a k) = x (ix2 ⟨min (idx (ix3 n a 0)).toInt.toNat 39999, by omega⟩ k) := by
  refine gather_row _ x idx (ix3 n a k) _ _ (row_coord _ idx _ rfl rfl (List.mem_singleton.mpr rfl) rfl (ix3 n a 0) (funext fun b => Fin.ext ?_)) (col_coord _ idx _ rfl (fun h => absurd (List.mem_singleton.mp h) (by decide)) _ rfl)
  match b with
  | ⟨0, _⟩ => rfl
  | ⟨1, _⟩ => rfl
  | ⟨2, _⟩ => rfl

theorem code_gather {α : Type} (x : ReferenceIdeal.S10001x768.Idx → α) (idx : IVec ReferenceIdeal.S16x32x48x1 32) (b : Fin 16) (v : Fin 32) (s : Fin 48) (k : Fin 768) [ReferenceIdeal.Facts] :
    Host.gather ReferenceIdeal.gather_S10001x768_S16x32x48x1_S16x32x48x768_3_0_n_n_0_3_1768 x idx (ix4 b v s k) = x (ix2 ⟨min (idx (ix4 b v s 0)).toInt.toNat 10000, by omega⟩ k) := by
  refine gather_row _ x idx (ix4 b v s k) _ _ (row_coord _ idx _ rfl rfl (List.mem_singleton.mpr rfl) rfl (ix4 b v s 0) (funext fun b => Fin.ext ?_)) (col_coord _ idx _ rfl (fun h => absurd (List.mem_singleton.mp h) (by decide)) _ rfl)
  match b with
  | ⟨0, _⟩ => rfl
  | ⟨1, _⟩ => rfl
  | ⟨2, _⟩ => rfl
  | ⟨3, _⟩ => rfl

end Cert.Value

end
-- ==== Proof.Value.Inputs.lean ====
/-
  What the host operations hand each region, and the result array of the kernel as one function of the arguments.
-/
module

public import proofs.«01_k».proof.Proof.Value.Tables
public import proofs.«01_k».proof.Proof.Value.Codes
public import proofs.«01_k».proof.Proof.Value.Visits
public import proofs.«01_k».proof.Proof.Value.Rows
public import proofs.«01_k».proof.Proof.Ideal.Words

@[expose] public section

set_option maxRecDepth 16384

noncomputable section

namespace Cert.KernelIdeal.Proof

open Cert.KernelIdeal Cert.KernelIdeal.Gen
open Idealize.ShloMosaic Idealize.ShloMosaic.TcCoe Idealize.ShloMosaic.StableHlo Idealize.SL.Sem

/-- The three weights side by side. -/
def wideWeight (w1 : FVec Ideal S1536x768 .f32) (wc : FVec Ideal S768x512 .f32) : FVec Ideal S768x2048 .bf16 :=
  truncf .bf16 (concatenate S768x2048 1 [⟨S768x768, extractStridedSlice S768x768 ![0, 0] w1 slices_S1536x768_S768x768_0_0⟩,
    ⟨S768x768, extractStridedSlice S768x768 ![768, 0] w1 slices_S1536x768_S768x768_768_0⟩, ⟨S768x512, wc⟩] concatenates_S768x768_S768x768_S768x512_S768x2048_d1) bitsLt_bf16_f32

/-- Their biases: only the ancestors' has one. -/
def wideBias (b1 : Vec Ideal S768 .f32) : Vec Ideal S1x2048 .f32 :=
  shapeCast S1x2048 (concatenate S2048 0 [⟨S768, broadcastInDim S768 ![] bcast_S_S768 (constant (F := Ideal) S_ .f32 0x00000000#32)⟩, ⟨S768, b1⟩,
    ⟨S512, broadcastInDim S512 ![] bcast_S_S512 (constant (F := Ideal) S_ .f32 0x00000000#32)⟩] concatenates_S768_S768_S512_S2048_d0) shapeCasts_S2048_S1x2048

/-- Row numbers, counted from the end where negative. -/
def wrapped (x : Vec Ideal S10000x8 .i32) : IVec S80000x1 32 :=
  broadcastInDim S80000x1 ![0] bcast_S80000_S80000x1_0
    (select (cmpi .slt (shapeCast S80000 x shapeCasts_S10000x8_S80000 : IVec S80000 32) (broadcastInDim S80000 ![] bcast_S_S80000 (constantI S_ 32 0#32)))
      (addi (shapeCast S80000 x shapeCasts_S10000x8_S80000 : IVec S80000 32) (broadcastInDim S80000 ![] bcast_S_S80000 (constantI S_ 32 40000#32)))
      (shapeCast S80000 x shapeCasts_S10000x8_S80000))

/-- The rows of a table at such row numbers. -/
def rowsAt (T : Vec Ideal S40000x768 .bf16) (x : Vec Ideal S10000x8 .i32) : Vec Ideal S80000x768 .bf16 :=
  Host.gather gather_S40000x768_S80000x1_S80000x768_1_0_n_n_0_1_1768 T (wrapped x)

/-- The slots' weights: the mask, zero where the slot is empty. -/
def slotShare (cm : FVec Ideal S16x32x48 .f32) (ids : Vec Ideal S16x32x48 .i32) : FVec Ideal S512x48 .f32 :=
  mulf (shapeCast S512x48 cm shapeCasts_S16x32x48_S512x48)
    (uitofp .f32 (cmpi .ne (shapeCast S512x48 ids shapeCasts_S16x32x48_S512x48 : IVec S512x48 32) (broadcastInDim S512x48 ![] bcast_S_S512x48 (constantI S_ 32 0#32))))

/-- The slots' codes. -/
def slotCode (ids : Vec Ideal S16x32x48 .i32) : Vec Ideal S512x48 .i32 :=
  maxsi (subi (shapeCast S512x48 ids shapeCasts_S16x32x48_S512x48) (broadcastInDim S512x48 ![] bcast_S_S512x48 (constantI S_ 32 1#32)))
    (broadcastInDim S512x48 ![] bcast_S_S512x48 (constantI S_ 32 0#32))

/-- The ancestors' words, a row of them per block. -/
def ancWords (x : Vec Ideal S10000x8 .i32) : Vec Ideal S50x1x1600 .i32 :=
  shapeCast S50x1x1600 (shapeCast S80000 x shapeCasts_S10000x8_S80000) shapeCasts_S80000_S50x1x1600

variable (m : (ℓ : Loc nD τ sig) → Buf (Elt Ideal) ℓ) (c : Dev nD)

theorem weight_at : mem1 m c (Proc.devRef .tc main_v3) = wideWeight (m ((c : Thread nD τ).loc main_arg1)) (m ((c : Thread nD τ).loc main_arg5)) := by
  unfold mem1
  after_results
  rfl

theorem bias_at : mem1 m c (Proc.devRef .tc main_v7) = wideBias (m ((c : Thread nD τ).loc main_arg2)) := by
  unfold mem1
  after_results
  rfl

theorem table_at : mem1 m c (Proc.devRef .tc main_arg0) = m ((c : Thread nD τ).loc main_arg0) := mem1_of m c main_arg0 (args0 main_arg0 (by decide))

/-- The three tables over the arguments. -/
theorem leafTable_at : mem2 m c (Proc.devRef .tc main_v8_0) = leafTable (m ((c : Thread nD τ).loc main_arg0))
    (wideWeight (m ((c : Thread nD τ).loc main_arg1)) (m ((c : Thread nD τ).loc main_arg5))) (wideBias (m ((c : Thread nD τ).loc main_arg2))) := by
  refine (mem2_arr m c 3).trans ((arr0_3 c (atRefs (mem1 m))).trans ?_)
  exact congr (congr (congrArg leafTable (table_at m c)) (weight_at m c)) (bias_at m c)

theorem ancTable_at : mem2 m c (Proc.devRef .tc main_v8_1) = ancTable (m ((c : Thread nD τ).loc main_arg0))
    (wideWeight (m ((c : Thread nD τ).loc main_arg1)) (m ((c : Thread nD τ).loc main_arg5))) (wideBias (m ((c : Thread nD τ).loc main_arg2))) := by
  refine (mem2_arr m c 4).trans ((arr0_4 c (atRefs (mem1 m))).trans ?_)
  exact congr (congr (congrArg ancTable (table_at m c)) (weight_at m c)) (bias_at m c)

theorem classTable_at : mem2 m c (Proc.devRef .tc main_v8_2) = classTable (m ((c : Thread nD τ).loc main_arg0))
    (wideWeight (m ((c : Thread nD τ).loc main_arg1)) (m ((c : Thread nD τ).loc main_arg5))) (wideBias (m ((c : Thread nD τ).loc main_arg2))) := by
  refine (mem2_arr m c 5).trans ((arr0_5 c (atRefs (mem1 m))).trans ?_)
  exact congr (congr (congrArg classTable (table_at m c)) (weight_at m c)) (bias_at m c)

theorem leafRows_at : mem3 m c (Proc.devRef .tc main_v16) = rowsAt (mem2 m c (Proc.devRef .tc main_v8_0)) (m ((c : Thread nD τ).loc main_arg9)) := by
  refine Eq.trans ?_ (congrArg (fun x : Vec Ideal S10000x8 .i32 => rowsAt (mem2 m c (Proc.devRef .tc main_v8_0)) x) (mem2_arg m c main_arg9 (by decide)))
  unfold mem3
  generalize mem2 m c = W
  after_results
  rfl

theorem ancRows_at : mem3 m c (Proc.devRef .tc main_v28) = rowsAt (mem2 m c (Proc.devRef .tc main_v8_1)) (m ((c : Thread nD τ).loc main_arg10)) := by
  refine Eq.trans ?_ (congrArg (fun x : Vec Ideal S10000x8 .i32 => rowsAt (mem2 m c (Proc.devRef .tc main_v8_1)) x) (mem2_arg m c main_arg10 (by decide)))
  unfold mem3
  generalize mem2 m c = W
  after_results
  rfl

theorem masks_at : mem3 m c (Proc.devRef .tc main_v19) = (shapeCast S80000x1 (m ((c : Thread nD τ).loc main_arg7)) shapeCasts_S10000x8_S80000x1 : Vec Ideal S80000x1 .f32) := by
  refine Eq.trans ?_ (congrArg (fun x : Vec Ideal S10000x8 .f32 => (shapeCast S80000x1 x shapeCasts_S10000x8_S80000x1 : Vec Ideal S80000x1 .f32)) (mem2_arg m c main_arg7 (by decide)))
  unfold mem3
  generalize mem2 m c = W
  after_results
  rfl

theorem column_at : mem3 m c (Proc.devRef .tc main_v21) = (truncf .bf16 (broadcastInDim S768x8 ![0, 1] bcast_S768x1_S768x8_0_1 (m ((c : Thread nD τ).loc main_arg3) : Vec Ideal S768x1 .f32)) bitsLt_bf16_f32 : FVec Ideal S768x8 .bf16) := by
  refine Eq.trans ?_ (congrArg (fun x : Vec Ideal S768x1 .f32 => (truncf .bf16 (broadcastInDim S768x8 ![0, 1] bcast_S768x1_S768x8_0_1 x) bitsLt_bf16_f32 : FVec Ideal S768x8 .bf16)) (mem2_arg m c main_arg3 (by decide)))
  unfold mem3
  generalize mem2 m c = W
  after_results

theorem shares_at : mem5 m c (Proc.devRef .tc main_v39) = slotShare (m ((c : Thread nD τ).loc main_arg8)) (m ((c : Thread nD τ).loc main_arg11)) := by
  refine Eq.trans ?_ (congrArg₂ slotShare (mem4_arg m c main_arg8 (by decide)) (mem4_arg m c main_arg11 (by decide)))
  unfold mem5
  generalize mem4 m c = W
  after_results
  rfl

theorem counts_at : mem5 m c (Proc.devRef .tc main_v35) = (shapeCast S512x48 (m ((c : Thread nD τ).loc main_arg8)) shapeCasts_S16x32x48_S512x48 : Vec Ideal S512x48 .f32) := by
  refine Eq.trans ?_ (congrArg (fun x : Vec Ideal S16x32x48 .f32 => (shapeCast S512x48 x shapeCasts_S16x32x48_S512x48 : Vec Ideal S512x48 .f32)) (mem4_arg m c main_arg8 (by decide)))
  unfold mem5
  generalize mem4 m c = W
  after_results
  rfl

theorem finalBias_at : mem5 m c (Proc.devRef .tc main_v40) = (shapeCast S4x128 (m ((c : Thread nD τ).loc main_arg6)) shapeCasts_S512_S4x128 : Vec Ideal S4x128 .f32) := by
  refine Eq.trans ?_ (congrArg (fun x : Vec Ideal S512 .f32 => (shapeCast S4x128 x shapeCasts_S512_S4x128 : Vec Ideal S4x128 .f32)) (mem4_arg m c main_arg6 (by decide)))
  unfold mem5
  generalize mem4 m c = W
  after_results
  rfl

end Cert.KernelIdeal.Proof

end
-- ==== Proof.Value.Words.lean ====
/-
  Row numbers as words: a negative one counted from the end, a clamped one, and what they are for words in range.
-/
module

public import Idealize.ShloMosaic.Lib.IdealHost
public import Idealize.ShloMosaic.Lib.WordCmp

@[expose] public section

noncomputable section

namespace Cert.Value

open Idealize.ShloMosaic

/-- A row number, counted from the end where negative. -/
def wrap (N v : BitVec 32) : BitVec 32 := Scalar.select (IntOp.cmpi .slt v 0#32) (IntOp.addi v N) v

/-- The row a read at such a number takes, of a table of `N` rows. -/
def rowNo (N : ℕ) (hN : 0 < N) (v : BitVec 32) : Fin N := ⟨min (wrap (BitVec.ofNat 32 N) v).toInt.toNat (N - 1), by omega⟩

theorem toInt_small {v : BitVec 32} (h : v.toNat < 2 ^ 31) : v.toInt = v.toNat := by
  rw [BitVec.toInt_eq_toNat_cond, if_pos (by omega)]

theorem wrap_small (N : BitVec 32) {v : BitVec 32} (h : v.toNat < 2 ^ 31) : wrap N v = v := by
  have e : IntOp.cmpi .slt v 0#32 = 0#1 := by
    rw [WordCmp.cmpi_slt_eq, toInt_small h, show (0#32 : BitVec 32).toInt = 0 from by decide, decide_eq_false (by omega)]
    rfl
  unfold wrap
  rw [e]
  rfl

/-- A word in range is its own row. -/
theorem rowNo_small (N : ℕ) (hN : 0 < N) {v : BitVec 32} (h : v.toNat < 2 ^ 31) : rowNo N hN v = ⟨min v.toNat (N - 1), by omega⟩ := by
  refine Fin.ext ?_
  show min (wrap (BitVec.ofNat 32 N) v).toInt.toNat (N - 1) = _
  rw [wrap_small _ h, toInt_small h, Int.toNat_natCast]

/-- One less, but not below zero. -/
theorem pred_toNat {x : BitVec 32} (h : x.toNat < 2 ^ 31) : (IntOp.maxsi (IntOp.subi x 1#32) 0#32).toNat = x.toNat - 1 := by
  unfold IntOp.maxsi IntOp.subi
  by_cases h0 : x.toNat = 0
  · rw [BitVec.eq_of_toNat_eq (y := 0#32) h0]
    decide
  · have e : (x - 1#32).toNat = x.toNat - 1 := by
      rw [BitVec.toNat_sub]
      simp only [BitVec.toNat_ofNat]
      omega
    split
    · exact e
    · rename_i c
      have a : ¬ (0#32 : BitVec 32).toInt < (x - 1#32).toInt := fun a => c (BitVec.slt_iff_toInt_lt.mpr a)
      rw [show (0#32 : BitVec 32).toInt = 0 from by decide, toInt_small (by omega), e] at a
      simp only [BitVec.toNat_ofNat]
      omega

/-- A bit as a real number: whether a word is not zero. -/
theorem nonzero_real (x : BitVec 32) : FloatOps.uitofp (F := Ideal) .f32 (IntOp.cmpi .ne x 0#32) = ((if x.toNat = 0 then 0 else 1 : ℝ) : EReal) := by
  rw [WordCmp.cmpi_ne_eq_toNat]
  by_cases h : x.toNat = 0
  · rw [if_pos h, decide_eq_false (by simpa using h)]
    show ((((BitVec.ofBool false).toNat : ℕ) : ℝ) : EReal) = _
    simp
  · rw [if_neg h, decide_eq_true (by simpa using h)]
    show ((((BitVec.ofBool true).toNat : ℕ) : ℝ) : EReal) = _
    simp

end Cert.Value

end
-- ==== Proof.Value.Forms.lean ====
/-
  The kernel's arrays as plain sums over the arguments.
-/
module

public import proofs.«01_k».proof.Proof.Value.Inputs
public import proofs.«01_k».proof.Proof.Value.Words

@[expose] public section

set_option maxRecDepth 16384

noncomputable section

namespace Cert.KernelIdeal.Proof

open Cert.KernelIdeal Cert.KernelIdeal.Gen
open Idealize.ShloMosaic Idealize.ShloMosaic.TcCoe Idealize.ShloMosaic.StableHlo Idealize.SL.Sem
open Cert.Value (softmax wrap rowNo nonzero_real)

section
variable (X : Vec Ideal S40000x768 .f32) (w1 : Vec Ideal S1536x768 .f32) (b1 : Vec Ideal S768 .f32) (wc : Vec Ideal S768x512 .f32)

theorem leafTable_apply (r : Fin 40000) (d : Fin 768) : leafTable X (wideWeight w1 wc) (wideBias b1) (ix2 r d)
    = ∑ k : Fin 768, (X (ix2 r k) : EReal) * (w1 (ix2 ⟨k.val, by omega⟩ d) : EReal) := by
  unfold leafTable productAt
  pointwise [wideWeight, wideBias]

theorem ancTable_apply (r : Fin 40000) (d : Fin 768) : ancTable X (wideWeight w1 wc) (wideBias b1) (ix2 r d)
    = (∑ k : Fin 768, (X (ix2 r k) : EReal) * (w1 (ix2 ⟨768 + k.val, by omega⟩ d) : EReal)) + (b1 (ix1 d) : EReal) := by
  unfold ancTable productAt
  pointwise [wideWeight, wideBias]

theorem classTable_apply (r : Fin 40000) (q p : Fin 2) (l : Fin 128) : classTable X (wideWeight w1 wc) (wideBias b1) (ix4 r q p l)
    = ∑ k : Fin 768, (X (ix2 r k) : EReal) * (wc (ix2 k ⟨256 * q.val + 128 * p.val + l.val, by omega⟩) : EReal) := by
  unfold classTable productAt
  pointwise [wideWeight, wideBias]
  have h1 : ¬ 1536 + 256 * q.val + 128 * p.val + l.val < 768 := by omega
  have h2 : ¬ 1536 + 256 * q.val + 128 * p.val + l.val - 768 < 768 := by omega
  have e : 1536 + 256 * q.val + 128 * p.val + l.val - 768 - 768 = 256 * q.val + 128 * p.val + l.val := by omega
  simp only [dif_neg h1, dif_neg h2, add_zero, e]
end

theorem wrapped_apply (x : Vec Ideal S10000x8 .i32) (n : Fin 10000) (a : Fin 8) :
    wrapped x (ix2 ⟨n.val * 8 + a.val, by omega⟩ 0) = wrap 40000#32 (x (ix2 n a)) := by
  pointwise [wrapped]
  rfl

/-- A gathered row is the row of that number. -/
theorem rowsAt_apply (T : Vec Ideal S40000x768 .bf16) (x : Vec Ideal S10000x8 .i32) (n : Fin 10000) (a : Fin 8) (d : Fin 768) :
    rowsAt T x (ix2 ⟨n.val * 8 + a.val, by omega⟩ d) = T (ix2 (rowNo 40000 (by omega) (x (ix2 n a))) d) := by
  refine (Cert.Value.leaf_gather T (wrapped x) _ _).trans ?_
  refine congrArg (fun r => T (ix2 r d)) (Fin.ext ?_)
  show min (wrapped x _).toInt.toNat 39999 = min (wrap 40000#32 (x (ix2 n a))).toInt.toNat (40000 - 1)
  rw [wrapped_apply]

theorem slotShare_apply (cm : FVec Ideal S16x32x48 .f32) (ids : Vec Ideal S16x32x48 .i32) (b : Fin 16) (v : Fin 32) (s : Fin 48) :
    slotShare cm ids (ix2 ⟨b.val * 32 + v.val, by omega⟩ s) = (cm (ix3 b v s) : EReal) * ((if (ids (ix3 b v s) : BitVec 32).toNat = 0 then 0 else 1 : ℝ) : EReal) := by
  rw [← nonzero_real]
  pointwise [slotShare]

theorem slotCode_apply (ids : Vec Ideal S16x32x48 .i32) (b : Fin 16) (v : Fin 32) (s : Fin 48) :
    slotCode ids (ix2 ⟨b.val * 32 + v.val, by omega⟩ s) = IntOp.maxsi (IntOp.subi (ids (ix3 b v s)) 1#32) 0#32 := by
  pointwise [slotCode]

theorem ancWords_apply (x : Vec Ideal S10000x8 .i32) (n : Fin 10000) (a : Fin 8) :
    ancWords x (ix3 ⟨n.val / 200, by omega⟩ 0 ⟨8 * (n.val % 200) + a.val, by omega⟩) = x (ix2 n a) := by
  pointwise [ancWords]

section
variable (x0 : Vec Ideal S40000x768 .f32) (x1 : Vec Ideal S1536x768 .f32) (x2 : Vec Ideal S768 .f32) (x3 : Vec Ideal S768x1 .f32) (x5 : Vec Ideal S768x512 .f32) (x6 : Vec Ideal S512 .f32)
    (x7 : Vec Ideal S10000x8 .f32) (x8 : Vec Ideal S16x32x48 .f32) (x9 x10 : Vec Ideal S10000x8 .i32) (x11 : Vec Ideal S16x32x48 .i32)

/-- The hidden layer's product with the second weight, over the leaf's row and the ancestor's, without the second bias. -/
def scoreOf (n : Fin 10000) (a : Fin 8) : EReal :=
  ∑ d : Fin 768, max ((∑ k : Fin 768, (x0 (ix2 (rowNo 40000 (by omega) (x9 (ix2 n a))) k) : EReal) * (x1 (ix2 ⟨k.val, by omega⟩ d) : EReal))
    + ((∑ k : Fin 768, (x0 (ix2 (rowNo 40000 (by omega) (x10 (ix2 n a))) k) : EReal) * (x1 (ix2 ⟨768 + k.val, by omega⟩ d) : EReal)) + (x2 (ix1 d) : EReal))) 0 * (x3 (ix2 d 0) : EReal)

/-- The kernel's codes over the arguments. -/
def codes : Vec Ideal S10000x4x128 .f32 :=
  codeTable (ancWords x10) (rowsAt (leafTable x0 (wideWeight x1 x5) (wideBias x2)) x9) (rowsAt (ancTable x0 (wideWeight x1 x5) (wideBias x2)) x10)
    (shapeCast S80000x1 x7 shapeCasts_S10000x8_S80000x1) (truncf (F := Ideal) (φ := .f32) .bf16 (broadcastInDim S768x8 ![0, 1] bcast_S768x1_S768x8_0_1 x3) bitsLt_bf16_f32)
    (classTable x0 (wideWeight x1 x5) (wideBias x2))

theorem rowLogit_apply (n : Fin 10000) (a : Fin 8) :
    rowLogit (rowsAt (leafTable x0 (wideWeight x1 x5) (wideBias x2)) x9) (rowsAt (ancTable x0 (wideWeight x1 x5) (wideBias x2)) x10)
        (shapeCast S80000x1 x7 shapeCasts_S10000x8_S80000x1) (truncf (F := Ideal) (φ := .f32) .bf16 (broadcastInDim S768x8 ![0, 1] bcast_S768x1_S768x8_0_1 x3) bitsLt_bf16_f32) n a
      = scoreOf x0 x1 x2 x3 x9 x10 n a + (1 - (x7 (ix2 n a) : EReal)) * ⊥ := by
  unfold rowLogit scoreOf
  simp only [rowsAt_apply, leafTable_apply, ancTable_apply]
  pointwise

theorem codes_apply (hx : ∀ i, (x10 i : BitVec 32).toNat < 40000) (n : Fin 10000) (p : Fin 4) (l : Fin 128) : codes x0 x1 x2 x3 x5 x7 x9 x10 (ix3 n p l)
    = ∑ a : Fin 8, (∑ k : Fin 768, (x0 (ix2 (rowNo 40000 (by omega) (x10 (ix2 n a))) k) : EReal) * (x5 (ix2 k ⟨128 * p.val + l.val, by omega⟩) : EReal))
        * softmax (fun a => scoreOf x0 x1 x2 x3 x9 x10 n a + (1 - (x7 (ix2 n a) : EReal)) * ⊥) a := by
  unfold codes codeTable
  show codeAt _ _ _ _ _ _ n p l = _
  unfold codeAt
  have e (a : Fin 8) : rowOf 40000 (by omega) (x10 (ix2 n a)) = rowNo 40000 (by omega) (x10 (ix2 n a)) :=
    (Cert.Value.rowNo_small 40000 (by omega) (by have := hx (ix2 n a); omega)).symm
  have d : 256 * (p.val / 2) + 128 * (p.val % 2) + l.val = 128 * p.val + l.val := by omega
  refine Finset.sum_congr rfl fun a _ => ?_
  rw [ancWords_apply, e, classTable_apply, show rowLogit _ _ _ _ n = _ from funext (rowLogit_apply x0 x1 x2 x3 x5 x7 x9 x10 n)]
  simp only [d]

/-- The kernel's result over the arguments, before its last reshape. -/
def visitRows : Vec Ideal S512x4x128 .f32 :=
  visitTable (slotCode x11) (slotShare x8 x11) (shapeCast S512x48 x8 shapeCasts_S16x32x48_S512x48) (codes x0 x1 x2 x3 x5 x7 x9 x10) (shapeCast S4x128 x6 shapeCasts_S512_S4x128)

theorem visitRows_apply (hi : ∀ i, (x11 i : BitVec 32).toNat ≤ 10000) (b : Fin 16) (v : Fin 32) (o : Fin 512) :
    (shapeCast S16x32x512 (visitRows x0 x1 x2 x3 x5 x6 x7 x8 x9 x10 x11) shapeCasts_S512x4x128_S16x32x512 : Vec Ideal S16x32x512 .f32) (ix3 b v o)
      = (∑ s : Fin 48, ((x8 (ix3 b v s) : EReal) * ((if (x11 (ix3 b v s) : BitVec 32).toNat = 0 then 0 else 1 : ℝ) : EReal))
          * (codes x0 x1 x2 x3 x5 x7 x9 x10 (ix3 ⟨(x11 (ix3 b v s) : BitVec 32).toNat - 1, by have := hi (ix3 b v s); omega⟩ ⟨o.val / 128, by omega⟩ ⟨o.val % 128, by omega⟩) : EReal))
          * Ideal.div 1 (max (∑ s : Fin 48, (x8 (ix3 b v s) : EReal)) 1) + (x6 (ix1 o) : EReal) := by
  have h : (shapeCast S16x32x512 (visitRows x0 x1 x2 x3 x5 x6 x7 x8 x9 x10 x11) shapeCasts_S512x4x128_S16x32x512 : Vec Ideal S16x32x512 .f32) (ix3 b v o)
      = visitAt (slotCode x11) (slotShare x8 x11) (shapeCast S512x48 x8 shapeCasts_S16x32x48_S512x48) (codes x0 x1 x2 x3 x5 x7 x9 x10) (shapeCast S4x128 x6 shapeCasts_S512_S4x128)
          ⟨b.val * 32 + v.val, by omega⟩ ⟨o.val / 128, by omega⟩ ⟨o.val % 128, by omega⟩ := by
    unfold visitRows
    pointwise
    rfl
  have r (s : Fin 48) : min (slotCode x11 (ix2 ⟨b.val * 32 + v.val, by omega⟩ s) : BitVec 32).toNat 9999 = (x11 (ix3 b v s) : BitVec 32).toNat - 1 := by
    have := hi (ix3 b v s)
    rw [slotCode_apply, Cert.Value.pred_toNat (by omega)]
    omega
  have c (s : Fin 48) : (shapeCast S512x48 x8 shapeCasts_S16x32x48_S512x48 : Vec Ideal S512x48 .f32) (ix2 ⟨b.val * 32 + v.val, by omega⟩ s) = x8 (ix3 b v s) := by
    pointwise
  have f : (shapeCast S4x128 x6 shapeCasts_S512_S4x128 : Vec Ideal S4x128 .f32) (ix2 ⟨o.val / 128, by omega⟩ ⟨o.val % 128, by omega⟩) = x6 (ix1 o) := by
    pointwise
  rw [h]
  unfold visitAt
  simp only [r, c, f, slotShare_apply]
end

end Cert.KernelIdeal.Proof

end
-- ==== Proof.Value.Result.lean ====
/-
  The kernel's result buffer after the run, as one function of the arguments.
-/
module

public import proofs.«01_k».proof.Proof.Value.Forms

@[expose] public section

set_option maxRecDepth 16384

noncomputable section

namespace Cert.KernelIdeal.Proof

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (c : Dev nD)

theorem codes_at : mem4 m c (Proc.devRef .tc main_v29)
    = codes (m ((c : Thread nD τ).loc main_arg0)) (m ((c : Thread nD τ).loc main_arg1)) (m ((c : Thread nD τ).loc main_arg2)) (m ((c : Thread nD τ).loc main_arg3)) (m ((c : Thread nD τ).loc main_arg5))
        (m ((c : Thread nD τ).loc main_arg7)) (m ((c : Thread nD τ).loc main_arg9)) (m ((c : Thread nD τ).loc main_arg10)) := by
  refine (mem4_arr m c 6).trans ((arr1_6 c (atRefs (mem3 m))).trans ?_)
  exact congr (congr (congr (congr (congr (congrArg codeTable (words_at m c)) ((leafRows_at m c).trans (congrArg (fun T => rowsAt T _) (leafTable_at m c))))
    ((ancRows_at m c).trans (congrArg (fun T => rowsAt T _) (ancTable_at m c)))) (masks_at m c)) (column_at m c))
    ((mem3_of m c main_v8_2 (by decide)).trans (classTable_at m c))

theorem visits_at : mem6 m c (Proc.devRef .tc main_v41)
    = visitRows (m ((c : Thread nD τ).loc main_arg0)) (m ((c : Thread nD τ).loc main_arg1)) (m ((c : Thread nD τ).loc main_arg2)) (m ((c : Thread nD τ).loc main_arg3)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10))
        (m ((c : Thread nD τ).loc main_arg11)) := by
  refine (mem6_arr m c 5).trans ((arr2_5 c (atRefs (mem5 m))).trans ?_)
  exact congr (congr (congr (congr (congrArg visitTable (slots_at m c)) (shares_at m c)) (counts_at m c)) ((mem5_of m c main_v29 (by decide)).trans (codes_at m c))) (finalBias_at m c)

/-- The result. -/
theorem result_at : mem7 m c (Proc.devRef .tc main_v42)
    = (shapeCast S16x32x512 (visitRows (m ((c : Thread nD τ).loc main_arg0)) (m ((c : Thread nD τ).loc main_arg1)) (m ((c : Thread nD τ).loc main_arg2)) (m ((c : Thread nD τ).loc main_arg3))
        (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11))) shapeCasts_S512x4x128_S16x32x512 : Vec Ideal S16x32x512 .f32) := by
  refine Eq.trans ?_ (congrArg (fun x : Vec Ideal S512x4x128 .f32 => (shapeCast S16x32x512 x shapeCasts_S512x4x128_S16x32x512 : Vec Ideal S16x32x512 .f32)) (visits_at m c))
  unfold mem7
  generalize mem6 m c = W
  after_results
  rfl

end Cert.KernelIdeal.Proof

end
-- ==== Proof.Value.Reference.lean ====
/-
  The reference's result in stages, each read at an index: rows of the tree, scores, codes, visits.
-/
module

public import proofs.«01_k».proof.Proof.Gen.ReferenceIdeal.Run
public import proofs.«01_k».proof.Proof.Value.Rows
public import proofs.«01_k».proof.Proof.Value.Words
public import proofs.«01_k».proof.Proof.Value.Softmax
public import Idealize.ShloMosaic.Lib.Pointwise
public import Idealize.ShloMosaic.Lib.IdealHost

@[expose] public section

set_option maxRecDepth 16384

noncomputable section

namespace Cert.ReferenceIdeal.Proof

open Cert.ReferenceIdeal Cert.ReferenceIdeal.Gen
open Idealize.ShloMosaic Idealize.ShloMosaic.TcCoe Idealize.ShloMosaic.StableHlo Idealize.SL.Sem
open Cert.Value (softmax wrap rowNo)

/-- The rows of the tree's table, a negative row number counted from the end. -/
def treeRows (x0 : FVec Ideal S40000x768 .f32) (x : IVec S10000x8 32) : FVec Ideal S10000x8x768 .f32 :=
  Host.gather gather_S40000x768_S10000x8x1_S10000x8x768_2_0_n_n_0_2_1768 x0 (broadcastInDim S10000x8x1 ![0, 1] bcast_S10000x8_S10000x8x1_0_1 (select (cmpi .slt x (broadcastInDim S10000x8 ![] bcast_S_S10000x8 (constantI S_ 32 0#32))) (addi x (broadcastInDim S10000x8 ![] bcast_S_S10000x8 (constantI S_ 32 40000#32))) x))

/-- The mask as a column. -/
def maskColumn (x7 : FVec Ideal S10000x8 .f32) : FVec Ideal S10000x8x1 .f32 :=
  broadcastInDim S10000x8x1 ![0, 1] bcast_S10000x8_S10000x8x1_0_1 x7

/-- The scores: minus infinity where the mask is below one, else the two layers over leaf and ancestor side by side. -/
def scores (x0 : FVec Ideal S40000x768 .f32) (x1 : FVec Ideal S1536x768 .f32) (x2 : FVec Ideal S768 .f32) (x3 : FVec Ideal S768x1 .f32) (x4 : FVec Ideal S1 .f32)
    (x7 : FVec Ideal S10000x8 .f32) (x9 x10 : IVec S10000x8 32) : FVec Ideal S10000x8x1 .f32 :=
  select (cmpf .olt (maskColumn x7) (broadcastInDim S10000x8x1 ![] bcast_S_S10000x8x1 (constant S_ .f32 0x3F800000#32))) (broadcastInDim S10000x8x1 ![] bcast_S_S10000x8x1 (id (constant S_ .f32 0xFF800000#32))) (addf (Host.dotGeneral dot_S10000x8x768_S768x1_S10000x8x1_2_0_01_1_n_n none (maximumf (addf (Host.dotGeneral dot_S10000x8x1536_S1536x768_S10000x8x768_2_0_01_1_n_n none (concatenate S10000x8x1536 2 [⟨S10000x8x768, (mulf (treeRows x0 x9) (broadcastInDim S10000x8x768 ![0, 1, 2] bcast_S10000x8x1_S10000x8x768_0_1_2 (maskColumn x7)))⟩, ⟨S10000x8x768, (mulf (treeRows x0 x10) (broadcastInDim S10000x8x768 ![0, 1, 2] bcast_S10000x8x1_S10000x8x768_0_1_2 (maskColumn x7)))⟩] concatenates_S10000x8x768_S10000x8x768_S10000x8x1536_d2) x1) (broadcastInDim S10000x8x768 ![0, 1, 2] bcast_S1x1x768_S10000x8x768_0_1_2 (broadcastInDim S1x1x768 ![2] bcast_S768_S1x1x768_2 x2))) (broadcastInDim S10000x8x768 ![] bcast_S_S10000x8x768 (constant S_ .f32 0x00000000#32))) x3) (broadcastInDim S10000x8x1 ![0, 1, 2] bcast_S1x1x1_S10000x8x1_0_1_2 (broadcastInDim S1x1x1 ![2] bcast_S1_S1x1x1_2 x4)))

/-- Their exponentials, less the largest. -/
def powers (s : FVec Ideal S10000x8x1 .f32) : FVec Ideal S10000x8x1 .f32 :=
  Host.exp (subf s (broadcastInDim S10000x8x1 ![0, 1, 2] bcast_S10000x1x1_S10000x8x1_0_1_2 (broadcastInDim S10000x1x1 ![0, 2] bcast_S10000x1_S10000x1x1_0_2 (Host.reduce FloatOps.maximumf s (constant S_ .f32 0xFF800000#32) reducesTo_S10000x8x1_S10000x1_d1 h_S_))))

/-- The codes' rows: the ancestors' rows under the softmax of the scores, and under the mask. -/
def codeRows (s : FVec Ideal S10000x8x1 .f32) (T : FVec Ideal S10000x8x768 .f32) (M : FVec Ideal S10000x8x1 .f32) : FVec Ideal S10000x768 .f32 :=
  Host.reduceAdd (mulf (mulf (broadcastInDim S10000x8x768 ![0, 1, 2] bcast_S10000x8x1_S10000x8x768_0_1_2 (Host.divf (powers s) (broadcastInDim S10000x8x1 ![0, 1, 2] bcast_S10000x1x1_S10000x8x1_0_1_2 (broadcastInDim S10000x1x1 ![0, 2] bcast_S10000x1_S10000x1x1_0_2 (Host.reduceAdd (powers s) (constant S_ .f32 0x00000000#32) reducesTo_S10000x8x1_S10000x1_d1 h_S_))))) T) (broadcastInDim S10000x8x768 ![0, 1, 2] bcast_S10000x8x1_S10000x8x768_0_1_2 M)) (constant S_ .f32 0x00000000#32) reducesTo_S10000x8x768_S10000x768_d1 h_S_

/-- The codes' rows after the row of zeros. -/
def dictionary (D : FVec Ideal S10000x768 .f32) : FVec Ideal S10001x768 .f32 :=
  concatenate S10001x768 0 [⟨S1x768, (broadcastInDim S1x768 ![] bcast_S_S1x768 (constant S_ .f32 0x00000000#32))⟩, ⟨S10000x768, D⟩] concatenates_S1x768_S10000x768_S10001x768_d0

/-- The slots' row numbers. -/
def slotRows (x11 : IVec S16x32x48 32) : IVec S16x32x48x1 32 :=
  broadcastInDim S16x32x48x1 ![0, 1, 2] bcast_S16x32x48_S16x32x48x1_0_1_2 (select (cmpi .slt x11 (broadcastInDim S16x32x48 ![] bcast_S_S16x32x48 (constantI S_ 32 0#32))) (addi x11 (broadcastInDim S16x32x48 ![] bcast_S_S16x32x48 (constantI S_ 32 10001#32))) x11)

/-- The visits: the mean of their slots' rows, and the classifier. -/
def visits (Q : FVec Ideal S10001x768 .f32) (x5 : FVec Ideal S768x512 .f32) (x6 : FVec Ideal S512 .f32) (x8 : FVec Ideal S16x32x48 .f32) (x11 : IVec S16x32x48 32) : FVec Ideal S16x32x512 .f32 :=
  addf (Host.dotGeneral dot_S16x32x768_S768x512_S16x32x512_2_0_01_1_n_n none (Host.divf (Host.reduceAdd (mulf (Host.gather gather_S10001x768_S16x32x48x1_S16x32x48x768_3_0_n_n_0_3_1768 Q (slotRows x11)) (broadcastInDim S16x32x48x768 ![0, 1, 2, 3] bcast_S16x32x48x1_S16x32x48x768_0_1_2_3 (broadcastInDim S16x32x48x1 ![0, 1, 2] bcast_S16x32x48_S16x32x48x1_0_1_2 x8))) (constant S_ .f32 0x00000000#32) reducesTo_S16x32x48x768_S16x32x768_d2 h_S_) (broadcastInDim S16x32x768 ![0, 1, 2] bcast_S16x32x1_S16x32x768_0_1_2 (maximumf (Host.reduceAdd (broadcastInDim S16x32x48x1 ![0, 1, 2] bcast_S16x32x48_S16x32x48x1_0_1_2 x8) (constant S_ .f32 0x00000000#32) reducesTo_S16x32x48x1_S16x32x1_d2 h_S_) (broadcastInDim S16x32x1 ![] bcast_S_S16x32x1 (constant S_ .f32 0x3F800000#32))))) x5) (broadcastInDim S16x32x512 ![0, 1, 2] bcast_S1x1x512_S16x32x512_0_1_2 (broadcastInDim S1x1x512 ![2] bcast_S512_S1x1x512_2 x6))

/-- The run's term is these stages. -/
theorem result_eq (m : (ℓ : Loc nD τ sig) → Buf (Elt Ideal) ℓ) (c : Dev nD) : Cert.ReferenceIdeal.Value.res_main_v68 m c
    = visits (dictionary (codeRows (scores (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg7)) (m ((c.tc : Thread nD τ).loc main_arg9))
        (m ((c.tc : Thread nD τ).loc main_arg10))) (treeRows (m ((c.tc : Thread nD τ).loc main_arg0)) (m ((c.tc : Thread nD τ).loc main_arg10))) (maskColumn (m ((c.tc : Thread nD τ).loc main_arg7)))))
      (m ((c.tc : Thread nD τ).loc main_arg5)) (m ((c.tc : Thread nD τ).loc main_arg6)) (m ((c.tc : Thread nD τ).loc main_arg8)) (m ((c.tc : Thread nD τ).loc main_arg11)) := by
  unfold Cert.ReferenceIdeal.Value.res_main_v68 visits dictionary codeRows powers scores slotRows treeRows maskColumn
  rfl

theorem treeRows_apply (x0 : FVec Ideal S40000x768 .f32) (x : IVec S10000x8 32) (n : Fin 10000) (a : Fin 8) (k : Fin 768) :
    treeRows x0 x (ix3 n a k) = x0 (ix2 (rowNo 40000 (by omega) (x (ix2 n a))) k) := by
  unfold treeRows
  refine (Cert.Value.tree_gather _ _ _ _ _).trans ?_
  pointwise
  rfl

/-- The two layers' product, as the reference brackets it. -/
def joined (x0 : FVec Ideal S40000x768 .f32) (x1 : FVec Ideal S1536x768 .f32) (x2 : FVec Ideal S768 .f32) (x3 : FVec Ideal S768x1 .f32)
    (x7 : FVec Ideal S10000x8 .f32) (x9 x10 : IVec S10000x8 32) (n : Fin 10000) (a : Fin 8) : EReal :=
  ∑ d : Fin 768, max ((∑ k : Fin 768, (x0 (ix2 (rowNo 40000 (by omega) (x9 (ix2 n a))) k) : EReal) * (x7 (ix2 n a) : EReal) * (x1 (ix2 ⟨k.val, by omega⟩ d) : EReal))
    + (∑ k : Fin 768, (x0 (ix2 (rowNo 40000 (by omega) (x10 (ix2 n a))) k) : EReal) * (x7 (ix2 n a) : EReal) * (x1 (ix2 ⟨768 + k.val, by omega⟩ d) : EReal)) + (x2 (ix1 d) : EReal)) 0
      * (x3 (ix2 d 0) : EReal)

theorem scores_apply (x0 : FVec Ideal S40000x768 .f32) (x1 : FVec Ideal S1536x768 .f32) (x2 : FVec Ideal S768 .f32) (x3 : FVec Ideal S768x1 .f32) (x4 : FVec Ideal S1 .f32)
    (x7 : FVec Ideal S10000x8 .f32) (x9 x10 : IVec S10000x8 32) (n : Fin 10000) (a : Fin 8) :
    scores x0 x1 x2 x3 x4 x7 x9 x10 (ix3 n a 0) = if (x7 (ix2 n a) : EReal) < 1 then ⊥ else joined x0 x1 x2 x3 x7 x9 x10 n a + (x4 (ix1 0) : EReal) := by
  unfold joined
  simp only [← treeRows_apply]
  unfold scores maskColumn
  generalize treeRows x0 x9 = L
  generalize treeRows x0 x10 = A
  pointwise
  rw [show id (constant (F := Ideal) S_ FTy.f32 0xFF800000#32) ix0 = (⊥ : EReal) from by simp [constant, FloatOps.ofBits, Ideal.ofBits, Ideal.ieee]]

theorem codeRows_apply (s : FVec Ideal S10000x8x1 .f32) (T : FVec Ideal S10000x8x768 .f32) (M : FVec Ideal S10000x8x1 .f32) (n : Fin 10000) (h : Fin 768) :
    codeRows s T M (ix2 n h) = ∑ a : Fin 8, softmax (fun a => s (ix3 n a 0)) a * (T (ix3 n a h) : EReal) * (M (ix3 n a 0) : EReal) := by
  pointwise [codeRows, powers]
  rw [show Ideal.ofBits .f32 0xFF800000#32 = ⊥ from by simp [Ideal.ofBits, Ideal.ieee]]
  rfl

theorem dictionary_apply (D : FVec Ideal S10000x768 .f32) (r : Fin 10001) (h : Fin 768) :
    dictionary D (ix2 r h) = if e : r.val < 1 then (0 : EReal) else D (ix2 ⟨r.val - 1, by omega⟩ h) := by
  pointwise [dictionary]

theorem slotRows_apply (x11 : IVec S16x32x48 32) (b : Fin 16) (v : Fin 32) (s : Fin 48) : slotRows x11 (ix4 b v s 0) = wrap 10001#32 (x11 (ix3 b v s)) := by
  pointwise [slotRows]
  rfl

theorem visits_apply (Q : FVec Ideal S10001x768 .f32) (x5 : FVec Ideal S768x512 .f32) (x6 : FVec Ideal S512 .f32) (x8 : FVec Ideal S16x32x48 .f32) (x11 : IVec S16x32x48 32)
    (hi : ∀ i, (x11 i).toNat ≤ 10000) (b : Fin 16) (v : Fin 32) (o : Fin 512) :
    visits Q x5 x6 x8 x11 (ix3 b v o)
      = (∑ h : Fin 768, Ideal.div (∑ s : Fin 48, (Q (ix2 ⟨(x11 (ix3 b v s)).toNat, by have := hi (ix3 b v s); omega⟩ h) : EReal) * (x8 (ix3 b v s) : EReal))
            (max (∑ s : Fin 48, (x8 (ix3 b v s) : EReal)) 1) * (x5 (ix2 h o) : EReal)) + (x6 (ix1 o) : EReal) := by
  have g (s : Fin 48) (h : Fin 768) : Host.gather gather_S10001x768_S16x32x48x1_S16x32x48x768_3_0_n_n_0_3_1768 Q (slotRows x11) (ix4 b v s h)
      = Q (ix2 ⟨(x11 (ix3 b v s)).toNat, by have := hi (ix3 b v s); omega⟩ h) := by
    have := hi (ix3 b v s)
    refine (Cert.Value.code_gather Q (slotRows x11) b v s h).trans (congrArg (fun r => Q (ix2 r h)) (Fin.ext ?_))
    show min (slotRows x11 _).toInt.toNat 10000 = _
    rw [slotRows_apply, Cert.Value.wrap_small _ (by omega), Cert.Value.toInt_small (by omega), Int.toNat_natCast]
    exact min_eq_left (hi _)
  simp only [← g]
  pointwise [visits]

end Cert.ReferenceIdeal.Proof

end
-- ==== Proof.Value.Algebra.lean ====
/-
  The two arithmetics are one: the logits differ by the second layer's bias, which the softmax does not see; the classifier
  may be applied to the ancestors' rows before the weighted sums or after.
-/
module

public import proofs.«01_k».proof.Proof.Value.Softmax

@[expose] public section

noncomputable section

namespace Cert.Value

open Idealize.ShloMosaic

/-- A logit of the reference is the kernel's and the bias. -/
theorem logits_agree {q q' M : EReal} (b : ℝ) (hM : M ≤ 1) (hq : M = 1 → q' = q) :
    (if M < 1 then ⊥ else q' + (b : EReal)) = (q + (1 - M) * ⊥) + (b : EReal) := by
  by_cases h : M < 1
  · rw [if_pos h]
    have p : 0 < 1 - M := by
      induction M using EReal.rec with
      | bot => exact lt_of_lt_of_eq EReal.zero_lt_top (by rw [← EReal.coe_one]; rfl)
      | top => exact absurd h (not_lt.mpr le_top)
      | coe r =>
        have : r < 1 := by exact_mod_cast h
        rw [← EReal.coe_one, ← EReal.coe_sub]
        exact_mod_cast sub_pos.mpr this
    rw [EReal.mul_bot_of_pos p, EReal.add_bot, EReal.bot_add]
  · have e : M = 1 := le_antisymm hM (not_lt.mp h)
    rw [if_neg h, hq e, e]
    have : (1 : EReal) - 1 = 0 := by rw [← EReal.coe_one, ← EReal.coe_sub, sub_self, EReal.coe_zero]
    rw [this, zero_mul, add_zero]

/-- The kernel's logit is a real number or minus infinity, the first where the mask is one. -/
theorem logit_finite {M : EReal} (r : ℝ) (hM : M ≤ 1) : Finite ((r : EReal) + (1 - M) * ⊥) ∧ (M = 1 → (r : EReal) + (1 - M) * ⊥ ≠ ⊥) ∧ (M ≠ 1 → (r : EReal) + (1 - M) * ⊥ = ⊥) := by
  have e1 : (1 : EReal) - 1 = 0 := by rw [← EReal.coe_one, ← EReal.coe_sub, sub_self, EReal.coe_zero]
  by_cases e : M = 1
  · rw [e, e1, zero_mul, add_zero]
    exact ⟨Or.inr ⟨r, rfl⟩, fun _ => EReal.coe_ne_bot r, fun h => absurd rfl h⟩
  · have h : M < 1 := lt_of_le_of_ne hM e
    have p : (r : EReal) + (1 - M) * ⊥ = ⊥ := by
      have a := logits_agree (q := (r : EReal)) (q' := (r : EReal)) 0 hM (fun _ => rfl)
      rw [if_pos h, EReal.coe_zero, add_zero] at a
      exact a.symm
    exact ⟨Or.inl p, fun h => absurd h e, fun _ => p⟩

/-- The two orders of the classifier and the weighted sums, in real numbers. -/
theorem orders_real (t : Fin 48 → Fin 8 → Fin 768 → ℝ) (p : Fin 48 → Fin 8 → ℝ) (c z : Fin 48 → ℝ) (w : Fin 768 → ℝ) (D : ℝ) :
    ∑ h, ((∑ s, (z s * ∑ a, p s a * t s a h) * c s) / D) * w h = (∑ s, (c s * z s) * ∑ a, (∑ h, t s a h * w h) * p s a) * (1 / D) := by
  simp only [Finset.sum_mul, Finset.mul_sum, Finset.sum_div]
  rw [Finset.sum_comm]
  refine Finset.sum_congr rfl fun s _ => ?_
  rw [Finset.sum_comm]
  refine Finset.sum_congr rfl fun a _ => Finset.sum_congr rfl fun h _ => ?_
  ring

/-- The same over the extended reals, at real numbers. -/
theorem orders_agree (t : Fin 48 → Fin 8 → Fin 768 → ℝ) (p : Fin 48 → Fin 8 → ℝ) (c z : Fin 48 → ℝ) (w : Fin 768 → ℝ) (D : ℝ) (hD : D ≠ 0)
    (q : Fin 48 → Fin 768 → EReal) (hq : ∀ s h, q s h = ((z s * ∑ a, p s a * t s a h : ℝ) : EReal)) :
    ∑ h, Ideal.div (∑ s, q s h * (c s : EReal)) (D : EReal) * (w h : EReal)
      = (∑ s, ((c s : EReal) * (z s : EReal)) * ∑ a, (∑ h, (t s a h : EReal) * (w h : EReal)) * (p s a : EReal)) * Ideal.div 1 (D : EReal) := by
  simp only [hq]
  simp only [← EReal.coe_mul, ← coe_sum, ← EReal.coe_one, div_real hD]
  rw [orders_real]

/-- The count, at least one. -/
theorem count_real (c : Fin 48 → ℝ) : max (∑ s, (c s : EReal)) 1 = ((max (∑ s, c s) 1 : ℝ) : EReal) := by
  rw [← coe_sum, ← EReal.coe_one, EReal.coe_strictMono.monotone.map_max]

end Cert.Value

end
-- ==== Proof.Value.Meet.lean ====
/-
  The kernel's sums and the reference's are one value, for arguments the second precondition holds of.
-/
module

public import proofs.«01_k».proof.Proof.Value.Forms
public import proofs.«01_k».proof.Proof.Value.Reference
public import proofs.«01_k».proof.Proof.Value.Algebra
public import proofs.«01_k».proof.Proof.Domain
public import proofs.«01_k».proof.Proof.Gen.Pre_proper

@[expose] public section

set_option maxRecDepth 16384

noncomputable section

namespace Cert.Value

open Idealize.ShloMosaic
open Cert.ReferenceIdeal Cert.ReferenceIdeal.Gen
open Cert.KernelIdeal.Proof (scoreOf codes codes_apply visitRows visitRows_apply)
open Cert.ReferenceIdeal.Proof

variable (x0 : FVec Ideal S40000x768 .f32) (x1 : FVec Ideal S1536x768 .f32) (x2 : FVec Ideal S768 .f32) (x3 : FVec Ideal S768x1 .f32) (x4 : FVec Ideal S1 .f32)
  (x5 : FVec Ideal S768x512 .f32) (x6 : FVec Ideal S512 .f32) (x7 : FVec Ideal S10000x8 .f32) (x8 : FVec Ideal S16x32x48 .f32) (x9 x10 : IVec S10000x8 32) (x11 : IVec S16x32x48 32)
  (h : Cert.Domain.Proper x0 x1 x2 x3 x4 x5 x7 x8 x10 x11)

include h

/-- The kernel's product of the two layers is a real number. -/
theorem hidden_real (n : Fin 10000) (a : Fin 8) : ∃ r : ℝ, scoreOf x0 x1 x2 x3 x9 x10 n a = r := by
  choose t ht using h.table
  choose w hw using h.w1
  choose b hb using h.b1
  choose u hu using h.w2
  refine ⟨∑ d : Fin 768, max ((∑ k : Fin 768, t (ix2 (rowNo 40000 (by omega) (x9 (ix2 n a))) k) * w (ix2 ⟨k.val, by omega⟩ d))
    + ((∑ k : Fin 768, t (ix2 (rowNo 40000 (by omega) (x10 (ix2 n a))) k) * w (ix2 ⟨768 + k.val, by omega⟩ d)) + b (ix1 d))) 0 * u (ix2 d 0), ?_⟩
  unfold scoreOf
  simp only [ht, hw, hb, hu, coe_sum, EReal.coe_mul, EReal.coe_strictMono.monotone.map_max, EReal.coe_add, EReal.coe_zero]

/-- Where the mask is one the reference's product is the kernel's. -/
theorem joined_eq (n : Fin 10000) (a : Fin 8) (e : (x7 (ix2 n a) : EReal) = 1) : joined x0 x1 x2 x3 x7 x9 x10 n a = scoreOf x0 x1 x2 x3 x9 x10 n a := by
  unfold joined scoreOf
  simp only [e, mul_one, add_assoc]

theorem mask_top (n : Fin 10000) : top (fun a => (x7 (ix2 n a) : EReal)) = 1 := by
  refine Eq.trans ?_ (h.mask_top (ix1 n))
  pointwise
  rw [show Ideal.ofBits .f32 0xFF800000#32 = ⊥ from by simp [Ideal.ofBits, Ideal.ieee]]
  rfl

/-- No mask is above one, -/
theorem mask_le (n : Fin 10000) (a : Fin 8) : (x7 (ix2 n a) : EReal) ≤ 1 :=
  le_of_le_of_eq (Finset.le_sup (f := fun a => (x7 (ix2 n a) : EReal)) (Finset.mem_univ a)) (mask_top x0 x1 x2 x3 x4 x5 x7 x8 x10 x11 h n)

/-- and one ancestor is unmasked. -/
theorem mask_one (n : Fin 10000) : ∃ a, (x7 (ix2 n a) : EReal) = 1 := by
  obtain ⟨a, -, e⟩ := Finset.exists_mem_eq_sup Finset.univ Finset.univ_nonempty fun a => (x7 (ix2 n a) : EReal)
  exact ⟨a, e.symm.trans (mask_top x0 x1 x2 x3 x4 x5 x7 x8 x10 x11 h n)⟩

/-- The kernel's logits. -/
def logit (n : Fin 10000) (a : Fin 8) : EReal := scoreOf x0 x1 x2 x3 x9 x10 n a + (1 - (x7 (ix2 n a) : EReal)) * ⊥

theorem scores_eq (n : Fin 10000) : (fun a : Fin 8 => (scores x0 x1 x2 x3 x4 x7 x9 x10 (ix3 n a 0) : EReal)) = fun a => logit x0 x1 x2 x3 x7 x9 x10 n a + (x4 (ix1 0) : EReal) := by
  obtain ⟨b, hb⟩ := h.b2 (ix1 0)
  funext a
  refine (scores_apply x0 x1 x2 x3 x4 x7 x9 x10 n a).trans ?_
  unfold logit
  rw [hb]
  exact logits_agree b (mask_le x0 x1 x2 x3 x4 x5 x7 x8 x10 x11 h n a) fun e => joined_eq x0 x1 x2 x3 x4 x5 x7 x8 x9 x10 x11 h n a e

theorem logit_facts (n : Fin 10000) (a : Fin 8) : Finite (logit x0 x1 x2 x3 x7 x9 x10 n a) ∧ ((x7 (ix2 n a) : EReal) = 1 → logit x0 x1 x2 x3 x7 x9 x10 n a ≠ ⊥)
    ∧ ((x7 (ix2 n a) : EReal) ≠ 1 → logit x0 x1 x2 x3 x7 x9 x10 n a = ⊥) := by
  obtain ⟨r, hr⟩ := hidden_real x0 x1 x2 x3 x4 x5 x7 x8 x9 x10 x11 h n a
  unfold logit
  rw [hr]
  exact logit_finite r (mask_le x0 x1 x2 x3 x4 x5 x7 x8 x10 x11 h n a)

/-- Both softmaxes are one, -/
theorem softmax_scores (n : Fin 10000) : softmax (fun a : Fin 8 => (scores x0 x1 x2 x3 x4 x7 x9 x10 (ix3 n a 0) : EReal)) = softmax (logit x0 x1 x2 x3 x7 x9 x10 n) := by
  obtain ⟨b, hb⟩ := h.b2 (ix1 0)
  obtain ⟨z, hz⟩ := mask_one x0 x1 x2 x3 x4 x5 x7 x8 x10 x11 h n
  rw [scores_eq x0 x1 x2 x3 x4 x5 x7 x8 x9 x10 x11 h n, hb]
  exact softmax_shift (fun a => (logit_facts x0 x1 x2 x3 x4 x5 x7 x8 x9 x10 x11 h n a).1)
    ((logit_facts x0 x1 x2 x3 x4 x5 x7 x8 x9 x10 x11 h n z).2.1 hz) b

/-- with weights that are real numbers, and zero where the mask is not one. -/
theorem weights_real (n : Fin 10000) : ∃ p : Fin 8 → ℝ, ∀ a, softmax (logit x0 x1 x2 x3 x7 x9 x10 n) a = p a ∧ ((x7 (ix2 n a) : EReal) ≠ 1 → p a = 0) := by
  obtain ⟨z, hz⟩ := mask_one x0 x1 x2 x3 x4 x5 x7 x8 x10 x11 h n
  obtain ⟨p, hp⟩ := softmax_real (fun a => (logit_facts x0 x1 x2 x3 x4 x5 x7 x8 x9 x10 x11 h n a).1)
    ((logit_facts x0 x1 x2 x3 x4 x5 x7 x8 x9 x10 x11 h n z).2.1 hz)
  exact ⟨p, fun a => ⟨(hp a).1, fun e => (hp a).2 ((logit_facts x0 x1 x2 x3 x4 x5 x7 x8 x9 x10 x11 h n a).2.2 e)⟩⟩

/-- One result of the kernel is the reference's. -/
theorem results_eq (b : Fin 16) (v : Fin 32) (o : Fin 512) :
    (shapeCast KernelIdeal.S16x32x512 (visitRows x0 x1 x2 x3 x5 x6 x7 x8 x9 x10 x11) KernelIdeal.Gen.shapeCasts_S512x4x128_S16x32x512 : Vec Ideal KernelIdeal.S16x32x512 .f32) (ix3 b v o)
      = visits (dictionary (codeRows (scores x0 x1 x2 x3 x4 x7 x9 x10) (treeRows x0 x10) (maskColumn x7))) x5 x6 x8 x11 (ix3 b v o) := by
  choose t ht using h.table
  choose w hw using h.wc
  choose c hc using h.code
  choose p hp using weights_real x0 x1 x2 x3 x4 x5 x7 x8 x9 x10 x11 h
  have id s := h.ids (ix3 b v s)
  let N (s : Fin 48) : Fin 10000 := ⟨(x11 (ix3 b v s)).toNat - 1, by have := id s; omega⟩
  let T (s : Fin 48) (a : Fin 8) (k : Fin 768) : ℝ := t (ix2 (rowNo 40000 (by omega) (x10 (ix2 (N s) a))) k)
  let z (s : Fin 48) : ℝ := if (x11 (ix3 b v s)).toNat = 0 then 0 else 1
  have dag (n : Fin 10000) (k : Fin 768) : codeRows (scores x0 x1 x2 x3 x4 x7 x9 x10) (treeRows x0 x10) (maskColumn x7) (ix2 n k)
      = ((∑ a : Fin 8, p n a * t (ix2 (rowNo 40000 (by omega) (x10 (ix2 n a))) k) : ℝ) : EReal) := by
    refine (codeRows_apply _ _ _ n k).trans ?_
    rw [softmax_scores x0 x1 x2 x3 x4 x5 x7 x8 x9 x10 x11 h n, coe_sum]
    refine Finset.sum_congr rfl fun a _ => ?_
    rw [treeRows_apply, (hp n a).1, ht, show (maskColumn x7 (ix3 n a 0) : EReal) = x7 (ix2 n a) from by pointwise [maskColumn]]
    by_cases e : (x7 (ix2 n a) : EReal) = 1
    · rw [e, mul_one, EReal.coe_mul]
    · rw [(hp n a).2 e, EReal.coe_zero, zero_mul, zero_mul, zero_mul, EReal.coe_zero]
  have q (s : Fin 48) (k : Fin 768) : dictionary (codeRows (scores x0 x1 x2 x3 x4 x7 x9 x10) (treeRows x0 x10) (maskColumn x7)) (ix2 ⟨(x11 (ix3 b v s)).toNat, by have := id s; omega⟩ k)
      = ((z s * ∑ a, p (N s) a * T s a k : ℝ) : EReal) := by
    rw [dictionary_apply]
    by_cases e : (x11 (ix3 b v s)).toNat = 0
    · rw [dif_pos (by dsimp only; omega), show z s = 0 from if_pos e, zero_mul, EReal.coe_zero]
    · rw [dif_neg (by dsimp only; omega), show z s = 1 from if_neg e, one_mul]
      exact dag (N s) k
  have kc (s : Fin 48) : (codes x0 x1 x2 x3 x5 x7 x9 x10 (ix3 (N s) ⟨o.val / 128, by omega⟩ ⟨o.val % 128, by omega⟩) : EReal)
      = ∑ a : Fin 8, (∑ k : Fin 768, (T s a k : EReal) * (w (ix2 k o) : EReal)) * (p (N s) a : EReal) := by
    refine (codes_apply x0 x1 x2 x3 x5 x7 x9 x10 h.anc (N s) _ _).trans (Finset.sum_congr rfl fun a _ => ?_)
    have oe : (⟨128 * (o.val / 128) + o.val % 128, by omega⟩ : Fin 512) = o := Fin.ext (by dsimp only; omega)
    refine congrArg₂ (· * ·) (Finset.sum_congr rfl fun k _ => ?_) (hp (N s) a).1
    rw [ht]
    exact congrArg (fun j => (t (ix2 (rowNo 40000 (by omega) (x10 (ix2 (N s) a))) k) : EReal) * j) ((congrArg (fun j => x5 (ix2 k j)) oe).trans (hw _))
  refine (visitRows_apply x0 x1 x2 x3 x5 x6 x7 x8 x9 x10 x11 h.ids b v o).trans (Eq.trans ?_ (visits_apply _ x5 x6 x8 x11 h.ids b v o).symm)
  refine congrArg (· + (x6 (ix1 o) : EReal)) ?_
  simp only [hc, count_real, hw]
  refine Eq.trans ?_ (orders_agree T (fun s => p (N s)) (fun s => c (ix3 b v s)) z (fun k => w (ix2 k o)) _ (ne_of_gt (lt_of_lt_of_le one_pos (le_max_right _ _))) _ q).symm
  refine congrArg (· * _) (Finset.sum_congr rfl fun s _ => ?_)
  rw [← kc]

end Cert.Value

end
-- ==== Proof.Value.lean ====
/-
  The value claim: the kernel over the extended reals and the reference end with the same result.
-/
module

public import proofs.«01_k».proof.Proof.Frames
public import proofs.«01_k».proof.Proof.Value.Result
public import proofs.«01_k».proof.Proof.Value.Meet

@[expose] public section

noncomputable section

namespace Cert.Proof

open Idealize.ShloMosaic Idealize.SL.Sem Cert.Domain

/-- The two results are one array. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_proper m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v68 m' c = Cert.KernelIdeal.Proof.mem7 m c (Proc.devRef .tc Cert.KernelIdeal.main_v42) := by
  refine Eq.trans ?_ (Cert.KernelIdeal.Proof.result_at m c).symm
  refine (Cert.ReferenceIdeal.Proof.result_eq m' c).trans ?_
  rw [e0, e1, e2, e3, e4, e5, e6, e7, e8, e9, e10, e11]
  funext i
  obtain ⟨b, v, o, rfl⟩ : ∃ (b : Fin 16) (v : Fin 32) (o : Fin 512), i = ix3 b v o := ⟨i 0, i 1, i 2, by funext k; match k with | ⟨0, _⟩ => rfl | ⟨1, _⟩ => rfl | ⟨2, _⟩ => rfl⟩
  exact (Cert.Value.results_eq _ _ _ _ _ _ _ _ _ _ _ _ (proper_facts _ _ _ _ _ _ _ _ _ _ _ _ (h c)) b v o).symm

theorem value : Cert.algebraic_KernelIdeal_ReferenceIdeal_pre_proper := by
  intro m g m' g' h e
  refine ⟨fun c => Cert.KernelIdeal.Proof.mem7 m c (Proc.devRef .tc Cert.KernelIdeal.main_v42), ?_, ?_⟩
  · refine (θ_run Cert.KernelIdeal.defs _ _).mono (fun r k c => ⟨k.1 c _ (Cert.KernelIdeal.Proof.mem_uc _ (by decide)), ?_⟩) (Cert.KernelIdeal.Proof.run_mem m g (proper_fit m h))
    have keep (a : Ref Cert.KernelIdeal.sig .tc) (ha : a ∈ Cert.KernelIdeal.Proof.argRefs) (hu : ¬ (Proc.devRef .tc a : DevRef Cert.KernelIdeal.τ Cert.KernelIdeal.sig).isScoped) :
        r.2.mem ((c.tc : Thread Cert.KernelIdeal.nD Cert.KernelIdeal.τ).loc a) = m ((c.tc : Thread Cert.KernelIdeal.nD Cert.KernelIdeal.τ).loc a) :=
      (k.1 c _ (Cert.KernelIdeal.Proof.mem_uc a hu)).trans (Cert.KernelIdeal.Proof.mem7_arg m c a ha)
    exact ⟨keep _ (by decide) (by decide), keep _ (by decide) (by decide), keep _ (by decide) (by decide), keep _ (by decide) (by decide), keep _ (by decide) (by decide), keep _ (by decide) (by decide),
      keep _ (by decide) (by decide), keep _ (by decide) (by decide), keep _ (by decide) (by decide), keep _ (by decide) (by decide), keep _ (by decide) (by decide), keep _ (by decide) (by decide)⟩
  · refine (θ_run Cert.ReferenceIdeal.defs _ _).mono (fun r k c => ⟨(k c).1.trans ?_, (k c).2⟩) (Cert.ReferenceIdeal.Value.run m' g')
    obtain ⟨e0, e1, e2, e3, e4, e5, e6, e7, e8, e9, e10, e11⟩ := e c
    exact arrays_eq m m' h c e0 e1 e2 e3 e4 e5 e6 e7 e8 e9 e10 e11

end Cert.Proof

end
-- ==== Proof.lean ====
/-
  The proof of `Cert.Claim`: the frames and the rules from `Proof/Frames.lean`, the value from `Proof/Value.lean`.
-/
module

public import proofs.«01_k».proof.Proof.Value
public import proofs.«01_k».proof.Proof.Gen.Pre_in_range
public import proofs.«01_k».proof.Proof.Gen.Pre_proper

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_proper.Gen.facts,
  kernel_frame, ideal_frame, ideal_frame_proper, reference_frame, reference_frame_proper, rules_keep, value⟩

end Cert.Proof

end
